-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x384 : Shape := ⟨2, ![4096, 384]⟩
abbrev S1024x384 : Shape := ⟨2, ![1024, 384]⟩
abbrev S8x384 : Shape := ⟨2, ![8, 384]⟩
abbrev S8 : Shape := ⟨1, ![8]⟩
abbrev S8x64x384 : Shape := ⟨3, ![8, 64, 384]⟩
abbrev S8x64 : Shape := ⟨2, ![8, 64]⟩
abbrev S_ : Shape := ⟨0, ![]⟩

class Facts : Prop where
  bcast_S_S4096x384 : S_.BroadcastsInDim S4096x384 (![] : Fin 0 → Fin S4096x384.rank)
  bcast_S_S1024x384 : S_.BroadcastsInDim S1024x384 (![] : Fin 0 → Fin S1024x384.rank)
  bcast_S_S8x384 : S_.BroadcastsInDim S8x384 (![] : Fin 0 → Fin S8x384.rank)
  bcast_S_S8 : S_.BroadcastsInDim S8 (![] : Fin 0 → Fin S8.rank)
  bcast_S_S8x64x384 : S_.BroadcastsInDim S8x64x384 (![] : Fin 0 → Fin S8x64x384.rank)
  bcast_S_S8x64 : S_.BroadcastsInDim S8x64 (![] : Fin 0 → Fin S8x64.rank)

variable [Facts]

def fn_part1 {F : FTy → Type} [FloatOps F] (main_arg6 : FVec F S8x64x384 .f32) (main_arg7 : FVec F S8x64 .f32) (main_v2 : IVec S4096x384 1) (main_v5 : IVec S1024x384 1) (main_v8 : IVec S8x384 1) (main_v11 : IVec S8 1) (main_v14 : IVec S8x64x384 1) (main_v17 : IVec S8x64 1) : IVec S4096x384 1 × IVec S1024x384 1 × IVec S8x384 1 × IVec S8 1 × IVec S8x64x384 1 × IVec S8x64 1 × IVec S8x64x384 1 × IVec S8x64 1 :=
  let main_v18 : FVec F S8x64x384 .f32 := Host.absf main_arg6
  let main_cst_5 : FVec F S_ .f32 := constant S_ .f32 0x7F800000#32
  let main_v19 : FVec F S8x64x384 .f32 := broadcastInDim S8x64x384 ![] bcast_S_S8x64x384 main_cst_5
  let main_v20 : IVec S8x64x384 1 := cmpf .olt main_v18 main_v19
  let main_v21 : FVec F S8x64 .f32 := Host.absf main_arg7
  let main_cst_6 : FVec F S_ .f32 := constant S_ .f32 0x7F800000#32
  let main_v22 : FVec F S8x64 .f32 := broadcastInDim S8x64 ![] bcast_S_S8x64 main_cst_6
  let main_v23 : IVec S8x64 1 := cmpf .olt main_v21 main_v22
  (main_v2, main_v5, main_v8, main_v11, main_v14, main_v17, main_v20, main_v23)

def fn {F : FTy → Type} [FloatOps F] (main_arg0 : FVec F S4096x384 .f32) (main_arg1 : FVec F S1024x384 .f32) (main_arg2 : FVec F S8x384 .f32) (main_arg3 : FVec F S8 .f32) (main_arg4 : FVec F S8x64x384 .f32) (main_arg5 : FVec F S8x64 .f32) (main_arg6 : FVec F S8x64x384 .f32) (main_arg7 : FVec F S8x64 .f32) : IVec S4096x384 1 × IVec S1024x384 1 × IVec S8x384 1 × IVec S8 1 × IVec S8x64x384 1 × IVec S8x64 1 × IVec S8x64x384 1 × IVec S8x64 1 :=
  let main_v0 : FVec F S4096x384 .f32 := Host.absf main_arg0
  let main_cst : FVec F S_ .f32 := constant S_ .f32 0x7F800000#32
  let main_v1 : FVec F S4096x384 .f32 := broadcastInDim S4096x384 ![] bcast_S_S4096x384 main_cst
  let main_v2 : IVec S4096x384 1 := cmpf .olt main_v0 main_v1
  let main_v3 : FVec F S1024x384 .f32 := Host.absf main_arg1
  let main_cst_0 : FVec F S_ .f32 := constant S_ .f32 0x7F800000#32
  let main_v4 : FVec F S1024x384 .f32 := broadcastInDim S1024x384 ![] bcast_S_S1024x384 main_cst_0
  let main_v5 : IVec S1024x384 1 := cmpf .olt main_v3 main_v4
  let main_v6 : FVec F S8x384 .f32 := Host.absf main_arg2
  let main_cst_1 : FVec F S_ .f32 := constant S_ .f32 0x7F800000#32
  let main_v7 : FVec F S8x384 .f32 := broadcastInDim S8x384 ![] bcast_S_S8x384 main_cst_1
  let main_v8 : IVec S8x384 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S8x64x384 .f32 := Host.absf main_arg4
  let main_cst_3 : FVec F S_ .f32 := constant S_ .f32 0x7F800000#32
  let main_v13 : FVec F S8x64x384 .f32 := broadcastInDim S8x64x384 ![] bcast_S_S8x64x384 main_cst_3
  let main_v14 : IVec S8x64x384 1 := cmpf .olt main_v12 main_v13
  let main_v15 : FVec F S8x64 .f32 := Host.absf main_arg5
  let main_cst_4 : FVec F S_ .f32 := constant S_ .f32 0x7F800000#32
  let main_v16 : FVec F S8x64 .f32 := broadcastInDim S8x64 ![] bcast_S_S8x64 main_cst_4
  let main_v17 : IVec S8x64 1 := cmpf .olt main_v15 main_v16
  fn_part1 (F := F) main_arg6 main_arg7 main_v2 main_v5 main_v8 main_v11 main_v14 main_v17
-- ==== Kernel.lean ====
abbrev S4096x384 : Shape := ⟨2, ![4096, 384]⟩
abbrev S1024x384 : Shape := ⟨2, ![1024, 384]⟩
abbrev S8x384 : Shape := ⟨2, ![8, 384]⟩
abbrev S8 : Shape := ⟨1, ![8]⟩
abbrev S8x64x384 : Shape := ⟨3, ![8, 64, 384]⟩
abbrev S8x64 : Shape := ⟨2, ![8, 64]⟩
abbrev S4096x1 : Shape := ⟨2, ![4096, 1]⟩
abbrev S512x384 : Shape := ⟨2, ![512, 384]⟩
abbrev S512x1 : Shape := ⟨2, ![512, 1]⟩
abbrev S1x512 : Shape := ⟨2, ![1, 512]⟩
abbrev S1x8 : Shape := ⟨2, ![1, 8]⟩
abbrev S1x1 : Shape := ⟨2, ![1, 1]⟩
abbrev S1024x1 : Shape := ⟨2, ![1024, 1]⟩
abbrev S512x1024 : Shape := ⟨2, ![512, 1024]⟩
abbrev S512x8 : Shape := ⟨2, ![512, 8]⟩
abbrev S8x1024 : Shape := ⟨2, ![8, 1024]⟩
abbrev S512x512 : Shape := ⟨2, ![512, 512]⟩
abbrev S1024x8 : Shape := ⟨2, ![1024, 8]⟩
abbrev S8x8 : Shape := ⟨2, ![8, 8]⟩
abbrev S128x128 : Shape := ⟨2, ![128, 128]⟩
abbrev S512x128 : Shape := ⟨2, ![512, 128]⟩
abbrev S512 : Shape := ⟨1, ![512]⟩
abbrev S1 : Shape := ⟨1, ![1]⟩

abbrev nBuf : Space → Nat
  | .hbm => 17
  | .vmem => 22
  | .smem => 0
  | _ => 0

abbrev bufTy : (tb : Table) → Fin (tcTables nBuf tb) → BufTy
  | .hbm, ⟨0, _⟩ => ⟨S4096x384, .f32⟩
  | .hbm, ⟨1, _⟩ => ⟨S1024x384, .f32⟩
  | .hbm, ⟨2, _⟩ => ⟨S8x384, .f32⟩
  | .hbm, ⟨3, _⟩ => ⟨S8, .f32⟩
  | .hbm, ⟨4, _⟩ => ⟨S8x64x384, .f32⟩
  | .hbm, ⟨5, _⟩ => ⟨S8x64, .f32⟩
  | .hbm, ⟨6, _⟩ => ⟨S8x64x384, .f32⟩
  | .hbm, ⟨7, _⟩ => ⟨S8x64, .f32⟩
  | .hbm, ⟨8, _⟩ => ⟨S4096x1, .f32⟩
  | .hbm, ⟨9, _⟩ => ⟨S512x384, .f32⟩
  | .hbm, ⟨10, _⟩ => ⟨S512x1, .f32⟩
  | .hbm, ⟨11, _⟩ => ⟨S512x384, .f32⟩
  | .hbm, ⟨12, _⟩ => ⟨S1x512, .f32⟩
  | .hbm, ⟨13, _⟩ => ⟨S1x8, .f32⟩
  | .hbm, ⟨14, _⟩ => ⟨S4096x1, .i32⟩
  | .hbm, ⟨15, _⟩ => ⟨S4096x1, .f32⟩
  | .hbm, ⟨16, _⟩ => ⟨S1x1, .f32⟩
  | .local _ .vmem, ⟨0, _⟩ => ⟨S1024x384, .f32⟩
  | .local _ .vmem, ⟨1, _⟩ => ⟨S512x384, .f32⟩
  | .local _ .vmem, ⟨2, _⟩ => ⟨S512x1, .f32⟩
  | .local _ .vmem, ⟨3, _⟩ => ⟨S1024x384, .f32⟩
  | .local _ .vmem, ⟨4, _⟩ => ⟨S1024x384, .f32⟩
  | .local _ .vmem, ⟨5, _⟩ => ⟨S8x384, .f32⟩
  | .local _ .vmem, ⟨6, _⟩ => ⟨S1x8, .f32⟩
  | .local _ .vmem, ⟨7, _⟩ => ⟨S512x384, .f32⟩
  | .local _ .vmem, ⟨8, _⟩ => ⟨S1x512, .f32⟩
  | .local _ .vmem, ⟨9, _⟩ => ⟨S1024x1, .f32⟩
  | .local _ .vmem, ⟨10, _⟩ => ⟨S1024x1, .f32⟩
  | .local _ .vmem, ⟨11, _⟩ => ⟨S1024x1, .i32⟩
  | .local _ .vmem, ⟨12, _⟩ => ⟨S1024x1, .i32⟩
  | .local _ .vmem, ⟨13, _⟩ => ⟨S1024x1, .f32⟩
  | .local _ .vmem, ⟨14, _⟩ => ⟨S1024x1, .f32⟩
  | .local _ .vmem, ⟨15, _⟩ => ⟨S1x1, .f32⟩
  | .local _ .vmem, ⟨16, _⟩ => ⟨S512x1024, .bf16⟩
  | .local _ .vmem, ⟨17, _⟩ => ⟨S512x1024, .bf16⟩
  | .local _ .vmem, ⟨18, _⟩ => ⟨S512x384, .bf16⟩
  | .local _ .vmem, ⟨19, _⟩ => ⟨S512x384, .bf16⟩
  | .local _ .vmem, ⟨20, _⟩ => ⟨S1x8, .f32⟩
  | .local _ .vmem, ⟨21, _⟩ => ⟨S1x8, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_212 : BitVec 32 := 3#32
  let v678 : BitVec 1 := Scalar.cmpi .eq arg0 c3_i32_212
  let v679 : BitVec 32 := Scalar.extui v678
  let c0_i32_213 : BitVec 32 := 0#32
  let v680 : BitVec 1 := Scalar.cmpi .ne v679 c0_i32_213
  v680

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x384 : Shape := ⟨2, ![4096, 384]⟩
abbrev S1024x384 : Shape := ⟨2, ![1024, 384]⟩
abbrev S8x384 : Shape := ⟨2, ![8, 384]⟩
abbrev S8 : Shape := ⟨1, ![8]⟩
abbrev S8x64x384 : Shape := ⟨3, ![8, 64, 384]⟩
abbrev S8x64 : Shape := ⟨2, ![8, 64]⟩
abbrev S4096x1 : Shape := ⟨2, ![4096, 1]⟩
abbrev S384x8 : Shape := ⟨2, ![384, 8]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x2 : Shape := ⟨2, ![4096, 2]⟩
abbrev S4096x2x1 : Shape := ⟨3, ![4096, 2, 1]⟩
abbrev S1x1x8 : Shape := ⟨3, ![1, 1, 8]⟩
abbrev S4096x2x8 : Shape := ⟨3, ![4096, 2, 8]⟩
abbrev S4096x8x64 : Shape := ⟨3, ![4096, 8, 64]⟩
abbrev S1x8x64 : Shape := ⟨3, ![1, 8, 64]⟩
abbrev S4096x8x1 : Shape := ⟨3, ![4096, 8, 1]⟩
abbrev S8x64x1024 : Shape := ⟨3, ![8, 64, 1024]⟩
abbrev S8x1024x64 : Shape := ⟨3, ![8, 1024, 64]⟩
abbrev S8x1x64 : Shape := ⟨3, ![8, 1, 64]⟩
abbrev S8x1024 : Shape := ⟨2, ![8, 1024]⟩
abbrev S8x1024x1 : Shape := ⟨3, ![8, 1024, 1]⟩
abbrev S8x1024x4096 : Shape := ⟨3, ![8, 1024, 4096]⟩
abbrev S4096x8x1024 : Shape := ⟨3, ![4096, 8, 1024]⟩
abbrev S1 : Shape := ⟨1, ![1]⟩
abbrev S1x1x1 : Shape := ⟨3, ![1, 1, 1]⟩
abbrev S4096x2x1024 : Shape := ⟨3, ![4096, 2, 1024]⟩
abbrev S4096x1024 : Shape := ⟨2, ![4096, 1024]⟩
abbrev S1x1 : Shape := ⟨2, ![1, 1]⟩

abbrev nBuf : Space → Nat
  | .hbm => 179
  | .vmem => 0
  | .smem => 0
  | _ => 0

abbrev hbmTy0_0 (i : Nat) : BufTy := match i % 128 with
  | 0 => ⟨S4096x384, .f32⟩
  | 1 => ⟨S1024x384, .f32⟩
  | 2 => ⟨S8x384, .f32⟩
  | 3 => ⟨S8, .f32⟩
  | 4 => ⟨S8x64x384, .f32⟩
  | 5 => ⟨S8x64, .f32⟩
  | 6 => ⟨S8x64x384, .f32⟩
  | 7 => ⟨S8x64, .f32⟩
  | 8 => ⟨S4096x1, .f32⟩
  | 9 => ⟨S384x8, .f32⟩
  | 10 => ⟨S4096x8, .f32⟩
  | 11 => ⟨S1x8, .f32⟩
  | 12 => ⟨S4096x8, .f32⟩
  | 13 => ⟨S4096x8, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x8, .f32⟩
  | 21 => ⟨S4096x8, .f32⟩
  | 22 => ⟨S4096x8, .f32⟩
  | 23 => ⟨S_, .f32⟩
  | 24 => ⟨S4096, .f32⟩
  | 25 => ⟨S4096x1, .f32⟩
  | 26 => ⟨S4096x8, .f32⟩
  | 27 => ⟨S4096x8, .f32⟩
  | 28 => ⟨S4096x2, .f32⟩
  | 29 => ⟨S4096x2, .i32⟩
  | 30 => ⟨S4096x2x1, .i32⟩
  | 31 => ⟨S1x1x8, .i32⟩
  | 32 => ⟨S4096x2x8, .i32⟩
  | 33 => ⟨S4096x2x8, .i32⟩
  | 34 => ⟨S4096x2x8, .i1⟩
  | 35 => ⟨S4096x2x8, .f32⟩
  | 36 => ⟨S_, .f32⟩
  | 37 => ⟨S4096x8, .f32⟩
  | 38 => ⟨S_, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S_, .f32⟩
  | 46 => ⟨S8, .f32⟩
  | 47 => ⟨S8, .f32⟩
  | 48 => ⟨S8, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S4096x8x64, .f32⟩
  | 56 => ⟨S1x8x64, .f32⟩
  | 57 => ⟨S4096x8x64, .f32⟩
  | 58 => ⟨S4096x8x64, .f32⟩
  | 59 => ⟨S4096x8x64, .f32⟩
  | 60 => ⟨S_, .f32⟩
  | 61 => ⟨S4096x8, .f32⟩
  | 62 => ⟨S4096x8x1, .f32⟩
  | 63 => ⟨S4096x8x1, .f32⟩
  | 64 => ⟨S_, .f32⟩
  | 65 => ⟨S4096x8x1, .f32⟩
  | 66 => ⟨S4096x8x1, .f32⟩
  | 67 => ⟨S4096x8x64, .f32⟩
  | 68 => ⟨S4096x8x64, .f32⟩
  | 69 => ⟨S8x64x1024, .f32⟩
  | 70 => ⟨S8x1024x64, .f32⟩
  | 71 => ⟨S8x1x64, .f32⟩
  | 72 => ⟨S8x1024x64, .f32⟩
  | 73 => ⟨S8x1024x64, .f32⟩
  | 74 => ⟨S8x1024x64, .f32⟩
  | 75 => ⟨S_, .f32⟩
  | 76 => ⟨S8x1024, .f32⟩
  | 77 => ⟨S8x1024x1, .f32⟩
  | 78 => ⟨S8x1024x1, .f32⟩
  | 79 => ⟨S_, .f32⟩
  | 80 => ⟨S8x1024x1, .f32⟩
  | 81 => ⟨S8x1024x1, .f32⟩
  | 82 => ⟨S8x1024x64, .f32⟩
  | 83 => ⟨S8x1024x64, .f32⟩
  | 84 => ⟨S8x1024x4096, .f32⟩
  | 85 => ⟨S4096x8x1024, .f32⟩
  | 86 => ⟨S_, .f32⟩
  | 87 => ⟨S4096x8x1024, .f32⟩
  | 88 => ⟨S4096x8x1024, .f32⟩
  | 89 => ⟨S_, .f32⟩
  | 90 => ⟨S4096x8, .f32⟩
  | 91 => ⟨S_, .f32⟩
  | 92 => ⟨S4096x8, .f32⟩
  | 93 => ⟨S4096x8, .f32⟩
  | 94 => ⟨S4096x8x1, .f32⟩
  | 95 => ⟨S4096x8x1024, .f32⟩
  | 96 => ⟨S4096x8x1024, .f32⟩
  | 97 => ⟨S4096x8x1024, .f32⟩
  | 98 => ⟨S_, .f32⟩
  | 99 => ⟨S4096x8, .f32⟩
  | 100 => ⟨S4096x8x1, .f32⟩
  | 101 => ⟨S4096x8x1024, .f32⟩
  | 102 => ⟨S4096x8x1024, .f32⟩
  | 103 => ⟨S4096x2x1, .i32⟩
  | 104 => ⟨S_, .i32⟩
  | 105 => ⟨S4096x2x1, .i32⟩
  | 106 => ⟨S4096x2x1, .i1⟩
  | 107 => ⟨S_, .i32⟩
  | 108 => ⟨S4096x2x1, .i32⟩
  | 109 => ⟨S4096x2x1, .i32⟩
  | 110 => ⟨S4096x2x1, .i32⟩
  | 111 => ⟨S1, .i32⟩
  | 112 => ⟨S_, .i32⟩
  | 113 => ⟨S4096x2x1, .i32⟩
  | 114 => ⟨S4096x2x1, .i1⟩
  | 115 => ⟨S1x1x1, .i32⟩
  | 116 => ⟨S4096x2x1, .i32⟩
  | 117 => ⟨S4096x2x1, .i1⟩
  | 118 => ⟨S4096x2x1, .i1⟩
  | 119 => ⟨S_, .i1⟩
  | 120 => ⟨S4096x2, .i1⟩
  | 121 => ⟨S4096x2x1024, .f32⟩
  | 122 => ⟨S4096x2x1024, .i1⟩
  | 123 => ⟨S_, .f32⟩
  | 124 => ⟨S4096x2x1024, .f32⟩
  | 125 => ⟨S4096x2x1024, .f32⟩
  | 126 => ⟨S_, .f32⟩
  | 127 => ⟨S4096, .f32⟩
  | _ => ⟨S4096x384, .f32⟩

abbrev hbmTy0_1 (i : Nat) : BufTy := match i % 128 with
  | 0 => ⟨S_, .f32⟩
  | 1 => ⟨S4096, .f32⟩
  | 2 => ⟨S4096, .f32⟩
  | 3 => ⟨S4096x1, .f32⟩
  | 4 => ⟨S4096x2, .f32⟩
  | 5 => ⟨S4096x2, .f32⟩
  | 6 => ⟨S4096x2, .f32⟩
  | 7 => ⟨S_, .f32⟩
  | 8 => ⟨S4096, .f32⟩
  | 9 => ⟨S4096x1, .f32⟩
  | 10 => ⟨S4096x2, .f32⟩
  | 11 => ⟨S4096x2, .f32⟩
  | 12 => ⟨S4096x2x1, .f32⟩
  | 13 => ⟨S4096x2x1024, .f32⟩
  | 14 => ⟨S4096x2x1024, .f32⟩
  | 15 => ⟨S_, .f32⟩
  | 16 => ⟨S4096x1024, .f32⟩
  | 17 => ⟨S_, .f32⟩
  | 18 => ⟨S_, .f32⟩
  | 19 => ⟨S4096x1024, .f32⟩
  | 20 => ⟨S4096x1024, .f32⟩
  | 21 => ⟨S4096x1024, .i1⟩
  | 22 => ⟨S4096x1024, .f32⟩
  | 23 => ⟨S4096x1024, .i32⟩
  | 24 => ⟨S_, .f32⟩
  | 25 => ⟨S_, .i32⟩
  | 26 => ⟨S4096, .f32⟩
  | 27 => ⟨S4096, .i32⟩
  | 28 => ⟨S4096, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x1, .i32⟩
  | 45 => ⟨S4096x2, .i32⟩
  | 46 => ⟨S4096, .f32⟩
  | 47 => ⟨S4096, .f32⟩
  | 48 => ⟨S4096x1, .f32⟩
  | 49 => ⟨S4096x1, .i32⟩
  | 50 => ⟨S1x1, .f32⟩
  | _ => ⟨S4096x384, .f32⟩

abbrev hbmTy (i : Nat) : BufTy := match i / 128 with
  | 0 => hbmTy0_0 i
  | 1 => hbmTy0_1 i
  | _ => ⟨S4096x384, .f32⟩

abbrev bufTy : (tb : Table) → Fin (tcTables nBuf tb) → BufTy
  | .hbm, ⟨i, _⟩ => hbmTy i
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_values : Ref sig .tc := ⟨.hbm, 28, rfl⟩
abbrev main_indices : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_cst_9 : Ref sig .tc := ⟨.hbm, 51, rfl⟩
abbrev main_v26 : Ref sig .tc := ⟨.hbm, 52, rfl⟩
abbrev main_cst_10 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_11 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_12 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_cst_17 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call1_c : Ref sig .tc := ⟨.hbm, 104, rfl⟩
abbrev main_call1_v0 : Ref sig .tc := ⟨.hbm, 105, rfl⟩
abbrev main_call1_v1 : Ref sig .tc := ⟨.hbm, 106, rfl⟩
abbrev main_call1_c_0 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_c_1 : Ref sig .tc := ⟨.hbm, 111, rfl⟩
abbrev main_call1_c_2 : Ref sig .tc := ⟨.hbm, 112, rfl⟩
abbrev main_call1_v5 : Ref sig .tc := ⟨.hbm, 113, rfl⟩
abbrev main_call1_v6 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_call1_c_3 : Ref sig .tc := ⟨.hbm, 119, rfl⟩
abbrev main_call1_v11 : Ref sig .tc := ⟨.hbm, 120, rfl⟩
abbrev main_call1_v12 : Ref sig .tc := ⟨.hbm, 121, rfl⟩
abbrev main_call1_v13 : Ref sig .tc := ⟨.hbm, 122, rfl⟩
abbrev main_call1_cst : Ref sig .tc := ⟨.hbm, 123, rfl⟩
abbrev main_call1_v14 : Ref sig .tc := ⟨.hbm, 124, rfl⟩
abbrev main_v69 : Ref sig .tc := ⟨.hbm, 125, rfl⟩
abbrev main_cst_19 : Ref sig .tc := ⟨.hbm, 126, rfl⟩
abbrev main_v70 : Ref sig .tc := ⟨.hbm, 127, rfl⟩
abbrev main_cst_20 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_21 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_22 : Ref sig .tc := ⟨.hbm, 143, rfl⟩
abbrev main_v84 : Ref sig .tc := ⟨.hbm, 144, rfl⟩
abbrev main_call2_call0_cst : Ref sig .tc := ⟨.hbm, 145, rfl⟩
abbrev main_call2_call0_v0 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_call3_v0 : Ref sig .tc := ⟨.hbm, 151, rfl⟩
abbrev main_call3_cst : Ref sig .tc := ⟨.hbm, 152, rfl⟩
abbrev main_call3_c : Ref sig .tc := ⟨.hbm, 153, rfl⟩
abbrev main_call3_v1_0 : Ref sig .tc := ⟨.hbm, 154, rfl⟩
abbrev main_v89 : Ref sig .tc := ⟨.hbm, 155, rfl⟩
abbrev main_v90 : Ref sig .tc := ⟨.hbm, 156, rfl⟩
abbrev main_c : Ref sig .tc := ⟨.hbm, 157, rfl⟩
abbrev main_v91 : Ref sig .tc := ⟨.hbm, 158, rfl⟩
abbrev main_v92 : Ref sig .tc := ⟨.hbm, 159, rfl⟩
abbrev main_c_23 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_c_24 : Ref sig .tc := ⟨.hbm, 164, rfl⟩
abbrev main_v96 : Ref sig .tc := ⟨.hbm, 165, rfl⟩
abbrev main_v97 : Ref sig .tc := ⟨.hbm, 166, rfl⟩
abbrev main_c_25 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩

abbrev nD : Nat := 1
abbrev τ : Topo := Topo.v7x

variable {F : FTy → Type} [FloatOps F]
-- ==== Proof.RefStages.lean ====
/- The reference program's results as compositions of named stages. -/
module

public import proofs.«01_k».proof.Proof.Gen.ReferenceIdeal
public import Idealize.ShloMosaic.Lib.StableHlo.Run

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- Two columns of words side by side. -/
def fn_pair : (⟨S4096x1, .i32⟩ : BufTy).Contents (Elt F) → (⟨S4096x1, .i32⟩ : BufTy).Contents (Elt F) → (⟨S4096x2, .i32⟩ : BufTy).Contents (Elt F) :=
  (fun a b => concatenate S4096x2 1 [⟨S4096x1, a⟩, ⟨S4096x1, b⟩] concatenates_S4096x1_S4096x1_S4096x2_d1)

/-- The reference: the logits of every row: the row times the gate weights, plus the gate bias. -/
def rLogits (arg0 : FVec F S4096x384 .f32) (arg2 : FVec F S8x384 .f32) (arg3 : FVec F S8 .f32) : FVec F S4096x8 .f32 :=
  let v0 : FVec F S384x8 .f32 := transpose S384x8 [1, 0] arg2 transposes_S8x384_S384x8_1_0
  let v1 : FVec F S4096x8 .f32 := Host.dotGeneral dot_S4096x384_S384x8_S4096x8_1_0_0_1_n_n none arg0 v0
  let v2 : FVec F S1x8 .f32 := broadcastInDim S1x8 ![1] bcast_S8_S1x8_1 arg3
  let v3 : FVec F S4096x8 .f32 := broadcastInDim S4096x8 ![0, 1] bcast_S1x8_S4096x8_0_1 v2
  addf v1 v3

/-- The reference: the softmax of a table of logits over its eight entries a row. -/
def rSoft (v4 : FVec F S4096x8 .f32) : FVec F S4096x8 .f32 :=
  let cst_1 : FVec F S_ .f32 := constant S_ .f32 0xFF800000#32
  let v6 : FVec F S4096 .f32 := broadcastInDim S4096 ![] bcast_S_S4096 cst_1
  let cst_0 : FVec F S_ .f32 := constant S_ .f32 0xFF800000#32
  let v5 : FVec F S4096 .f32 := Host.reduce FloatOps.maximumf v4 cst_0 reducesTo_S4096x8_S4096_d1 h_S_
  let v7 : FVec F S4096 .f32 := maximumf v6 v5
  let v8 : FVec F S4096x1 .f32 := broadcastInDim S4096x1 ![0] bcast_S4096_S4096x1_0 v7
  let v9 : FVec F S4096x8 .f32 := broadcastInDim S4096x8 ![0, 1] bcast_S4096x1_S4096x8_0_1 v8
  let v10 : FVec F S4096x8 .f32 := subf v4 v9
  let v11 : FVec F S4096x8 .f32 := Host.exp v10
  let cst_2 : FVec F S_ .f32 := constant S_ .f32 0x00000000#32
  let v12 : FVec F S4096 .f32 := Host.reduceAdd v11 cst_2 reducesTo_S4096x8_S4096_d1 h_S_
  let v13 : FVec F S4096x1 .f32 := broadcastInDim S4096x1 ![0] bcast_S4096_S4096x1_0 v12
  let v14 : FVec F S4096x8 .f32 := broadcastInDim S4096x8 ![0, 1] bcast_S4096x1_S4096x8_0_1 v13
  Host.divf v11 v14

/-- The reference: the two greatest logits of every row. -/
def rVals (v4 : FVec F S4096x8 .f32) : FVec F S4096x2 .f32 :=
  (Host.topK S4096x2 1 (FloatOps.cmpfTotal .gt) v4 sliceFits_S4096x8_S4096x2).1

/-- The reference: the positions of the two greatest logits of every row. -/
def rIdxs (v4 : FVec F S4096x8 .f32) : IVec S4096x2 32 :=
  (Host.topK S4096x2 1 (FloatOps.cmpfTotal .gt) v4 sliceFits_S4096x8_S4096x2).2

/-- The reference: how often each of the eight positions is chosen in every row. -/
def rHot (indices : IVec S4096x2 32) : FVec F S4096x8 .f32 :=
  let c0_v0 : IVec S4096x2x1 32 := broadcastInDim S4096x2x1 ![0, 1] bcast_S4096x2_S4096x2x1_0_1 indices
  let c0_v2 : IVec S4096x2x8 32 := broadcastInDim S4096x2x8 ![0, 1, 2] bcast_S4096x2x1_S4096x2x8_0_1_2 c0_v0
  let c0_v1 : IVec S1x1x8 32 := iotaInDim S1x1x8 32 2
  let c0_v3 : IVec S4096x2x8 32 := broadcastInDim S4096x2x8 ![0, 1, 2] bcast_S1x1x8_S4096x2x8_0_1_2 c0_v1
  let c0_v4 : IVec S4096x2x8 1 := cmpi .eq c0_v2 c0_v3
  let v16 : FVec F S4096x2x8 .f32 := uitofp .f32 c0_v4
  let cst_3 : FVec F S_ .f32 := constant S_ .f32 0x00000000#32
  Host.reduceAdd v16 cst_3 reducesTo_S4096x2x8_S4096x8_d1 h_S_

/-- The reference: the balance loss of a table of probabilities and a table of choices. -/
def rAux (v15 : FVec F S4096x8 .f32) (v17 : FVec F S4096x8 .f32) : FVec F S1x1 .f32 :=
  let cst_9 : FVec F S_ .f32 := constant S_ .f32 0x41000000#32
  let cst_4 : FVec F S_ .f32 := constant S_ .f32 0x00000000#32
  let v18 : FVec F S8 .f32 := Host.reduceAdd v15 cst_4 reducesTo_S4096x8_S8_d0 h_S_
  let cst_5 : FVec F S_ .f32 := constant S_ .f32 0x45800000#32
  let v19 : FVec F S8 .f32 := broadcastInDim S8 ![] bcast_S_S8 cst_5
  let v20 : FVec F S8 .f32 := Host.divf v18 v19
  let cst_6 : FVec F S_ .f32 := constant S_ .f32 0x00000000#32
  let v21 : FVec F S8 .f32 := Host.reduceAdd v17 cst_6 reducesTo_S4096x8_S8_d0 h_S_
  let cst_7 : FVec F S_ .f32 := constant S_ .f32 0x45800000#32
  let v22 : FVec F S8 .f32 := broadcastInDim S8 ![] bcast_S_S8 cst_7
  let v23 : FVec F S8 .f32 := Host.divf v21 v22
  let v24 : FVec F S8 .f32 := mulf v20 v23
  let cst_8 : FVec F S_ .f32 := constant S_ .f32 0x00000000#32
  let v25 : FVec F S_ .f32 := Host.reduceAdd v24 cst_8 reducesTo_S8_S_d0 h_S_
  let v26 : FVec F S_ .f32 := mulf cst_9 v25
  let cst_10 : FVec F S_ .f32 := constant S_ .f32 0x3D4CCCCD#32
  let v27 : FVec F S_ .f32 := mulf v26 cst_10
  shapeCast S1x1 v27 shapeCasts_S_S1x1

/-- The reference: the eight normalised projections of every row. -/
def rUx (arg0 : FVec F S4096x384 .f32) (arg4 : FVec F S8x64x384 .f32) (arg5 : FVec F S8x64 .f32) : FVec F S4096x8x64 .f32 :=
  let v28 : FVec F S4096x8x64 .f32 := Host.dotGeneral dot_S4096x384_S8x64x384_S4096x8x64_1_2_0_01_n_n none arg0 arg4
  let v29 : FVec F S1x8x64 .f32 := broadcastInDim S1x8x64 ![1, 2] bcast_S8x64_S1x8x64_1_2 arg5
  let v30 : FVec F S4096x8x64 .f32 := broadcastInDim S4096x8x64 ![0, 1, 2] bcast_S1x8x64_S4096x8x64_0_1_2 v29
  let v31 : FVec F S4096x8x64 .f32 := addf v28 v30
  let v32 : FVec F S4096x8x64 .f32 := mulf v31 v31
  let cst_11 : FVec F S_ .f32 := constant S_ .f32 0x00000000#32
  let v33 : FVec F S4096x8 .f32 := Host.reduceAdd v32 cst_11 reducesTo_S4096x8x64_S4096x8_d2 h_S_
  let v34 : FVec F S4096x8x1 .f32 := broadcastInDim S4096x8x1 ![0, 1] bcast_S4096x8_S4096x8x1_0_1 v33
  let v35 : FVec F S4096x8x1 .f32 := Host.sqrt v34
  let cst_12 : FVec F S_ .f32 := constant S_ .f32 0x2B8CBCCC#32
  let v36 : FVec F S4096x8x1 .f32 := broadcastInDim S4096x8x1 ![] bcast_S_S4096x8x1 cst_12
  let v37 : FVec F S4096x8x1 .f32 := maximumf v35 v36
  let v38 : FVec F S4096x8x64 .f32 := broadcastInDim S4096x8x64 ![0, 1, 2] bcast_S4096x8x1_S4096x8x64_0_1_2 v37
  Host.divf v31 v38

/-- The reference: the eight normalised projections of every embedding. -/
def rVe (arg1 : FVec F S1024x384 .f32) (arg6 : FVec F S8x64x384 .f32) (arg7 : FVec F S8x64 .f32) : FVec F S8x1024x64 .f32 :=
  let v40 : FVec F S8x64x1024 .f32 := Host.dotGeneral dot_S8x64x384_S1024x384_S8x64x1024_2_1_01_0_n_n none arg6 arg1
  let v41 : FVec F S8x1024x64 .f32 := transpose S8x1024x64 [0, 2, 1] v40 transposes_S8x64x1024_S8x1024x64_0_2_1
  let v42 : FVec F S8x1x64 .f32 := broadcastInDim S8x1x64 ![0, 2] bcast_S8x64_S8x1x64_0_2 arg7
  let v43 : FVec F S8x1024x64 .f32 := broadcastInDim S8x1024x64 ![0, 1, 2] bcast_S8x1x64_S8x1024x64_0_1_2 v42
  let v44 : FVec F S8x1024x64 .f32 := addf v41 v43
  let v45 : FVec F S8x1024x64 .f32 := mulf v44 v44
  let cst_13 : FVec F S_ .f32 := constant S_ .f32 0x00000000#32
  let v46 : FVec F S8x1024 .f32 := Host.reduceAdd v45 cst_13 reducesTo_S8x1024x64_S8x1024_d2 h_S_
  let v47 : FVec F S8x1024x1 .f32 := broadcastInDim S8x1024x1 ![0, 1] bcast_S8x1024_S8x1024x1_0_1 v46
  let v48 : FVec F S8x1024x1 .f32 := Host.sqrt v47
  let cst_14 : FVec F S_ .f32 := constant S_ .f32 0x2B8CBCCC#32
  let v49 : FVec F S8x1024x1 .f32 := broadcastInDim S8x1024x1 ![] bcast_S_S8x1024x1 cst_14
  let v50 : FVec F S8x1024x1 .f32 := maximumf v48 v49
  let v51 : FVec F S8x1024x64 .f32 := broadcastInDim S8x1024x64 ![0, 1, 2] bcast_S8x1024x1_S8x1024x64_0_1_2 v50
  Host.divf v44 v51

/-- The reference: the scores of every row and projection with every embedding. -/
def rScores (v52 : FVec F S8x1024x64 .f32) (v39 : FVec F S4096x8x64 .f32) : FVec F S4096x8x1024 .f32 :=
  let v53 : FVec F S8x1024x4096 .f32 := Host.dotGeneral dot_S8x1024x64_S4096x8x64_S8x1024x4096_2_2_1_0_0_1 none v52 v39
  let v54 : FVec F S4096x8x1024 .f32 := transpose S4096x8x1024 [2, 0, 1] v53 transposes_S8x1024x4096_S4096x8x1024_2_0_1
  let cst_15 : FVec F S_ .f32 := constant S_ .f32 0x3F800000#32
  let v55 : FVec F S4096x8x1024 .f32 := broadcastInDim S4096x8x1024 ![] bcast_S_S4096x8x1024 cst_15
  Host.divf v54 v55

/-- The reference: the softmax of the scores over the embeddings. -/
def rSmax (v56 : FVec F S4096x8x1024 .f32) : FVec F S4096x8x1024 .f32 :=
  let cst_17 : FVec F S_ .f32 := constant S_ .f32 0xFF800000#32
  let v58 : FVec F S4096x8 .f32 := broadcastInDim S4096x8 ![] bcast_S_S4096x8 cst_17
  let cst_16 : FVec F S_ .f32 := constant S_ .f32 0xFF800000#32
  let v57 : FVec F S4096x8 .f32 := Host.reduce FloatOps.maximumf v56 cst_16 reducesTo_S4096x8x1024_S4096x8_d2 h_S_
  let v59 : FVec F S4096x8 .f32 := maximumf v58 v57
  let v60 : FVec F S4096x8x1 .f32 := broadcastInDim S4096x8x1 ![0, 1] bcast_S4096x8_S4096x8x1_0_1 v59
  let v61 : FVec F S4096x8x1024 .f32 := broadcastInDim S4096x8x1024 ![0, 1, 2] bcast_S4096x8x1_S4096x8x1024_0_1_2 v60
  let v62 : FVec F S4096x8x1024 .f32 := subf v56 v61
  let v63 : FVec F S4096x8x1024 .f32 := Host.exp v62
  let cst_18 : FVec F S_ .f32 := constant S_ .f32 0x00000000#32
  let v64 : FVec F S4096x8 .f32 := Host.reduceAdd v63 cst_18 reducesTo_S4096x8x1024_S4096x8_d2 h_S_
  let v65 : FVec F S4096x8x1 .f32 := broadcastInDim S4096x8x1 ![0, 1] bcast_S4096x8_S4096x8x1_0_1 v64
  let v66 : FVec F S4096x8x1024 .f32 := broadcastInDim S4096x8x1024 ![0, 1, 2] bcast_S4096x8x1_S4096x8x1024_0_1_2 v65
  Host.divf v63 v66

/-- The reference: the softmax rows of the two chosen projections. -/
def rTake (v67 : FVec F S4096x8x1024 .f32) (indices : IVec S4096x2 32) : FVec F S4096x2x1024 .f32 :=
  let v68 : IVec S4096x2x1 32 := broadcastInDim S4096x2x1 ![0, 1] bcast_S4096x2_S4096x2x1_0_1 indices
  let c1_c : IVec S_ 32 := constantI S_ 32 0#32
  let c1_v0 : IVec S4096x2x1 32 := broadcastInDim S4096x2x1 ![] bcast_S_S4096x2x1 c1_c
  let c1_v1 : IVec S4096x2x1 1 := cmpi .slt v68 c1_v0
  let c1_c_0 : IVec S_ 32 := constantI S_ 32 8#32
  let c1_v2 : IVec S4096x2x1 32 := broadcastInDim S4096x2x1 ![] bcast_S_S4096x2x1 c1_c_0
  let c1_v3 : IVec S4096x2x1 32 := addi v68 c1_v2
  let c1_v4 : IVec S4096x2x1 32 := select c1_v1 c1_v3 v68
  let c1_c_2 : IVec S_ 32 := constantI S_ 32 0#32
  let c1_v5 : IVec S4096x2x1 32 := broadcastInDim S4096x2x1 ![] bcast_S_S4096x2x1 c1_c_2
  let c1_v6 : IVec S4096x2x1 1 := cmpi .sge c1_v4 c1_v5
  let c1_c_1 : IVec S1 32 := constantI S1 32 7#32
  let c1_v7 : IVec S1x1x1 32 := broadcastInDim S1x1x1 ![2] bcast_S1_S1x1x1_2 c1_c_1
  let c1_v8 : IVec S4096x2x1 32 := broadcastInDim S4096x2x1 ![0, 1, 2] bcast_S1x1x1_S4096x2x1_0_1_2 c1_v7
  let c1_v9 : IVec S4096x2x1 1 := cmpi .sle c1_v4 c1_v8
  let c1_v10 : IVec S4096x2x1 1 := andi c1_v6 c1_v9
  let c1_c_3 : IVec S_ 1 := constantI S_ 1 1#1
  let c1_v11 : IVec S4096x2 1 := Host.reduce IntOp.andi c1_v10 c1_c_3 reducesTo_S4096x2x1_S4096x2_d2 h_S_
  let c1_v13 : IVec S4096x2x1024 1 := broadcastInDim S4096x2x1024 ![0, 1] bcast_S4096x2_S4096x2x1024_0_1 c1_v11
  let c1_v12 : FVec F S4096x2x1024 .f32 := Host.gather gather_S4096x8x1024_S4096x2x1_S4096x2x1024_2_1_0_0_1_2_111024 v67 c1_v4
  let c1_cst : FVec F S_ .f32 := constant S_ .f32 0x7FC00000#32
  let c1_v14 : FVec F S4096x2x1024 .f32 := broadcastInDim S4096x2x1024 ![] bcast_S_S4096x2x1024 c1_cst
  select c1_v13 c1_v12 c1_v14

/-- The reference: the softmax of the two greatest logits. -/
def rGate (values : FVec F S4096x2 .f32) : FVec F S4096x2 .f32 :=
  let cst_20 : FVec F S_ .f32 := constant S_ .f32 0xFF800000#32
  let v71 : FVec F S4096 .f32 := broadcastInDim S4096 ![] bcast_S_S4096 cst_20
  let cst_19 : FVec F S_ .f32 := constant S_ .f32 0xFF800000#32
  let v70 : FVec F S4096 .f32 := Host.reduce FloatOps.maximumf values cst_19 reducesTo_S4096x2_S4096_d1 h_S_
  let v72 : FVec F S4096 .f32 := maximumf v71 v70
  let v73 : FVec F S4096x1 .f32 := broadcastInDim S4096x1 ![0] bcast_S4096_S4096x1_0 v72
  let v74 : FVec F S4096x2 .f32 := broadcastInDim S4096x2 ![0, 1] bcast_S4096x1_S4096x2_0_1 v73
  let v75 : FVec F S4096x2 .f32 := subf values v74
  let v76 : FVec F S4096x2 .f32 := Host.exp v75
  let cst_21 : FVec F S_ .f32 := constant S_ .f32 0x00000000#32
  let v77 : FVec F S4096 .f32 := Host.reduceAdd v76 cst_21 reducesTo_S4096x2_S4096_d1 h_S_
  let v78 : FVec F S4096x1 .f32 := broadcastInDim S4096x1 ![0] bcast_S4096_S4096x1_0 v77
  let v79 : FVec F S4096x2 .f32 := broadcastInDim S4096x2 ![0, 1] bcast_S4096x1_S4096x2_0_1 v78
  Host.divf v76 v79

/-- The reference: the mixture of the two chosen softmax rows by the two gates. -/
def rRea (v69 : FVec F S4096x2x1024 .f32) (v80 : FVec F S4096x2 .f32) : FVec F S4096x1024 .f32 :=
  let v81 : FVec F S4096x2x1 .f32 := broadcastInDim S4096x2x1 ![0, 1] bcast_S4096x2_S4096x2x1_0_1 v80
  let v82 : FVec F S4096x2x1024 .f32 := broadcastInDim S4096x2x1024 ![0, 1, 2] bcast_S4096x2x1_S4096x2x1024_0_1_2 v81
  let v83 : FVec F S4096x2x1024 .f32 := mulf v69 v82
  let cst_22 : FVec F S_ .f32 := constant S_ .f32 0x00000000#32
  Host.reduceAdd v83 cst_22 reducesTo_S4096x2x1024_S4096x1024_d1 h_S_

/-- The reference: the running sums of every row of the mixture. -/
def rCum (v84 : FVec F S4096x1024 .f32) : FVec F S4096x1024 .f32 :=
  let c2_call0_cst : FVec F S_ .f32 := constant S_ .f32 0x00000000#32
  let c2_call0_v0 : FVec F S_ .f32 := broadcastInDim S_ ![] bcast_S_S_ c2_call0_cst
  Host.reduceWindowAdd ![1, 1024] ![1, 1] ![0, 1023] ![0, 0] v84 c2_call0_v0 reduceWindows_S4096x1024_S4096x1024_w1s1p0_0_w1024s1p1023_0 h_S_

/-- The reference: the first position of every row whose running sum exceeds the draw, or zero. -/
def rSel (v85 : FVec F S4096x1024 .f32) : IVec S4096 32 :=
  let cst : FVec F S4096x1 .f32 := fun i => FloatOps.ofBits .f32 (lit0 (S4096x1.rowMajor i))
  let v86 : FVec F S4096x1024 .f32 := broadcastInDim S4096x1024 ![0, 1] bcast_S4096x1_S4096x1024_0_1 cst
  let v87 : IVec S4096x1024 1 := cmpf .ogt v85 v86
  let v88 : FVec F S4096x1024 .f32 := uitofp .f32 v87
  let c3_v0 : IVec S4096x1024 32 := iotaInDim S4096x1024 32 1
  let c3_cst : FVec F S_ .f32 := constant S_ .f32 0xFF800000#32
  let c3_c : IVec S_ 32 := constantI S_ 32 0#32
  fun j => (Host.argReduce reducer_argmax_f32_i32 v88 c3_v0 c3_cst c3_c reducesTo_S4096x1024_S4096_d1 h_S_ j).2

/-- The reference: the logarithm of the mixture at the chosen position. -/
def rLog (v84 : FVec F S4096x1024 .f32) (v89 : IVec S4096 32) : FVec F S4096x1 .f32 :=
  let v90 : IVec S4096 32 := iotaInDim S4096 32 0
  let c : IVec S_ 32 := constantI S_ 32 0#32
  let v91 : IVec S4096 32 := broadcastInDim S4096 ![] bcast_S_S4096 c
  let v92 : IVec S4096 1 := cmpi .slt v90 v91
  let c_23 : IVec S_ 32 := constantI S_ 32 4096#32
  let v93 : IVec S4096 32 := broadcastInDim S4096 ![] bcast_S_S4096 c_23
  let v94 : IVec S4096 32 := addi v90 v93
  let v95 : IVec S4096 32 := select v92 v94 v90
  let v101 : IVec S4096x1 32 := broadcastInDim S4096x1 ![0] bcast_S4096_S4096x1_0 v95
  let c_24 : IVec S_ 32 := constantI S_ 32 0#32
  let v96 : IVec S4096 32 := broadcastInDim S4096 ![] bcast_S_S4096 c_24
  let v97 : IVec S4096 1 := cmpi .slt v89 v96
  let c_25 : IVec S_ 32 := constantI S_ 32 1024#32
  let v98 : IVec S4096 32 := broadcastInDim S4096 ![] bcast_S_S4096 c_25
  let v99 : IVec S4096 32 := addi v89 v98
  let v100 : IVec S4096 32 := select v97 v99 v89
  let v102 : IVec S4096x1 32 := broadcastInDim S4096x1 ![0] bcast_S4096_S4096x1_0 v100
  let v103 : IVec S4096x2 32 := fn_pair (F := F) v101 v102
  let v104 : FVec F S4096 .f32 := Host.gather gather_S4096x1024_S4096x2_S4096_n_01_n_n_01_1_11 v84 v103
  let v105 : FVec F S4096 .f32 := Host.log v104
  broadcastInDim S4096x1 ![0] bcast_S4096_S4096x1_0 v105

end Cert.Ref

end
-- ==== Proof.RefRun.lean ====
/- The reference program as a list of host operations, and its run read back. -/
module

public import proofs.«01_k».proof.Proof.Gen.ReferenceIdeal
public import proofs.«01_k».proof.Proof.RefStages
public import Idealize.ShloMosaic.Lib.StableHlo.Run

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- @main's 171 operations, in order (a called function's operations stand in its call's place). -/
abbrev ops : List (HloOp τ sig (Elt F)) :=
  [ nullary main_cst (fun i => FloatOps.ofBits .f32 (lit0 (S4096x1.rowMajor i))),
    unary main_arg2 main_v0 ((transpose S384x8 [1, 0] · transposes_S8x384_S384x8_1_0) : (⟨S8x384, .f32⟩ : BufTy).Contents (Elt F) → (⟨S384x8, .f32⟩ : BufTy).Contents (Elt F)),
    binary main_arg0 main_v0 main_v1 ((fun l r => Host.dotGeneral dot_S4096x384_S384x8_S4096x8_1_0_0_1_n_n none l r) : (⟨S4096x384, .f32⟩ : BufTy).Contents (Elt F) → (⟨S384x8, .f32⟩ : BufTy).Contents (Elt F) → (⟨S4096x8, .f32⟩ : BufTy).Contents (Elt F)),
    unary main_arg3 main_v2 (broadcastInDim S1x8 ![1] bcast_S8_S1x8_1 : (⟨S8, .f32⟩ : BufTy).Contents (Elt F) → (⟨S1x8, .f32⟩ : BufTy).Contents (Elt F)),
    unary main_v2 main_v3 (broadcastInDim S4096x8 ![0, 1] bcast_S1x8_S4096x8_0_1 : (⟨S1x8, .f32⟩ : BufTy).Contents (Elt F) → (⟨S4096x8, .f32⟩ : BufTy).Contents (Elt F)),
    binary main_v1 main_v3 main_v4 (addf : (⟨S4096x8, .f32⟩ : BufTy).Contents (Elt F) → (⟨S4096x8, .f32⟩ : BufTy).Contents (Elt F) → (⟨S4096x8, .f32⟩ : BufTy).Contents (Elt F)),
    nullary main_cst_0 (constant S_ .f32 0xFF800000#32),
    binary main_v4 main_cst_0 main_v5 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)),
    nullary main_cst_1 (constant S_ .f32 0xFF800000#32),
    unary main_cst_1 main_v6 (broadcastInDim S4096 ![] bcast_S_S4096 : (⟨S_, .f32⟩ : BufTy).Contents (Elt F) → (⟨S4096, .f32⟩ : BufTy).Contents (Elt F)),
    binary main_v6 main_v5 main_v7 (maximumf : (⟨S4096, .f32⟩ : BufTy).Contents (Elt F) → (⟨S4096, .f32⟩ : BufTy).Contents (Elt F) → (⟨S4096, .f32⟩ : BufTy).Contents (Elt F)),
    unary main_v7 main_v8 (broadcastInDim S4096x1 ![0] bcast_S4096_S4096x1_0 : (⟨S4096, .f32⟩ : BufTy).Contents (Elt F) → (⟨S4096x1, .f32⟩ : BufTy).Contents (Elt F)),
    unary main_v8 main_v9 (broadcastInDim S4096x8 ![0, 1] bcast_S4096x1_S4096x8_0_1 : (⟨S4096x1, .f32⟩ : BufTy).Contents (Elt F) → (⟨S4096x8, .f32⟩ : BufTy).Contents (Elt F)),
    binary main_v4 main_v9 main_v10 (subf : (⟨S4096x8, .f32⟩ : BufTy).Contents (Elt F) → (⟨S4096x8, .f32⟩ : BufTy).Contents (Elt F) → (⟨S4096x8, .f32⟩ : BufTy).Contents (Elt F)),
    unary main_v10 main_v11 (Host.exp : (⟨S4096x8, .f32⟩ : BufTy).Contents (Elt F) → (⟨S4096x8, .f32⟩ : BufTy).Contents (Elt F)),
    nullary main_cst_2 (constant S_ .f32 0x00000000#32),
    binary main_v11 main_cst_2 main_v12 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)),
    unary main_v12 main_v13 (broadcastInDim S4096x1 ![0] bcast_S4096_S4096x1_0 : (⟨S4096, .f32⟩ : BufTy).Contents (Elt F) → (⟨S4096x1, .f32⟩ : BufTy).Contents (Elt F)),
    unary main_v13 main_v14 (broadcastInDim S4096x8 ![0, 1] bcast_S4096x1_S4096x8_0_1 : (⟨S4096x1, .f32⟩ : BufTy).Contents (Elt F) → (⟨S4096x8, .f32⟩ : BufTy).Contents (Elt F)),
    binary main_v11 main_v14 main_v15 (Host.divf : (⟨S4096x8, .f32⟩ : BufTy).Contents (Elt F) → (⟨S4096x8, .f32⟩ : BufTy).Contents (Elt F) → (⟨S4096x8, .f32⟩ : BufTy).Contents (Elt F)),
    unary main_v4 main_values ((fun x => (Host.topK S4096x2 1 (FloatOps.cmpfTotal .gt) x sliceFits_S4096x8_S4096x2).1) : (⟨S4096x8, .f32⟩ : BufTy).Contents (Elt F) → (⟨S4096x2, .f32⟩ : BufTy).Contents (Elt F)),
    unary main_v4 main_indices ((fun x => (Host.topK S4096x2 1 (FloatOps.cmpfTotal .gt) x sliceFits_S4096x8_S4096x2).2) : (⟨S4096x8, .f32⟩ : BufTy).Contents (Elt F) → (⟨S4096x2, .i32⟩ : BufTy).Contents (Elt F)),
    TRef.unary (TRef.of (T := ⟨S4096x2, .i32⟩) main_indices) (TRef.of (T := ⟨S4096x2x1, .i32⟩) main_call0_v0) (broadcastInDim S4096x2x1 ![0, 1] bcast_S4096x2_S4096x2x1_0_1),
    TRef.nullary (TRef.of (T := ⟨S1x1x8, .i32⟩) main_call0_v1) (iotaInDim S1x1x8 32 2),
    TRef.unary (TRef.of (T := ⟨S4096x2x1, .i32⟩) main_call0_v0) (TRef.of (T := ⟨S4096x2x8, .i32⟩) main_call0_v2) (broadcastInDim S4096x2x8 ![0, 1, 2] bcast_S4096x2x1_S4096x2x8_0_1_2),
    TRef.unary (TRef.of (T := ⟨S1x1x8, .i32⟩) main_call0_v1) (TRef.of (T := ⟨S4096x2x8, .i32⟩) main_call0_v3) (broadcastInDim S4096x2x8 ![0, 1, 2] bcast_S1x1x8_S4096x2x8_0_1_2),
    TRef.binary (TRef.of (T := ⟨S4096x2x8, .i32⟩) main_call0_v2) (TRef.of (T := ⟨S4096x2x8, .i32⟩) main_call0_v3) (TRef.of (T := ⟨S4096x2x8, .i1⟩) main_call0_v4) (cmpi .eq),
    TRef.unary (TRef.of (T := ⟨S4096x2x8, .i1⟩) main_call0_v4) (TRef.of (T := ⟨S4096x2x8, .f32⟩) main_v16) (uitofp .f32),
    nullary main_cst_3 (constant S_ .f32 0x00000000#32),
    binary main_v16 main_cst_3 main_v17 ((fun x v => Host.reduceAdd x v reducesTo_S4096x2x8_S4096x8_d1 h_S_) : (⟨S4096x2x8, .f32⟩ : BufTy).Contents (Elt F) → (⟨S_, .f32⟩ : BufTy).Contents (Elt F) → (⟨S4096x8, .f32⟩ : BufTy).Contents (Elt F)),
    nullary main_cst_4 (constant S_ .f32 0x00000000#32),
    binary main_v15 main_cst_4 main_v18 ((fun x v => Host.reduceAdd x v reducesTo_S4096x8_S8_d0 h_S_) : (⟨S4096x8, .f32⟩ : BufTy).Contents (Elt F) → (⟨S_, .f32⟩ : BufTy).Contents (Elt F) → (⟨S8, .f32⟩ : BufTy).Contents (Elt F)),
    nullary main_cst_5 (constant S_ .f32 0x45800000#32),
    unary main_cst_5 main_v19 (broadcastInDim S8 ![] bcast_S_S8 : (⟨S_, .f32⟩ : BufTy).Contents (Elt F) → (⟨S8, .f32⟩ : BufTy).Contents (Elt F)),
    binary main_v18 main_v19 main_v20 (Host.divf : (⟨S8, .f32⟩ : BufTy).Contents (Elt F) → (⟨S8, .f32⟩ : BufTy).Contents (Elt F) → (⟨S8, .f32⟩ : BufTy).Contents (Elt F)),
    nullary main_cst_6 (constant S_ .f32 0x00000000#32),
    binary main_v17 main_cst_6 main_v21 ((fun x v => Host.reduceAdd x v reducesTo_S4096x8_S8_d0 h_S_) : (⟨S4096x8, .f32⟩ : BufTy).Contents (Elt F) → (⟨S_, .f32⟩ : BufTy).Contents (Elt F) → (⟨S8, .f32⟩ : BufTy).Contents (Elt F)),
    nullary main_cst_7 (constant S_ .f32 0x45800000#32),
    unary main_cst_7 main_v22 (broadcastInDim S8 ![] bcast_S_S8 : (⟨S_, .f32⟩ : BufTy).Contents (Elt F) → (⟨S8, .f32⟩ : BufTy).Contents (Elt F)),
    binary main_v21 main_v22 main_v23 (Host.divf : (⟨S8, .f32⟩ : BufTy).Contents (Elt F) → (⟨S8, .f32⟩ : BufTy).Contents (Elt F) → (⟨S8, .f32⟩ : BufTy).Contents (Elt F)),
    binary main_v20 main_v23 main_v24 (mulf : (⟨S8, .f32⟩ : BufTy).Contents (Elt F) → (⟨S8, .f32⟩ : BufTy).Contents (Elt F) → (⟨S8, .f32⟩ : BufTy).Contents (Elt F)),
    nullary main_cst_8 (constant S_ .f32 0x00000000#32),
    binary main_v24 main_cst_8 main_v25 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_9 (constant S_ .f32 0x41000000#32),
    binary main_cst_9 main_v25 main_v26 (mulf : (⟨S_, .f32⟩ : BufTy).Contents (Elt F) → (⟨S_, .f32⟩ : BufTy).Contents (Elt F) → (⟨S_, .f32⟩ : BufTy).Contents (Elt F)),
    nullary main_cst_10 (constant S_ .f32 0x3D4CCCCD#32),
    binary main_v26 main_cst_10 main_v27 (mulf : (⟨S_, .f32⟩ : BufTy).Contents (Elt F) → (⟨S_, .f32⟩ : BufTy).Contents (Elt F) → (⟨S_, .f32⟩ : BufTy).Contents (Elt F)),
    binary main_arg0 main_arg4 main_v28 ((fun l r => Host.dotGeneral dot_S4096x384_S8x64x384_S4096x8x64_1_2_0_01_n_n none l r) : (⟨S4096x384, .f32⟩ : BufTy).Contents (Elt F) → (⟨S8x64x384, .f32⟩ : BufTy).Contents (Elt F) → (⟨S4096x8x64, .f32⟩ : BufTy).Contents (Elt F)),
    unary main_arg5 main_v29 (broadcastInDim S1x8x64 ![1, 2] bcast_S8x64_S1x8x64_1_2 : (⟨S8x64, .f32⟩ : BufTy).Contents (Elt F) → (⟨S1x8x64, .f32⟩ : BufTy).Contents (Elt F)),
    unary main_v29 main_v30 (broadcastInDim S4096x8x64 ![0, 1, 2] bcast_S1x8x64_S4096x8x64_0_1_2 : (⟨S1x8x64, .f32⟩ : BufTy).Contents (Elt F) → (⟨S4096x8x64, .f32⟩ : BufTy).Contents (Elt F)),
    binary main_v28 main_v30 main_v31 (addf : (⟨S4096x8x64, .f32⟩ : BufTy).Contents (Elt F) → (⟨S4096x8x64, .f32⟩ : BufTy).Contents (Elt F) → (⟨S4096x8x64, .f32⟩ : BufTy).Contents (Elt F)),
    binary main_v31 main_v31 main_v32 (mulf : (⟨S4096x8x64, .f32⟩ : BufTy).Contents (Elt F) → (⟨S4096x8x64, .f32⟩ : BufTy).Contents (Elt F) → (⟨S4096x8x64, .f32⟩ : BufTy).Contents (Elt F)),
    nullary main_cst_11 (constant S_ .f32 0x00000000#32),
    binary main_v32 main_cst_11 main_v33 ((fun x v => Host.reduceAdd x v reducesTo_S4096x8x64_S4096x8_d2 h_S_) : (⟨S4096x8x64, .f32⟩ : BufTy).Contents (Elt F) → (⟨S_, .f32⟩ : BufTy).Contents (Elt F) → (⟨S4096x8, .f32⟩ : BufTy).Contents (Elt F)),
    unary main_v33 main_v34 (broadcastInDim S4096x8x1 ![0, 1] bcast_S4096x8_S4096x8x1_0_1 : (⟨S4096x8, .f32⟩ : BufTy).Contents (Elt F) → (⟨S4096x8x1, .f32⟩ : BufTy).Contents (Elt F)),
    unary main_v34 main_v35 (Host.sqrt : (⟨S4096x8x1, .f32⟩ : BufTy).Contents (Elt F) → (⟨S4096x8x1, .f32⟩ : BufTy).Contents (Elt F)),
    nullary main_cst_12 (constant S_ .f32 0x2B8CBCCC#32),
    unary main_cst_12 main_v36 (broadcastInDim S4096x8x1 ![] bcast_S_S4096x8x1 : (⟨S_, .f32⟩ : BufTy).Contents (Elt F) → (⟨S4096x8x1, .f32⟩ : BufTy).Contents (Elt F)),
    binary main_v35 main_v36 main_v37 (maximumf : (⟨S4096x8x1, .f32⟩ : BufTy).Contents (Elt F) → (⟨S4096x8x1, .f32⟩ : BufTy).Contents (Elt F) → (⟨S4096x8x1, .f32⟩ : BufTy).Contents (Elt F)),
    unary main_v37 main_v38 (broadcastInDim S4096x8x64 ![0, 1, 2] bcast_S4096x8x1_S4096x8x64_0_1_2 : (⟨S4096x8x1, .f32⟩ : BufTy).Contents (Elt F) → (⟨S4096x8x64, .f32⟩ : BufTy).Contents (Elt F)),
    binary main_v31 main_v38 main_v39 (Host.divf : (⟨S4096x8x64, .f32⟩ : BufTy).Contents (Elt F) → (⟨S4096x8x64, .f32⟩ : BufTy).Contents (Elt F) → (⟨S4096x8x64, .f32⟩ : BufTy).Contents (Elt F)),
    binary main_arg6 main_arg1 main_v40 ((fun l r => Host.dotGeneral dot_S8x64x384_S1024x384_S8x64x1024_2_1_01_0_n_n none l r) : (⟨S8x64x384, .f32⟩ : BufTy).Contents (Elt F) → (⟨S1024x384, .f32⟩ : BufTy).Contents (Elt F) → (⟨S8x64x1024, .f32⟩ : BufTy).Contents (Elt F)),
    unary main_v40 main_v41 ((transpose S8x1024x64 [0, 2, 1] · transposes_S8x64x1024_S8x1024x64_0_2_1) : (⟨S8x64x1024, .f32⟩ : BufTy).Contents (Elt F) → (⟨S8x1024x64, .f32⟩ : BufTy).Contents (Elt F)),
    unary main_arg7 main_v42 (broadcastInDim S8x1x64 ![0, 2] bcast_S8x64_S8x1x64_0_2 : (⟨S8x64, .f32⟩ : BufTy).Contents (Elt F) → (⟨S8x1x64, .f32⟩ : BufTy).Contents (Elt F)),
    unary main_v42 main_v43 (broadcastInDim S8x1024x64 ![0, 1, 2] bcast_S8x1x64_S8x1024x64_0_1_2 : (⟨S8x1x64, .f32⟩ : BufTy).Contents (Elt F) → (⟨S8x1024x64, .f32⟩ : BufTy).Contents (Elt F)),
    binary main_v41 main_v43 main_v44 (addf : (⟨S8x1024x64, .f32⟩ : BufTy).Contents (Elt F) → (⟨S8x1024x64, .f32⟩ : BufTy).Contents (Elt F) → (⟨S8x1024x64, .f32⟩ : BufTy).Contents (Elt F)),
    binary main_v44 main_v44 main_v45 (mulf : (⟨S8x1024x64, .f32⟩ : BufTy).Contents (Elt F) → (⟨S8x1024x64, .f32⟩ : BufTy).Contents (Elt F) → (⟨S8x1024x64, .f32⟩ : BufTy).Contents (Elt F)),
    nullary main_cst_13 (constant S_ .f32 0x00000000#32),
    binary main_v45 main_cst_13 main_v46 ((fun x v => Host.reduceAdd x v reducesTo_S8x1024x64_S8x1024_d2 h_S_) : (⟨S8x1024x64, .f32⟩ : BufTy).Contents (Elt F) → (⟨S_, .f32⟩ : BufTy).Contents (Elt F) → (⟨S8x1024, .f32⟩ : BufTy).Contents (Elt F)),
    unary main_v46 main_v47 (broadcastInDim S8x1024x1 ![0, 1] bcast_S8x1024_S8x1024x1_0_1 : (⟨S8x1024, .f32⟩ : BufTy).Contents (Elt F) → (⟨S8x1024x1, .f32⟩ : BufTy).Contents (Elt F)),
    unary main_v47 main_v48 (Host.sqrt : (⟨S8x1024x1, .f32⟩ : BufTy).Contents (Elt F) → (⟨S8x1024x1, .f32⟩ : BufTy).Contents (Elt F)),
    nullary main_cst_14 (constant S_ .f32 0x2B8CBCCC#32),
    unary main_cst_14 main_v49 (broadcastInDim S8x1024x1 ![] bcast_S_S8x1024x1 : (⟨S_, .f32⟩ : BufTy).Contents (Elt F) → (⟨S8x1024x1, .f32⟩ : BufTy).Contents (Elt F)),
    binary main_v48 main_v49 main_v50 (maximumf : (⟨S8x1024x1, .f32⟩ : BufTy).Contents (Elt F) → (⟨S8x1024x1, .f32⟩ : BufTy).Contents (Elt F) → (⟨S8x1024x1, .f32⟩ : BufTy).Contents (Elt F)),
    unary main_v50 main_v51 (broadcastInDim S8x1024x64 ![0, 1, 2] bcast_S8x1024x1_S8x1024x64_0_1_2 : (⟨S8x1024x1, .f32⟩ : BufTy).Contents (Elt F) → (⟨S8x1024x64, .f32⟩ : BufTy).Contents (Elt F)),
    binary main_v44 main_v51 main_v52 (Host.divf : (⟨S8x1024x64, .f32⟩ : BufTy).Contents (Elt F) → (⟨S8x1024x64, .f32⟩ : BufTy).Contents (Elt F) → (⟨S8x1024x64, .f32⟩ : BufTy).Contents (Elt F)),
    binary main_v52 main_v39 main_v53 ((fun l r => Host.dotGeneral dot_S8x1024x64_S4096x8x64_S8x1024x4096_2_2_1_0_0_1 none l r) : (⟨S8x1024x64, .f32⟩ : BufTy).Contents (Elt F) → (⟨S4096x8x64, .f32⟩ : BufTy).Contents (Elt F) → (⟨S8x1024x4096, .f32⟩ : BufTy).Contents (Elt F)),
    unary main_v53 main_v54 ((transpose S4096x8x1024 [2, 0, 1] · transposes_S8x1024x4096_S4096x8x1024_2_0_1) : (⟨S8x1024x4096, .f32⟩ : BufTy).Contents (Elt F) → (⟨S4096x8x1024, .f32⟩ : BufTy).Contents (Elt F)),
    nullary main_cst_15 (constant S_ .f32 0x3F800000#32),
    unary main_cst_15 main_v55 (broadcastInDim S4096x8x1024 ![] bcast_S_S4096x8x1024 : (⟨S_, .f32⟩ : BufTy).Contents (Elt F) → (⟨S4096x8x1024, .f32⟩ : BufTy).Contents (Elt F)),
    binary main_v54 main_v55 main_v56 (Host.divf : (⟨S4096x8x1024, .f32⟩ : BufTy).Contents (Elt F) → (⟨S4096x8x1024, .f32⟩ : BufTy).Contents (Elt F) → (⟨S4096x8x1024, .f32⟩ : BufTy).Contents (Elt F)),
    nullary main_cst_16 (constant S_ .f32 0xFF800000#32),
    binary main_v56 main_cst_16 main_v57 ((fun x v => Host.reduce FloatOps.maximumf x v reducesTo_S4096x8x1024_S4096x8_d2 h_S_) : (⟨S4096x8x1024, .f32⟩ : BufTy).Contents (Elt F) → (⟨S_, .f32⟩ : BufTy).Contents (Elt F) → (⟨S4096x8, .f32⟩ : BufTy).Contents (Elt F)),
    nullary main_cst_17 (constant S_ .f32 0xFF800000#32),
    unary main_cst_17 main_v58 (broadcastInDim S4096x8 ![] bcast_S_S4096x8 : (⟨S_, .f32⟩ : BufTy).Contents (Elt F) → (⟨S4096x8, .f32⟩ : BufTy).Contents (Elt F)),
    binary main_v58 main_v57 main_v59 (maximumf : (⟨S4096x8, .f32⟩ : BufTy).Contents (Elt F) → (⟨S4096x8, .f32⟩ : BufTy).Contents (Elt F) → (⟨S4096x8, .f32⟩ : BufTy).Contents (Elt F)),
    unary main_v59 main_v60 (broadcastInDim S4096x8x1 ![0, 1] bcast_S4096x8_S4096x8x1_0_1 : (⟨S4096x8, .f32⟩ : BufTy).Contents (Elt F) → (⟨S4096x8x1, .f32⟩ : BufTy).Contents (Elt F)),
    unary main_v60 main_v61 (broadcastInDim S4096x8x1024 ![0, 1, 2] bcast_S4096x8x1_S4096x8x1024_0_1_2 : (⟨S4096x8x1, .f32⟩ : BufTy).Contents (Elt F) → (⟨S4096x8x1024, .f32⟩ : BufTy).Contents (Elt F)),
    binary main_v56 main_v61 main_v62 (subf : (⟨S4096x8x1024, .f32⟩ : BufTy).Contents (Elt F) → (⟨S4096x8x1024, .f32⟩ : BufTy).Contents (Elt F) → (⟨S4096x8x1024, .f32⟩ : BufTy).Contents (Elt F)),
    unary main_v62 main_v63 (Host.exp : (⟨S4096x8x1024, .f32⟩ : BufTy).Contents (Elt F) → (⟨S4096x8x1024, .f32⟩ : BufTy).Contents (Elt F)),
    nullary main_cst_18 (constant S_ .f32 0x00000000#32),
    binary main_v63 main_cst_18 main_v64 ((fun x v => Host.reduceAdd x v reducesTo_S4096x8x1024_S4096x8_d2 h_S_) : (⟨S4096x8x1024, .f32⟩ : BufTy).Contents (Elt F) → (⟨S_, .f32⟩ : BufTy).Contents (Elt F) → (⟨S4096x8, .f32⟩ : BufTy).Contents (Elt F)),
    unary main_v64 main_v65 (broadcastInDim S4096x8x1 ![0, 1] bcast_S4096x8_S4096x8x1_0_1 : (⟨S4096x8, .f32⟩ : BufTy).Contents (Elt F) → (⟨S4096x8x1, .f32⟩ : BufTy).Contents (Elt F)),
    unary main_v65 main_v66 (broadcastInDim S4096x8x1024 ![0, 1, 2] bcast_S4096x8x1_S4096x8x1024_0_1_2 : (⟨S4096x8x1, .f32⟩ : BufTy).Contents (Elt F) → (⟨S4096x8x1024, .f32⟩ : BufTy).Contents (Elt F)),
    binary main_v63 main_v66 main_v67 (Host.divf : (⟨S4096x8x1024, .f32⟩ : BufTy).Contents (Elt F) → (⟨S4096x8x1024, .f32⟩ : BufTy).Contents (Elt F) → (⟨S4096x8x1024, .f32⟩ : BufTy).Contents (Elt F)),
    unary main_indices main_v68 (broadcastInDim S4096x2x1 ![0, 1] bcast_S4096x2_S4096x2x1_0_1 : (⟨S4096x2, .i32⟩ : BufTy).Contents (Elt F) → (⟨S4096x2x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x2x1, .i32⟩) main_call1_v0) (broadcastInDim S4096x2x1 ![] bcast_S_S4096x2x1),
    TRef.binary (TRef.of (T := ⟨S4096x2x1, .i32⟩) main_v68) (TRef.of (T := ⟨S4096x2x1, .i32⟩) main_call1_v0) (TRef.of (T := ⟨S4096x2x1, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S4096x2x1, .i32⟩) main_call1_v2) (broadcastInDim S4096x2x1 ![] bcast_S_S4096x2x1),
    TRef.binary (TRef.of (T := ⟨S4096x2x1, .i32⟩) main_v68) (TRef.of (T := ⟨S4096x2x1, .i32⟩) main_call1_v2) (TRef.of (T := ⟨S4096x2x1, .i32⟩) main_call1_v3) addi,
    TRef.ternary (TRef.of (T := ⟨S4096x2x1, .i1⟩) main_call1_v1) (TRef.of (T := ⟨S4096x2x1, .i32⟩) main_call1_v3) (TRef.of (T := ⟨S4096x2x1, .i32⟩) main_v68) (TRef.of (T := ⟨S4096x2x1, .i32⟩) main_call1_v4) select,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S4096x2x1, .i32⟩) main_call1_v5) (broadcastInDim S4096x2x1 ![] bcast_S_S4096x2x1),
    TRef.binary (TRef.of (T := ⟨S4096x2x1, .i32⟩) main_call1_v4) (TRef.of (T := ⟨S4096x2x1, .i32⟩) main_call1_v5) (TRef.of (T := ⟨S4096x2x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S4096x2x1, .i32⟩) main_call1_v8) (broadcastInDim S4096x2x1 ![0, 1, 2] bcast_S1x1x1_S4096x2x1_0_1_2),
    TRef.binary (TRef.of (T := ⟨S4096x2x1, .i32⟩) main_call1_v4) (TRef.of (T := ⟨S4096x2x1, .i32⟩) main_call1_v8) (TRef.of (T := ⟨S4096x2x1, .i1⟩) main_call1_v9) (cmpi .sle),
    TRef.binary (TRef.of (T := ⟨S4096x2x1, .i1⟩) main_call1_v6) (TRef.of (T := ⟨S4096x2x1, .i1⟩) main_call1_v9) (TRef.of (T := ⟨S4096x2x1, .i1⟩) main_call1_v10) andi,
    TRef.nullary (TRef.of (T := ⟨S_, .i1⟩) main_call1_c_3) (constantI S_ 1 1#1),
    TRef.binary (TRef.of (T := ⟨S4096x2x1, .i1⟩) main_call1_v10) (TRef.of (T := ⟨S_, .i1⟩) main_call1_c_3) (TRef.of (T := ⟨S4096x2, .i1⟩) main_call1_v11) (fun x v => Host.reduce IntOp.andi x v reducesTo_S4096x2x1_S4096x2_d2 h_S_),
    TRef.binary (TRef.of (T := ⟨S4096x8x1024, .f32⟩) main_v67) (TRef.of (T := ⟨S4096x2x1, .i32⟩) main_call1_v4) (TRef.of (T := ⟨S4096x2x1024, .f32⟩) main_call1_v12) (fun x i => Host.gather gather_S4096x8x1024_S4096x2x1_S4096x2x1024_2_1_0_0_1_2_111024 x i),
    TRef.unary (TRef.of (T := ⟨S4096x2, .i1⟩) main_call1_v11) (TRef.of (T := ⟨S4096x2x1024, .i1⟩) main_call1_v13) (broadcastInDim S4096x2x1024 ![0, 1] bcast_S4096x2_S4096x2x1024_0_1),
    TRef.nullary (TRef.of (T := ⟨S_, .f32⟩) main_call1_cst) (constant S_ .f32 0x7FC00000#32),
    TRef.unary (TRef.of (T := ⟨S_, .f32⟩) main_call1_cst) (TRef.of (T := ⟨S4096x2x1024, .f32⟩) main_call1_v14) (broadcastInDim S4096x2x1024 ![] bcast_S_S4096x2x1024),
    TRef.ternary (TRef.of (T := ⟨S4096x2x1024, .i1⟩) main_call1_v13) (TRef.of (T := ⟨S4096x2x1024, .f32⟩) main_call1_v12) (TRef.of (T := ⟨S4096x2x1024, .f32⟩) main_call1_v14) (TRef.of (T := ⟨S4096x2x1024, .f32⟩) main_v69) select,
    nullary main_cst_19 (constant S_ .f32 0xFF800000#32),
    binary main_values main_cst_19 main_v70 ((fun x v => Host.reduce FloatOps.maximumf x v reducesTo_S4096x2_S4096_d1 h_S_) : (⟨S4096x2, .f32⟩ : BufTy).Contents (Elt F) → (⟨S_, .f32⟩ : BufTy).Contents (Elt F) → (⟨S4096, .f32⟩ : BufTy).Contents (Elt F)),
    nullary main_cst_20 (constant S_ .f32 0xFF800000#32),
    unary main_cst_20 main_v71 (broadcastInDim S4096 ![] bcast_S_S4096 : (⟨S_, .f32⟩ : BufTy).Contents (Elt F) → (⟨S4096, .f32⟩ : BufTy).Contents (Elt F)),
    binary main_v71 main_v70 main_v72 (maximumf : (⟨S4096, .f32⟩ : BufTy).Contents (Elt F) → (⟨S4096, .f32⟩ : BufTy).Contents (Elt F) → (⟨S4096, .f32⟩ : BufTy).Contents (Elt F)),
    unary main_v72 main_v73 (broadcastInDim S4096x1 ![0] bcast_S4096_S4096x1_0 : (⟨S4096, .f32⟩ : BufTy).Contents (Elt F) → (⟨S4096x1, .f32⟩ : BufTy).Contents (Elt F)),
    unary main_v73 main_v74 (broadcastInDim S4096x2 ![0, 1] bcast_S4096x1_S4096x2_0_1 : (⟨S4096x1, .f32⟩ : BufTy).Contents (Elt F) → (⟨S4096x2, .f32⟩ : BufTy).Contents (Elt F)),
    binary main_values main_v74 main_v75 (subf : (⟨S4096x2, .f32⟩ : BufTy).Contents (Elt F) → (⟨S4096x2, .f32⟩ : BufTy).Contents (Elt F) → (⟨S4096x2, .f32⟩ : BufTy).Contents (Elt F)),
    unary main_v75 main_v76 (Host.exp : (⟨S4096x2, .f32⟩ : BufTy).Contents (Elt F) → (⟨S4096x2, .f32⟩ : BufTy).Contents (Elt F)),
    nullary main_cst_21 (constant S_ .f32 0x00000000#32),
    binary main_v76 main_cst_21 main_v77 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v77 main_v78 (broadcastInDim S4096x1 ![0] bcast_S4096_S4096x1_0 : (⟨S4096, .f32⟩ : BufTy).Contents (Elt F) → (⟨S4096x1, .f32⟩ : BufTy).Contents (Elt F)),
    unary main_v78 main_v79 (broadcastInDim S4096x2 ![0, 1] bcast_S4096x1_S4096x2_0_1 : (⟨S4096x1, .f32⟩ : BufTy).Contents (Elt F) → (⟨S4096x2, .f32⟩ : BufTy).Contents (Elt F)),
    binary main_v76 main_v79 main_v80 (Host.divf : (⟨S4096x2, .f32⟩ : BufTy).Contents (Elt F) → (⟨S4096x2, .f32⟩ : BufTy).Contents (Elt F) → (⟨S4096x2, .f32⟩ : BufTy).Contents (Elt F)),
    unary main_v80 main_v81 (broadcastInDim S4096x2x1 ![0, 1] bcast_S4096x2_S4096x2x1_0_1 : (⟨S4096x2, .f32⟩ : BufTy).Contents (Elt F) → (⟨S4096x2x1, .f32⟩ : BufTy).Contents (Elt F)),
    unary main_v81 main_v82 (broadcastInDim S4096x2x1024 ![0, 1, 2] bcast_S4096x2x1_S4096x2x1024_0_1_2 : (⟨S4096x2x1, .f32⟩ : BufTy).Contents (Elt F) → (⟨S4096x2x1024, .f32⟩ : BufTy).Contents (Elt F)),
    binary main_v69 main_v82 main_v83 (mulf : (⟨S4096x2x1024, .f32⟩ : BufTy).Contents (Elt F) → (⟨S4096x2x1024, .f32⟩ : BufTy).Contents (Elt F) → (⟨S4096x2x1024, .f32⟩ : BufTy).Contents (Elt F)),
    nullary main_cst_22 (constant S_ .f32 0x00000000#32),
    binary main_v83 main_cst_22 main_v84 ((fun x v => Host.reduceAdd x v reducesTo_S4096x2x1024_S4096x1024_d1 h_S_) : (⟨S4096x2x1024, .f32⟩ : BufTy).Contents (Elt F) → (⟨S_, .f32⟩ : BufTy).Contents (Elt F) → (⟨S4096x1024, .f32⟩ : BufTy).Contents (Elt F)),
    TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S4096x1024, .f32⟩) main_v84) (TRef.of (T := ⟨S_, .f32⟩) main_call2_call0_v0) (TRef.of (T := ⟨S4096x1024, .f32⟩) main_v85) (fun x v => Host.reduceWindowAdd ![1, 1024] ![1, 1] ![0, 1023] ![0, 0] x v reduceWindows_S4096x1024_S4096x1024_w1s1p0_0_w1024s1p1023_0 h_S_),
    unary main_cst main_v86 (broadcastInDim S4096x1024 ![0, 1] bcast_S4096x1_S4096x1024_0_1 : (⟨S4096x1, .f32⟩ : BufTy).Contents (Elt F) → (⟨S4096x1024, .f32⟩ : BufTy).Contents (Elt F)),
    binary main_v85 main_v86 main_v87 (cmpf .ogt : (⟨S4096x1024, .f32⟩ : BufTy).Contents (Elt F) → (⟨S4096x1024, .f32⟩ : BufTy).Contents (Elt F) → (⟨S4096x1024, .i1⟩ : BufTy).Contents (Elt F)),
    unary main_v87 main_v88 (uitofp .f32 : (⟨S4096x1024, .i1⟩ : BufTy).Contents (Elt F) → (⟨S4096x1024, .f32⟩ : BufTy).Contents (Elt F)),
    TRef.nullary (TRef.of (T := ⟨S4096x1024, .i32⟩) main_call3_v0) (iotaInDim S4096x1024 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S4096x1024, .f32⟩) main_v88) (TRef.of (T := ⟨S4096x1024, .i32⟩) main_call3_v0) (TRef.of (T := ⟨S_, .f32⟩) main_call3_cst) (TRef.of (T := ⟨S_, .i32⟩) main_call3_c) (TRef.of (T := ⟨S4096, .f32⟩) main_call3_v1_0) (fun x y u v j => (Host.argReduce reducer_argmax_f32_i32 x y u v reducesTo_S4096x1024_S4096_d1 h_S_ j).1),
    TRef.quaternary (TRef.of (T := ⟨S4096x1024, .f32⟩) main_v88) (TRef.of (T := ⟨S4096x1024, .i32⟩) main_call3_v0) (TRef.of (T := ⟨S_, .f32⟩) main_call3_cst) (TRef.of (T := ⟨S_, .i32⟩) main_call3_c) (TRef.of (T := ⟨S4096, .i32⟩) main_v89) (fun x y u v j => (Host.argReduce reducer_argmax_f32_i32 x y u v reducesTo_S4096x1024_S4096_d1 h_S_ j).2),
    nullary main_v90 (iotaInDim S4096 32 0),
    nullary main_c (constantI S_ 32 0#32),
    unary main_c main_v91 (broadcastInDim S4096 ![] bcast_S_S4096 : (⟨S_, .i32⟩ : BufTy).Contents (Elt F) → (⟨S4096, .i32⟩ : BufTy).Contents (Elt F)),
    binary main_v90 main_v91 main_v92 (cmpi .slt : (⟨S4096, .i32⟩ : BufTy).Contents (Elt F) → (⟨S4096, .i32⟩ : BufTy).Contents (Elt F) → (⟨S4096, .i1⟩ : BufTy).Contents (Elt F)),
    nullary main_c_23 (constantI S_ 32 4096#32),
    unary main_c_23 main_v93 (broadcastInDim S4096 ![] bcast_S_S4096 : (⟨S_, .i32⟩ : BufTy).Contents (Elt F) → (⟨S4096, .i32⟩ : BufTy).Contents (Elt F)),
    binary main_v90 main_v93 main_v94 (addi : (⟨S4096, .i32⟩ : BufTy).Contents (Elt F) → (⟨S4096, .i32⟩ : BufTy).Contents (Elt F) → (⟨S4096, .i32⟩ : BufTy).Contents (Elt F)),
    ternary main_v92 main_v94 main_v90 main_v95 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_24 (constantI S_ 32 0#32),
    unary main_c_24 main_v96 (broadcastInDim S4096 ![] bcast_S_S4096 : (⟨S_, .i32⟩ : BufTy).Contents (Elt F) → (⟨S4096, .i32⟩ : BufTy).Contents (Elt F)),
    binary main_v89 main_v96 main_v97 (cmpi .slt : (⟨S4096, .i32⟩ : BufTy).Contents (Elt F) → (⟨S4096, .i32⟩ : BufTy).Contents (Elt F) → (⟨S4096, .i1⟩ : BufTy).Contents (Elt F)),
    nullary main_c_25 (constantI S_ 32 1024#32),
    unary main_c_25 main_v98 (broadcastInDim S4096 ![] bcast_S_S4096 : (⟨S_, .i32⟩ : BufTy).Contents (Elt F) → (⟨S4096, .i32⟩ : BufTy).Contents (Elt F)),
    binary main_v89 main_v98 main_v99 (addi : (⟨S4096, .i32⟩ : BufTy).Contents (Elt F) → (⟨S4096, .i32⟩ : BufTy).Contents (Elt F) → (⟨S4096, .i32⟩ : BufTy).Contents (Elt F)),
    ternary main_v97 main_v99 main_v89 main_v100 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v95 main_v101 (broadcastInDim S4096x1 ![0] bcast_S4096_S4096x1_0 : (⟨S4096, .i32⟩ : BufTy).Contents (Elt F) → (⟨S4096x1, .i32⟩ : BufTy).Contents (Elt F)),
    unary main_v100 main_v102 (broadcastInDim S4096x1 ![0] bcast_S4096_S4096x1_0 : (⟨S4096, .i32⟩ : BufTy).Contents (Elt F) → (⟨S4096x1, .i32⟩ : BufTy).Contents (Elt F)),
    binary main_v101 main_v102 main_v103 (fn_pair (F := F)),
    binary main_v84 main_v103 main_v104 ((fun x i => Host.gather gather_S4096x1024_S4096x2_S4096_n_01_n_n_01_1_11 x i) : (⟨S4096x1024, .f32⟩ : BufTy).Contents (Elt F) → (⟨S4096x2, .i32⟩ : BufTy).Contents (Elt F) → (⟨S4096, .f32⟩ : BufTy).Contents (Elt F)),
    unary main_v104 main_v105 (Host.log : (⟨S4096, .f32⟩ : BufTy).Contents (Elt F) → (⟨S4096, .f32⟩ : BufTy).Contents (Elt F)),
    unary main_v105 main_v106 (broadcastInDim S4096x1 ![0] bcast_S4096_S4096x1_0 : (⟨S4096, .f32⟩ : BufTy).Contents (Elt F) → (⟨S4096x1, .f32⟩ : BufTy).Contents (Elt F)),
    unary main_v89 main_v107 (broadcastInDim S4096x1 ![0] bcast_S4096_S4096x1_0 : (⟨S4096, .i32⟩ : BufTy).Contents (Elt F) → (⟨S4096x1, .i32⟩ : BufTy).Contents (Elt F)),
    reshape main_v27 main_v108 (rfl : (.f32 : EltTy) = .f32) shapeCasts_S_S1x1 ]

set_option maxRecDepth 8192 in
set_option maxHeartbeats 4000000 in
/-- The reference's main function is these operations in order. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation names buffers of the TensorCore only. -/
theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., nullary_bufs_sub .., unary_bufs_sub .., unary_bufs_sub .., binary_bufs_sub .., unary_bufs_sub .., nullary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., nullary_bufs_sub .., nullary_bufs_sub .., quaternary_bufs_sub .., quaternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., reshape_bufs_sub ..⟩

/-- The reference's mixture of a launch memory. -/
abbrev rea (m : (ℓ : Loc nD τ sig) → Buf (Elt F) ℓ) (c : Dev nD) : FVec F S4096x1024 .f32 :=
  rRea (rTake (rSmax (rScores (rVe (m ((c.tc : Thread nD τ).loc main_arg1)) (m ((c.tc : Thread nD τ).loc main_arg6)) (m ((c.tc : Thread nD τ).loc main_arg7))) (rUx (m ((c.tc : Thread nD τ).loc main_arg0)) (m ((c.tc : Thread nD τ).loc main_arg4)) (m ((c.tc : Thread nD τ).loc main_arg5))))) (rIdxs (rLogits (m ((c.tc : Thread nD τ).loc main_arg0)) (m ((c.tc : Thread nD τ).loc main_arg2)) (m ((c.tc : Thread nD τ).loc main_arg3))))) (rGate (rVals (rLogits (m ((c.tc : Thread nD τ).loc main_arg0)) (m ((c.tc : Thread nD τ).loc main_arg2)) (m ((c.tc : Thread nD τ).loc main_arg3)))))

/-- The reference's first result, of a launch memory: the chosen positions. -/
def resSel (m : (ℓ : Loc nD τ sig) → Buf (Elt F) ℓ) (c : Dev nD) : Buf (Elt F) ((c.tc : Thread nD τ).loc main_v107) :=
  broadcastInDim S4096x1 ![0] bcast_S4096_S4096x1_0 (rSel (rCum (rea m c)))

/-- The reference's second result: the logarithms at the chosen positions. -/
def resLog (m : (ℓ : Loc nD τ sig) → Buf (Elt F) ℓ) (c : Dev nD) : Buf (Elt F) ((c.tc : Thread nD τ).loc main_v106) :=
  rLog (rea m c) (rSel (rCum (rea m c)))

/-- The reference's third result: the balance loss. -/
def resAux (m : (ℓ : Loc nD τ sig) → Buf (Elt F) ℓ) (c : Dev nD) : Buf (Elt F) ((c.tc : Thread nD τ).loc main_v108) :=
  rAux (rSoft (rLogits (m ((c.tc : Thread nD τ).loc main_arg0)) (m ((c.tc : Thread nD τ).loc main_arg2)) (m ((c.tc : Thread nD τ).loc main_arg3)))) (rHot (rIdxs (rLogits (m ((c.tc : Thread nD τ).loc main_arg0)) (m ((c.tc : Thread nD τ).loc main_arg2)) (m ((c.tc : Thread nD τ).loc main_arg3)))))

set_option maxRecDepth 8192 in
set_option maxHeartbeats 68800000 in
/-- From any memory with zero counters every weakly fair execution of the reference ends with each result at its
    composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = resSel m c
      ∧ r.2.mem ((c.tc : Thread nD τ).loc main_v106) = resLog m c
      ∧ r.2.mem ((c.tc : Thread nD τ).loc main_v108) = resAux m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v107).trans (by simp only [ops, TRef.binary, TRef.nullary, TRef.ternary, TRef.unary, TRef.quaternary, TRef.toBuf, TRef.ofBuf, cast_eq]; after_results_simp <;> rfl),
      (h c main_v106).trans (by simp only [ops, TRef.binary, TRef.nullary, TRef.ternary, TRef.unary, TRef.quaternary, TRef.toBuf, TRef.ofBuf, cast_eq]; after_results_simp <;> rfl),
      (h c main_v108).trans (by simp only [ops, TRef.binary, TRef.nullary, TRef.ternary, TRef.unary, TRef.quaternary, TRef.toBuf, TRef.ofBuf, cast_eq]; after_results_simp <;> rfl),
      (h c main_arg0).trans (by simp only [ops, TRef.binary, TRef.nullary, TRef.ternary, TRef.unary, TRef.quaternary, TRef.toBuf, TRef.ofBuf, cast_eq]; after_results_simp <;> rfl),
      (h c main_arg1).trans (by simp only [ops, TRef.binary, TRef.nullary, TRef.ternary, TRef.unary, TRef.quaternary, TRef.toBuf, TRef.ofBuf, cast_eq]; after_results_simp <;> rfl),
      (h c main_arg2).trans (by simp only [ops, TRef.binary, TRef.nullary, TRef.ternary, TRef.unary, TRef.quaternary, TRef.toBuf, TRef.ofBuf, cast_eq]; after_results_simp <;> rfl),
      (h c main_arg3).trans (by simp only [ops, TRef.binary, TRef.nullary, TRef.ternary, TRef.unary, TRef.quaternary, TRef.toBuf, TRef.ofBuf, cast_eq]; after_results_simp <;> rfl),
      (h c main_arg4).trans (by simp only [ops, TRef.binary, TRef.nullary, TRef.ternary, TRef.unary, TRef.quaternary, TRef.toBuf, TRef.ofBuf, cast_eq]; after_results_simp <;> rfl),
      (h c main_arg5).trans (by simp only [ops, TRef.binary, TRef.nullary, TRef.ternary, TRef.unary, TRef.quaternary, TRef.toBuf, TRef.ofBuf, cast_eq]; after_results_simp <;> rfl),
      (h c main_arg6).trans (by simp only [ops, TRef.binary, TRef.nullary, TRef.ternary, TRef.unary, TRef.quaternary, TRef.toBuf, TRef.ofBuf, cast_eq]; after_results_simp <;> rfl),
      (h c main_arg7).trans (by simp only [ops, TRef.binary, TRef.nullary, TRef.ternary, TRef.unary, TRef.quaternary, TRef.toBuf, TRef.ofBuf, cast_eq]; after_results_simp <;> rfl)⟩)
    (run_seq scopedRefs_eq scopedSems_eq defs main (fun _ => ops) main_eq (fun _ => ops_sub) m ρ)

end Cert.Ref

end
-- ==== Proof.Consts.lean ====
/- The real numbers that the constants' bit patterns denote. -/
module

public import Idealize.ShloMosaic.PureOps.Ideal
public import Idealize.ShloMosaic.PureOps.Ideal.Laws

@[expose] public section

noncomputable section

namespace Cert.Consts

open Idealize.ShloMosaic Idealize.SL.Sem

/-- The small positive number under which a norm is not taken. -/
def eps : ℝ := (Ideal.ofBits .f32 0x2B8CBCCC#32 : EReal).toReal
/-- The weight of the balance loss. -/
def wgt : ℝ := (Ideal.ofBits .f32 0x3D4CCCCD#32 : EReal).toReal

theorem eps_spec : (Ideal.ofBits .f32 0x2B8CBCCC#32 : EReal) = ((eps : ℝ) : EReal) ∧ 0 < eps := by
  unfold eps
  simp only [Ideal.ofBits, Ideal.ieee]
  norm_num [BitVec.extractLsb', Nat.shiftRight_eq_div_pow]
theorem wgt_eq : (Ideal.ofBits .f32 0x3D4CCCCD#32 : EReal) = ((wgt : ℝ) : EReal) := by
  unfold wgt
  simp only [Ideal.ofBits, Ideal.ieee]
  norm_num [BitVec.extractLsb', Nat.shiftRight_eq_div_pow]
theorem one_eq : (Ideal.ofBits .f32 0x3F800000#32 : EReal) = ((1 : ℝ) : EReal) := by
  simp only [Ideal.ofBits, Ideal.ieee]
  norm_num [BitVec.extractLsb', Nat.shiftRight_eq_div_pow]
theorem n4096_eq : (Ideal.ofBits .f32 0x45800000#32 : EReal) = ((4096 : ℝ) : EReal) := by
  simp only [Ideal.ofBits, Ideal.ieee]
  norm_num [BitVec.extractLsb', Nat.shiftRight_eq_div_pow]
theorem n8_eq : (Ideal.ofBits .f32 0x41000000#32 : EReal) = ((8 : ℝ) : EReal) := by
  simp only [Ideal.ofBits, Ideal.ieee]
  norm_num [BitVec.extractLsb', Nat.shiftRight_eq_div_pow]
theorem bot_eq : (Ideal.ofBits .f32 0xFF800000#32 : EReal) = ⊥ := by
  simp [Ideal.ofBits, Ideal.ieee, BitVec.extractLsb', Nat.shiftRight_eq_div_pow, FTy.bits]
theorem top_eq : (Ideal.ofBits .f32 0x7F800000#32 : EReal) = ⊤ := by
  simp [Ideal.ofBits, Ideal.ieee, BitVec.extractLsb', Nat.shiftRight_eq_div_pow, FTy.bits]

end Cert.Consts

end
-- ==== Proof.Lens.lean ====
/- Arrays of two axes as functions of two coordinates: what each vector operation of the kernel does to an array whose
   elements are real numbers. -/
module

public import Idealize.ShloMosaic.PureOps.Ideal
public import Idealize.ShloMosaic.PureOps.Ideal.Laws
public import Idealize.ShloMosaic.Lib.ValueIdxCore
public import Idealize.ShloMosaic.Lib.ValueLayout
public import Idealize.ShloMosaic.Lib.ValueLayoutCasts
public import Idealize.ShloMosaic.Lib.Pointwise.Contract
public import Idealize.ShloMosaic.Lib.Pipeline.Value

@[expose] public section

set_option maxRecDepth 16384

noncomputable section

namespace Cert.Lens

open Idealize.ShloMosaic Idealize.SL.Sem

/-- The array of two axes whose element at a pair of coordinates is a function's value there. -/
def mk {α : Type} {a b : ℕ} (f : Fin a → Fin b → α) : (⟨2, ![a, b]⟩ : Shape).Idx → α := fun i => f (i 0) (i 1)
/-- The array of one axis whose element at a coordinate is a function's value there. -/
def mk1 {α : Type} {a : ℕ} (f : Fin a → α) : (⟨1, ![a]⟩ : Shape).Idx → α := fun i => f (i 0)
/-- The array of real numbers of two axes whose element at a pair of coordinates is a function's value there. -/
def rv {a b : ℕ} (f : Fin a → Fin b → ℝ) : (⟨2, ![a, b]⟩ : Shape).Idx → EReal := mk fun i j => ((f i j : ℝ) : EReal)
/-- The array of real numbers of one axis whose element at a coordinate is a function's value there. -/
def rv1 {a : ℕ} (f : Fin a → ℝ) : (⟨1, ![a]⟩ : Shape).Idx → EReal := mk1 fun i => ((f i : ℝ) : EReal)

variable {a b c d n : ℕ} {α β : Type} {φ ψ : FTy}

theorem mk_ix2 (f : Fin a → Fin b → α) (i : Fin a) (j : Fin b) : mk f (ix2 i j) = f i j := rfl
theorem rv_ix2 (f : Fin a → Fin b → ℝ) (i : Fin a) (j : Fin b) : rv f (ix2 i j) = ((f i j : ℝ) : EReal) := rfl
theorem mk_inj {f g : Fin a → Fin b → α} (h : ∀ i j, f i j = g i j) : mk f = mk g :=
  congrArg mk (funext fun i => funext fun j => h i j)
theorem rv_inj {f g : Fin a → Fin b → ℝ} (h : ∀ i j, f i j = g i j) : rv f = rv g :=
  congrArg rv (funext fun i => funext fun j => h i j)
theorem mk_of {v : (⟨2, ![a, b]⟩ : Shape).Idx → α} {f : Fin a → Fin b → α} (h : ∀ i j, v (ix2 i j) = f i j) : v = mk f :=
  funext fun i => by rw [eq_ix2 i]; exact h _ _
theorem rv_of {v : (⟨2, ![a, b]⟩ : Shape).Idx → EReal} {f : Fin a → Fin b → ℝ} (h : ∀ i j, v (ix2 i j) = ((f i j : ℝ) : EReal)) :
    v = rv f := mk_of h

/-! ### Elementwise operations -/

theorem truncf_id (x : FVec Ideal (⟨2, ![a, b]⟩ : Shape) φ) (h : ψ.bits < φ.bits) : (truncf ψ x h : (⟨2, ![a, b]⟩ : Shape).Idx → EReal) = x := rfl
theorem extf_id (x : FVec Ideal (⟨2, ![a, b]⟩ : Shape) φ) (h : φ.bits < ψ.bits) : (extf ψ x h : (⟨2, ![a, b]⟩ : Shape).Idx → EReal) = x := rfl
theorem addf_rv (f g : Fin a → Fin b → ℝ) : (addf (F := Ideal) (φ := φ) (rv f) (rv g)) = rv fun i j => f i j + g i j := rfl
theorem subf_rv (f g : Fin a → Fin b → ℝ) : (subf (F := Ideal) (φ := φ) (rv f) (rv g)) = rv fun i j => f i j - g i j := rfl
theorem mulf_rv (f g : Fin a → Fin b → ℝ) : (mulf (F := Ideal) (φ := φ) (rv f) (rv g)) = rv fun i j => f i j * g i j := by
  refine rv_of fun i j => ?_
  show ((f i j : ℝ) : EReal) * ((g i j : ℝ) : EReal) = _
  norm_cast
theorem divf_rv (f g : Fin a → Fin b → ℝ) (h : ∀ i j, g i j ≠ 0) :
    (divf (F := Ideal) (φ := φ) (rv f) (rv g)) = rv fun i j => f i j / g i j := by
  refine rv_of fun i j => ?_
  refine (Ideal.div_coe (h i j) (f i j)).trans ?_
  rw [← EReal.coe_mul, mul_one_div]
theorem exp_rv (f : Fin a → Fin b → ℝ) : (exp (F := Ideal) (φ := φ) (rv f)) = rv fun i j => Real.exp (f i j) := rfl
theorem sqrt_rv (f : Fin a → Fin b → ℝ) (h : ∀ i j, 0 ≤ f i j) : (sqrt (F := Ideal) (φ := φ) (rv f)) = rv fun i j => Real.sqrt (f i j) := by
  refine rv_of fun i j => ?_
  show (if f i j < 0 then (⊥ : EReal) else ((Real.sqrt (f i j) : ℝ) : EReal)) = _
  rw [if_neg (not_lt.2 (h i j))]
theorem maximumf_rv (f g : Fin a → Fin b → ℝ) : (maximumf (F := Ideal) (φ := φ) (rv f) (rv g)) = rv fun i j => max (f i j) (g i j) := by
  refine rv_of fun i j => ?_
  exact (EReal.coe_strictMono.monotone.map_max (a := f i j) (b := g i j)).symm
theorem constant_zero : (constant (F := Ideal) (⟨2, ![a, b]⟩ : Shape) .f32 0x00000000#32) = rv fun _ _ => 0 := by
  funext i; exact Ideal.ofBits_zero_f32
theorem broadcast_zero : (broadcast (⟨2, ![a, b]⟩ : Shape) (Scalar.ofBits (F := Ideal) .f32 0x00000000#32)) = rv fun _ _ => 0 := by
  funext i; exact Ideal.ofBits_zero_f32
theorem broadcast_mk (x : α) : broadcast (⟨2, ![a, b]⟩ : Shape) x = mk fun _ _ => x := rfl

/-! ### Shape operations -/

theorem bcast_col (f : Fin a → Fin 1 → α) (h : (⟨2, ![a, 1]⟩ : Shape).Broadcasts ⟨2, ![a, b]⟩) :
    broadcastTo ⟨2, ![a, b]⟩ (mk f) h = mk fun i _ => f i 0 := by
  refine mk_of fun i j => ?_
  refine broadcastTo_apply (mk f) h (ix2 i j) (ix2 i (0 : Fin 1)) fun ax => ?_
  match ax with
  | ⟨0, _⟩ =>
    show i.val = if a = 1 then 0 else i.val
    split
    · have := i.isLt; omega
    · rfl
  | ⟨1, _⟩ => rfl
theorem bcast_row (f : Fin 1 → Fin b → α) (h : (⟨2, ![1, b]⟩ : Shape).Broadcasts ⟨2, ![a, b]⟩) :
    broadcastTo ⟨2, ![a, b]⟩ (mk f) h = mk fun _ j => f 0 j := by
  refine mk_of fun i j => ?_
  exact ValueIdx.broadcastTo_1b_ab_apply (mk f) h i j
theorem bcast_col_rv (f : Fin a → Fin 1 → ℝ) (h : (⟨2, ![a, 1]⟩ : Shape).Broadcasts ⟨2, ![a, b]⟩) :
    broadcastTo ⟨2, ![a, b]⟩ (rv f) h = rv fun i _ => f i 0 := bcast_col _ h
theorem bcast_row_rv (f : Fin 1 → Fin b → ℝ) (h : (⟨2, ![1, b]⟩ : Shape).Broadcasts ⟨2, ![a, b]⟩) :
    broadcastTo ⟨2, ![a, b]⟩ (rv f) h = rv fun _ j => f 0 j := bcast_row _ h
theorem cast_self (v : (⟨2, ![a, b]⟩ : Shape).Idx → α) (h : (⟨2, ![a, b]⟩ : Shape).ShapeCasts ⟨2, ![a, b]⟩) :
    shapeCast ⟨2, ![a, b]⟩ v h = v := shapeCast_self v h
theorem cast_col (f : Fin a → α) (h : (⟨1, ![a]⟩ : Shape).ShapeCasts ⟨2, ![a, 1]⟩) :
    shapeCast ⟨2, ![a, 1]⟩ (mk1 f) h = mk fun i _ => f i := mk_of fun i j => ValueIdx.shapeCast_a_a1_apply (mk1 f) h i j
theorem cast_row (f : Fin a → α) (h : (⟨1, ![a]⟩ : Shape).ShapeCasts ⟨2, ![1, a]⟩) :
    shapeCast ⟨2, ![1, a]⟩ (mk1 f) h = mk fun _ j => f j := mk_of fun i j => ValueIdx.shapeCast_a_1a_apply (mk1 f) h i j
theorem cast_col_rv (f : Fin a → ℝ) (h : (⟨1, ![a]⟩ : Shape).ShapeCasts ⟨2, ![a, 1]⟩) :
    shapeCast ⟨2, ![a, 1]⟩ (rv1 f) h = rv fun i _ => f i := cast_col _ h
theorem cast_row_rv (f : Fin a → ℝ) (h : (⟨1, ![a]⟩ : Shape).ShapeCasts ⟨2, ![1, a]⟩) :
    shapeCast ⟨2, ![1, a]⟩ (rv1 f) h = rv fun _ j => f j := cast_row _ h

/-! ### Reductions -/

theorem sum_coe {ι : Type} (s : Finset ι) (f : ι → ℝ) : (∑ i ∈ s, ((f i : ℝ) : EReal)) = ((∑ i ∈ s, f i : ℝ) : EReal) := by
  classical
  induction s using Finset.induction_on with
  | empty => simp
  | insert x s hx ih => rw [Finset.sum_insert hx, Finset.sum_insert hx, ih, EReal.coe_add]

theorem lift_row (h : (⟨2, ![a, b]⟩ : Shape).Reduces [1] ⟨1, ![a]⟩) (j : (⟨1, ![a]⟩ : Shape).Idx) (k : Fin b) :
    h.lift j k = ix2 (n0 := a) (n1 := b) (j 0) k := by
  funext x; apply Fin.ext
  match x with
  | ⟨0, _⟩ => rfl
  | ⟨1, _⟩ => rfl
theorem lift_col (h : (⟨2, ![a, b]⟩ : Shape).Reduces [0] ⟨1, ![b]⟩) (j : (⟨1, ![b]⟩ : Shape).Idx) (k : Fin a) :
    h.lift j k = ix2 (n0 := a) (n1 := b) k (j 0) := by
  funext x; apply Fin.ext
  match x with
  | ⟨0, _⟩ => rfl
  | ⟨1, _⟩ => rfl
theorem rowSum (f : Fin a → Fin b → ℝ) (acc : BitVec (FTy.f32).bits) (h : (⟨2, ![a, b]⟩ : Shape).Reduces [1] ⟨1, ![a]⟩)
    (hφ : FKind.Formats .f32) (hacc : acc = FKind.add.neutral .f32 hφ) :
    multiReduction (F := Ideal) .add [1] ⟨1, ![a]⟩ (rv f) acc h hφ hacc = rv1 fun i => ∑ k, f i k := by
  funext j
  rw [Ideal.multiReduction_add_single]
  show ∑ k : Fin b, _ = _
  simp only [lift_row]
  exact sum_coe _ _
theorem colSum (f : Fin a → Fin b → ℝ) (acc : BitVec (FTy.f32).bits) (h : (⟨2, ![a, b]⟩ : Shape).Reduces [0] ⟨1, ![b]⟩)
    (hφ : FKind.Formats .f32) (hacc : acc = FKind.add.neutral .f32 hφ) :
    multiReduction (F := Ideal) .add [0] ⟨1, ![b]⟩ (rv f) acc h hφ hacc = rv1 fun j => ∑ k, f k j := by
  funext j
  rw [Ideal.multiReduction_add_single]
  show ∑ k : Fin a, _ = _
  simp only [lift_col]
  exact sum_coe _ _
theorem rowMax (f : Fin a → Fin b → EReal) (acc : BitVec (FTy.f32).bits) (h : (⟨2, ![a, b]⟩ : Shape).Reduces [1] ⟨1, ![a]⟩)
    (hφ : FKind.Formats .f32) (hacc : acc = FKind.maximumf.neutral .f32 hφ) :
    multiReduction (F := Ideal) .maximumf [1] ⟨1, ![a]⟩ (mk f) acc h hφ hacc
      = mk1 fun i => (Finset.univ : Finset (Fin b)).fold max (FloatOps.ofBits (F := Ideal) .f32 acc) (f i) := by
  funext j
  rw [Ideal.multiReduction_maximumf_single]
  show (Finset.univ : Finset (Fin b)).fold max _ _ = _
  unfold mk1
  congr 1
theorem rowMin (f : Fin a → Fin b → BitVec 32) (acc : BitVec 32) (h : (⟨2, ![a, b]⟩ : Shape).Reduces [1] ⟨1, ![a]⟩)
    (hacc : acc = IKind.minsi.neutral) :
    multiReductionI .minsi [1] ⟨1, ![a]⟩ (mk f) acc h hacc
      = mk1 fun i => (Finset.univ : Finset (Fin b)).fold (IKind.minsi).op acc (f i) := by
  funext j
  rw [multiReductionI_eq_fold, h.fold_filter_drop_single]
  show (Finset.univ : Finset (Fin b)).fold _ _ _ = _
  unfold mk1
  congr 1

/-! ### Matrix products -/

/-- A product whose element is a sum over one contracted coordinate, of arrays of real numbers. -/
theorem matmul_rv {m n a b c d : ℕ} (D : DotDims ⟨2, ![a, b]⟩ ⟨2, ![c, d]⟩ ⟨2, ![m, n]⟩) {ax : Fin 2} (hc : D.lhsContracting = [ax])
    {K : ℕ} (hK : (⟨2, ![a, b]⟩ : Shape).size ax = K) (L : Fin m → Fin n → Fin K → Fin a × Fin b) (R : Fin m → Fin n → Fin K → Fin c × Fin d)
    (hL : ∀ i j k, Shape.Idx.norm (D.lhsIdx (ix2 i j) (D.contrIdx₁ hc hK k)) = ix2 (L i j k).1 (L i j k).2)
    (hR : ∀ i j k, Shape.Idx.norm (D.rhsIdx (ix2 i j) (D.contrIdx₁ hc hK k)) = ix2 (R i j k).1 (R i j k).2)
    (f : Fin a → Fin b → ℝ) (g : Fin c → Fin d → ℝ) :
    matmul (F := Ideal) (φ₁ := φ) (φ₂ := ψ) D none (rv f) (rv g) (rv fun _ _ => 0)
      = rv fun i j => ∑ k, f (L i j k).1 (L i j k).2 * g (R i j k).1 (R i j k).2 := by
  refine rv_of fun i j => ?_
  show Ideal.matmul D (rv f) (rv g) (rv fun _ _ => 0) (ix2 i j) = _
  rw [Ideal.matmul_apply₁_of D hc hK _ _ _ _ _ _ (hL i j) (hR i j), ← sum_coe]
  simp only [rv_ix2, EReal.coe_mul, EReal.coe_zero, zero_add]

end Cert.Lens

end
-- ==== Proof.Lens3.lean ====
/- Arrays of three axes as functions of three coordinates. -/
module

public import proofs.«01_k».proof.Proof.Lens

@[expose] public section

set_option maxRecDepth 16384

noncomputable section

namespace Cert.Lens

open Idealize.ShloMosaic Idealize.SL.Sem

variable {a b c : ℕ} {α : Type}

/-- The array of three axes whose element at a triple of coordinates is a function's value there. -/
def mk3 (f : Fin a → Fin b → Fin c → α) : (⟨3, ![a, b, c]⟩ : Shape).Idx → α := fun i => f (i 0) (i 1) (i 2)
/-- The array of real numbers of three axes whose element at a triple of coordinates is a function's value there. -/
def rv3 (f : Fin a → Fin b → Fin c → ℝ) : (⟨3, ![a, b, c]⟩ : Shape).Idx → EReal := mk3 fun i j k => ((f i j k : ℝ) : EReal)

theorem mk3_of {v : (⟨3, ![a, b, c]⟩ : Shape).Idx → α} {f : Fin a → Fin b → Fin c → α} (h : ∀ i j k, v (ix3 i j k) = f i j k) : v = mk3 f :=
  funext fun i => by rw [eq_ix3 i]; exact h _ _ _
theorem rv3_of {v : (⟨3, ![a, b, c]⟩ : Shape).Idx → EReal} {f : Fin a → Fin b → Fin c → ℝ} (h : ∀ i j k, v (ix3 i j k) = ((f i j k : ℝ) : EReal)) : v = rv3 f :=
  mk3_of h
theorem mk1_of {v : (⟨1, ![a]⟩ : Shape).Idx → α} {f : Fin a → α} (h : ∀ i, v (ix1 i) = f i) : v = mk1 f :=
  funext fun i => by rw [eq_ix1 i]; exact h _
theorem rv1_of {v : (⟨1, ![a]⟩ : Shape).Idx → EReal} {f : Fin a → ℝ} (h : ∀ i, v (ix1 i) = ((f i : ℝ) : EReal)) : v = rv1 f := mk1_of h

/-- A column's group, of 64 columns each. -/
abbrev gq (j : Fin 512) : Fin 8 := ⟨j.val / 64, by omega⟩
/-- A column's place in its group. -/
abbrev gm (j : Fin 512) : Fin 64 := ⟨j.val % 64, by omega⟩

/-- Merging the first two of three axes. -/
theorem cast_merge (f : Fin 8 → Fin 64 → Fin 384 → α) (h : (⟨3, ![8, 64, 384]⟩ : Shape).ShapeCasts ⟨2, ![512, 384]⟩) :
    shapeCast ⟨2, ![512, 384]⟩ (mk3 f) h = mk fun j d => f (gq j) (gm j) d :=
  mk_of fun j d => (shapeCast_apply (mk3 f) h (ix2 j d) (ix3 (gq j) (gm j) d) (by
    rw [Shape.rowMajor_val_three, Shape.rowMajor_val_two]
    show (j.val / 64 * 64 + j.val % 64) * 384 + d.val = j.val * 384 + d.val
    omega)).trans rfl
/-- Both axes of two to one column. -/
theorem cast_pile (f : Fin 8 → Fin 64 → α) (h : (⟨2, ![8, 64]⟩ : Shape).ShapeCasts ⟨2, ![512, 1]⟩) :
    shapeCast ⟨2, ![512, 1]⟩ (mk f) h = mk fun j _ => f (gq j) (gm j) :=
  mk_of fun j d => (shapeCast_apply (mk f) h (ix2 j d) (ix2 (gq j) (gm j)) (by
    rw [Shape.rowMajor_val_two, Shape.rowMajor_val_two]
    show j.val / 64 * 64 + j.val % 64 = j.val * 1 + d.val
    omega)).trans rfl
/-- Both axes of two to one row. -/
theorem cast_line (f : Fin 8 → Fin 64 → α) (h : (⟨2, ![8, 64]⟩ : Shape).ShapeCasts ⟨2, ![1, 512]⟩) :
    shapeCast ⟨2, ![1, 512]⟩ (mk f) h = mk fun _ j => f (gq j) (gm j) :=
  mk_of fun d j => (shapeCast_apply (mk f) h (ix2 d j) (ix2 (gq j) (gm j)) (by
    rw [Shape.rowMajor_val_two, Shape.rowMajor_val_two]
    show j.val / 64 * 64 + j.val % 64 = d.val * 512 + j.val
    omega)).trans rfl

end Cert.Lens

end
-- ==== Proof.Pick.lean ====
/- Choices among finitely many numbers: the first index with a property, the two greatest values with ties to the smaller
   index, and the folds that compute them. -/
module

public import proofs.«01_k».proof.Proof.Lens
public import proofs.«01_k».proof.Proof.Consts

@[expose] public section

noncomputable section

namespace Cert.Pick

open Idealize.ShloMosaic Idealize.SL.Sem

/-- One of two values, as a proposition holds or does not. -/
def ind {α : Type} (p : Prop) (x y : α) : α := @ite α p (Classical.propDecidable p) x y
theorem ind_pos {α : Type} {p : Prop} (h : p) (x y : α) : ind p x y = x := if_pos h
theorem ind_neg {α : Type} {p : Prop} (h : ¬ p) (x y : α) : ind p x y = y := if_neg h
theorem ind_ite {α : Type} (p : Prop) [Decidable p] (x y : α) : ind p x y = if p then x else y := by
  unfold ind; congr
theorem ind_congr {α : Type} {p q : Prop} (h : p ↔ q) (x y : α) : ind p x y = ind q x y := by
  rw [propext h]

/-- An index has a property that no smaller index has. -/
def IsFirst {n : ℕ} (p : Fin n → Prop) (i : Fin n) : Prop := p i ∧ ∀ j, j < i → ¬ p j
theorem IsFirst.unique {n : ℕ} {p : Fin n → Prop} {i j : Fin n} (hi : IsFirst p i) (hj : IsFirst p j) : i = j := by
  rcases lt_trichotomy i j with h | h | h
  · exact absurd hi.1 (hj.2 i h)
  · exact h
  · exact absurd hj.1 (hi.2 j h)
theorem exists_first {n : ℕ} (p : Fin n → Prop) (h : ∃ i, p i) : ∃ i, IsFirst p i := by
  classical
  have hne : (Finset.univ.filter p).Nonempty := by
    obtain ⟨i, hi⟩ := h
    exact ⟨i, by simp [hi]⟩
  refine ⟨(Finset.univ.filter p).min' hne, ?_, ?_⟩
  · have := Finset.min'_mem _ hne
    simpa using this
  · intro j hj hp
    exact absurd (Finset.min'_le _ j (by simp [hp])) (not_le.2 hj)

open Classical in
/-- The first index with a property, or a number where there is none. -/
def firstOr {n : ℕ} (p : Fin n → Prop) (d : ℕ) : ℕ := if h : ∃ i, p i then (Classical.choose (exists_first p h)).val else d
theorem firstOr_eq {n : ℕ} {p : Fin n → Prop} {i : Fin n} (h : IsFirst p i) (d : ℕ) : firstOr p d = i.val := by
  have hex : ∃ i, p i := ⟨i, h.1⟩
  unfold firstOr
  rw [dif_pos hex]
  exact congrArg Fin.val ((Classical.choose_spec (exists_first p hex)).unique h)
theorem firstOr_none {n : ℕ} {p : Fin n → Prop} (h : ∀ i, ¬ p i) (d : ℕ) : firstOr p d = d :=
  dif_neg fun ⟨i, hi⟩ => h i hi
theorem firstOr_le {n : ℕ} (p : Fin n → Prop) {d : ℕ} (hd : n ≤ d) : firstOr p d ≤ d := by
  by_cases hex : ∃ i, p i
  · obtain ⟨i, hi⟩ := exists_first p hex
    rw [firstOr_eq hi]; have := i.isLt; omega
  · rw [firstOr_none (fun i hi => hex ⟨i, hi⟩)]

/-- Among the indices that have a property, an index holds the greatest value, and no smaller one holds it. -/
def IsTop {n : ℕ} (P : Fin n → Prop) (l : Fin n → ℝ) (i : Fin n) : Prop :=
  P i ∧ (∀ j, P j → l j ≤ l i) ∧ ∀ j, P j → j < i → l j < l i
theorem IsTop.unique {n : ℕ} {P : Fin n → Prop} {l : Fin n → ℝ} {i j : Fin n} (hi : IsTop P l i) (hj : IsTop P l j) : i = j := by
  rcases lt_trichotomy i j with h | h | h
  · exact absurd (hj.2.2 i hi.1 h) (not_lt.2 (hi.2.1 j hj.1))
  · exact h
  · exact absurd (hi.2.2 j hj.1 h) (not_lt.2 (hj.2.1 i hi.1))
theorem exists_top {n : ℕ} (P : Fin n → Prop) (l : Fin n → ℝ) (h : ∃ i, P i) : ∃ i, IsTop P l i := by
  classical
  have hne : (Finset.univ.filter P).Nonempty := by
    obtain ⟨i, hi⟩ := h
    exact ⟨i, by simp [hi]⟩
  obtain ⟨m, hm, hmax⟩ := Finset.exists_max_image _ l hne
  have hPm : P m := by simpa using hm
  obtain ⟨i, ⟨hPi, hli⟩, hf⟩ := exists_first (fun i => P i ∧ l i = l m) ⟨m, hPm, rfl⟩
  refine ⟨i, hPi, fun j hj => ?_, fun j hj hlt => ?_⟩
  · rw [hli]; exact hmax j (by simp [hj])
  · have h1 : l j ≤ l m := hmax j (by simp [hj])
    rw [hli]
    exact lt_of_le_of_ne h1 fun e => hf j hlt ⟨hj, e⟩

/-- The index of the greatest of eight values. -/
def t1 (l : Fin 8 → ℝ) : Fin 8 := Classical.choose (exists_top (fun _ => True) l ⟨0, trivial⟩)
theorem t1_spec (l : Fin 8 → ℝ) : IsTop (fun _ => True) l (t1 l) := Classical.choose_spec (exists_top (fun _ => True) l ⟨0, trivial⟩)
theorem exists_ne (i : Fin 8) : ∃ j : Fin 8, j ≠ i := by
  rcases eq_or_ne i 0 with h | h
  · exact ⟨1, by rw [h]; decide⟩
  · exact ⟨0, h.symm⟩
/-- The index of the second greatest of eight values. -/
def t2 (l : Fin 8 → ℝ) : Fin 8 := Classical.choose (exists_top (fun j => j ≠ t1 l) l (exists_ne _))
theorem t2_spec (l : Fin 8 → ℝ) : IsTop (fun j => j ≠ t1 l) l (t2 l) := Classical.choose_spec (exists_top (fun j => j ≠ t1 l) l (exists_ne _))

theorem firstOr_t1 (l : Fin 8 → ℝ) (d : ℕ) : firstOr (fun j => l j = l (t1 l)) d = (t1 l).val :=
  firstOr_eq (p := fun j => l j = l (t1 l)) ⟨rfl, fun j hj e => absurd ((t1_spec l).2.2 j trivial hj) (by rw [e]; exact lt_irrefl _)⟩ d
theorem firstOr_t2 (l : Fin 8 → ℝ) (d : ℕ) : firstOr (fun j => j ≠ t1 l ∧ l j = l (t2 l)) d = (t2 l).val :=
  firstOr_eq (p := fun j => j ≠ t1 l ∧ l j = l (t2 l)) ⟨⟨(t2_spec l).1, rfl⟩, fun j hj e => absurd ((t2_spec l).2.2 j e.1 hj) (by rw [e.2]; exact lt_irrefl _)⟩ d

/-- The fold of maxima over values, one of which is the greatest, is that one. -/
theorem fold_max {n : ℕ} (f : Fin n → EReal) (i : Fin n) (h : ∀ j, f j ≤ f i) :
    (Finset.univ : Finset (Fin n)).fold max (⊥ : EReal) f = f i := by
  apply le_antisymm
  · exact (Finset.fold_max_le _).2 ⟨bot_le, fun j _ => h j⟩
  · exact (Finset.le_fold_max _).2 (Or.inr ⟨i, Finset.mem_univ i, le_refl _⟩)
theorem fold_t1 (l : Fin 8 → ℝ) : (Finset.univ : Finset (Fin 8)).fold max (⊥ : EReal) (fun j => ((l j : ℝ) : EReal)) = ((l (t1 l) : ℝ) : EReal) :=
  fold_max _ (t1 l) fun j => EReal.coe_le_coe_iff.2 ((t1_spec l).2.1 j trivial)
/-- The values with the greatest one's place replaced by minus infinity. -/
def rest (l : Fin 8 → ℝ) (j : Fin 8) : EReal := ind (j = t1 l) ⊥ ((l j : ℝ) : EReal)
theorem fold_t2 (l : Fin 8 → ℝ) : (Finset.univ : Finset (Fin 8)).fold max (⊥ : EReal) (rest l) = ((l (t2 l) : ℝ) : EReal) := by
  have h2 : rest l (t2 l) = ((l (t2 l) : ℝ) : EReal) := ind_neg (t2_spec l).1 _ _
  rw [← h2]
  refine fold_max _ (t2 l) fun j => ?_
  by_cases hj : j = t1 l
  · unfold rest; rw [ind_pos hj]; exact bot_le
  · rw [h2]; unfold rest; rw [ind_neg hj]; exact EReal.coe_le_coe_iff.2 ((t2_spec l).2.1 j hj)
theorem rest_eq (l : Fin 8 → ℝ) (j : Fin 8) : rest l j = ((l (t2 l) : ℝ) : EReal) ↔ j ≠ t1 l ∧ l j = l (t2 l) := by
  unfold rest
  by_cases hj : j = t1 l
  · rw [ind_pos hj]
    constructor
    · intro h; exact absurd h.symm (EReal.coe_ne_bot _)
    · intro h; exact absurd hj h.1
  · rw [ind_neg hj, EReal.coe_eq_coe_iff]
    exact ⟨fun h => ⟨hj, h⟩, fun h => h.2⟩

/-! ### The fold of signed minima -/

theorem toInt_small (x : ℕ) (hx : x < 2 ^ 31) : (BitVec.ofNat 32 x).toInt = x := by
  rw [BitVec.toInt_eq_toNat_cond, BitVec.toNat_ofNat]
  have h1 : x % 2 ^ 32 = x := Nat.mod_eq_of_lt (by omega)
  rw [h1, if_pos (by omega)]
theorem minsi_ofNat (x y : ℕ) (hx : x < 2 ^ 31) (hy : y < 2 ^ 31) :
    IntOp.minsi (BitVec.ofNat 32 x) (BitVec.ofNat 32 y) = BitVec.ofNat 32 (min x y) := by
  have hs : (BitVec.ofNat 32 x).slt (BitVec.ofNat 32 y) = decide (x < y) := by
    rw [BitVec.slt_eq_decide]
    rw [toInt_small x hx, toInt_small y hy]; simp
  unfold IntOp.minsi
  rw [hs]
  by_cases h : x < y
  · simp [h, min_eq_left h.le]
  · simp [h, min_eq_right (not_lt.1 h)]

theorem fold_minsi {n : ℕ} (v : Fin n → ℕ) (d : ℕ) (hd : d < 2 ^ 31) (hv : ∀ i, v i < 2 ^ 31) (s : Finset (Fin n)) :
    s.fold (IKind.minsi).op (BitVec.ofNat 32 d) (fun i => BitVec.ofNat 32 (v i)) = BitVec.ofNat 32 (s.fold min d v) ∧ s.fold min d v < 2 ^ 31 := by
  classical
  induction s using Finset.induction_on with
  | empty => simpa using hd
  | insert x s hx ih =>
    rw [Finset.fold_insert hx, Finset.fold_insert hx, ih.1]
    refine ⟨minsi_ofNat _ _ (hv x) ih.2, ?_⟩
    exact lt_of_le_of_lt (min_le_left _ _) (hv x)

/-- The least of the indices that have a property, the others replaced by a number at least the count: the first index, or that number. -/
theorem fold_first {n : ℕ} (hn : 0 < n) (p : Fin n → Prop) (d : ℕ) (hd : n ≤ d) (hd' : d < 2147483647) :
    (Finset.univ : Finset (Fin n)).fold (IKind.minsi).op 2147483647#32 (fun j => BitVec.ofNat 32 (ind (p j) j.val d)) = BitVec.ofNat 32 (firstOr p d) := by
  have hv : ∀ j : Fin n, ind (p j) j.val d ≤ d := by
    intro j
    unfold ind; split
    · have := j.isLt; omega
    · exact le_refl _
  refine ((fold_minsi (fun j : Fin n => ind (p j) j.val d) 2147483647 (by norm_num) (fun j => by have := hv j; omega) _).1).trans ?_
  congr 1
  by_cases hex : ∃ i, p i
  · obtain ⟨i, hi⟩ := exists_first p hex
    rw [firstOr_eq hi]
    apply le_antisymm
    · exact (Finset.fold_min_le _).2 (Or.inr ⟨i, Finset.mem_univ _, by rw [ind_pos hi.1]⟩)
    · refine (Finset.le_fold_min _).2 ⟨by have := i.isLt; omega, fun j _ => ?_⟩
      by_cases hp : p j
      · rw [ind_pos hp]
        by_contra h
        exact hi.2 j (by omega) hp
      · rw [ind_neg hp]; have := i.isLt; omega
  · have hp : ∀ i, ¬ p i := fun i hi => hex ⟨i, hi⟩
    rw [firstOr_none hp]
    apply le_antisymm
    · exact (Finset.fold_min_le _).2 (Or.inr ⟨⟨0, hn⟩, Finset.mem_univ _, by rw [ind_neg (hp _)]⟩)
    · exact (Finset.le_fold_min _).2 ⟨by omega, fun j _ => by rw [ind_neg (hp _)]⟩

end Cert.Pick

end
-- ==== Proof.IntLens.lean ====
/- Arrays of small natural numbers and of truth values as functions of two coordinates: what the kernel's integer operations,
   comparisons and selections do to them. -/
module

public import proofs.«01_k».proof.Proof.Pick

@[expose] public section

set_option maxRecDepth 16384

noncomputable section

namespace Cert.Lens

open Idealize.ShloMosaic Idealize.SL.Sem Cert.Pick

variable {a b c d n : ℕ} {α β : Type} {φ ψ : FTy}

/-- The array of 32-bit integers whose element is a natural number. -/
def nv (f : Fin a → Fin b → ℕ) : (⟨2, ![a, b]⟩ : Shape).Idx → BitVec 32 := mk fun i j => BitVec.ofNat 32 (f i j)
/-- The array of truth values whose element says whether a proposition holds. -/
def pv (p : Fin a → Fin b → Prop) : (⟨2, ![a, b]⟩ : Shape).Idx → BitVec 1 := mk fun i j => ind (p i j) 1#1 0#1

theorem pv_inj {p q : Fin a → Fin b → Prop} (h : ∀ i j, p i j ↔ q i j) : pv p = pv q := by
  have : p = q := funext fun i => funext fun j => propext (h i j)
  rw [this]
theorem nv_inj {f g : Fin a → Fin b → ℕ} (h : ∀ i j, f i j = g i j) : nv f = nv g := by
  have : f = g := funext fun i => funext fun j => h i j
  rw [this]

theorem ofBool_ind (p : Prop) [Decidable p] : BitVec.ofBool (decide p) = ind p 1#1 0#1 := by
  by_cases h : p
  · rw [ind_pos h]; simp [h]
  · rw [ind_neg h]; simp [h]

theorem eq_nv (f g : Fin a → Fin b → ℕ) (hf : ∀ i j, f i j < 2 ^ 31) (hg : ∀ i j, g i j < 2 ^ 31) :
    cmpi .eq (nv f) (nv g) = pv fun i j => f i j = g i j := by
  refine mk_of fun i j => ?_
  show BitVec.ofBool (BitVec.ofNat 32 (f i j) == BitVec.ofNat 32 (g i j)) = _
  rw [← ofBool_ind]
  congr 1
  rw [Bool.eq_iff_iff, beq_iff_eq, decide_eq_true_iff]
  constructor
  · intro h
    have := congrArg BitVec.toNat h
    rw [BitVec.toNat_ofNat, BitVec.toNat_ofNat] at this
    have := hf i j; have := hg i j
    omega
  · intro h; rw [h]
theorem slt_nv (f g : Fin a → Fin b → ℕ) (hf : ∀ i j, f i j < 2 ^ 31) (hg : ∀ i j, g i j < 2 ^ 31) :
    cmpi .slt (nv f) (nv g) = pv fun i j => f i j < g i j := by
  refine mk_of fun i j => ?_
  show BitVec.ofBool ((BitVec.ofNat 32 (f i j)).slt (BitVec.ofNat 32 (g i j))) = _
  rw [← ofBool_ind, BitVec.slt_eq_decide, toInt_small _ (hf i j), toInt_small _ (hg i j)]
  congr 1; simp
theorem sle_nv (f g : Fin a → Fin b → ℕ) (hf : ∀ i j, f i j < 2 ^ 31) (hg : ∀ i j, g i j < 2 ^ 31) :
    cmpi .sle (nv f) (nv g) = pv fun i j => f i j ≤ g i j := by
  refine mk_of fun i j => ?_
  show BitVec.ofBool ((BitVec.ofNat 32 (f i j)).sle (BitVec.ofNat 32 (g i j))) = _
  rw [← ofBool_ind, BitVec.sle_eq_decide, toInt_small _ (hf i j), toInt_small _ (hg i j)]
  congr 1; simp
theorem sge_nv (f g : Fin a → Fin b → ℕ) (hf : ∀ i j, f i j < 2 ^ 31) (hg : ∀ i j, g i j < 2 ^ 31) :
    cmpi .sge (nv f) (nv g) = pv fun i j => g i j ≤ f i j := by
  refine mk_of fun i j => ?_
  show BitVec.ofBool ((BitVec.ofNat 32 (g i j)).sle (BitVec.ofNat 32 (f i j))) = _
  rw [← ofBool_ind, BitVec.sle_eq_decide, toInt_small _ (hf i j), toInt_small _ (hg i j)]
  congr 1; simp
theorem muli_nv (f g : Fin a → Fin b → ℕ) : muli (nv f) (nv g) = nv fun i j => f i j * g i j := by
  refine mk_of fun i j => ?_
  show BitVec.ofNat 32 (f i j) * BitVec.ofNat 32 (g i j) = _
  rw [← BitVec.ofNat_mul]
theorem addi_nv (f g : Fin a → Fin b → ℕ) : addi (nv f) (nv g) = nv fun i j => f i j + g i j := by
  refine mk_of fun i j => ?_
  show BitVec.ofNat 32 (f i j) + BitVec.ofNat 32 (g i j) = _
  rw [← BitVec.ofNat_add]
theorem broadcast_nv (x : ℕ) : broadcast (⟨2, ![a, b]⟩ : Shape) (BitVec.ofNat 32 x) = nv fun _ _ => x := rfl
theorem bcast_col_nv (f : Fin a → Fin 1 → ℕ) (h : (⟨2, ![a, 1]⟩ : Shape).Broadcasts ⟨2, ![a, b]⟩) :
    broadcastTo ⟨2, ![a, b]⟩ (nv f) h = nv fun i _ => f i 0 := bcast_col _ h
theorem bcast_col_pv (f : Fin a → Fin 1 → Prop) (h : (⟨2, ![a, 1]⟩ : Shape).Broadcasts ⟨2, ![a, b]⟩) :
    broadcastTo ⟨2, ![a, b]⟩ (pv f) h = pv fun i _ => f i 0 := bcast_col _ h
theorem iota0_nv (κ : Kind) (h : (⟨2, ![a, b]⟩ : Shape).Iotas κ 32 [0]) : iota κ ⟨2, ![a, b]⟩ 32 [0] h = nv fun i _ => i.val := by
  refine mk_of fun i j => ?_
  show BitVec.ofNat 32 (0 * a + i.val) = _
  rw [Nat.zero_mul, Nat.zero_add]
theorem iota1_nv (κ : Kind) (h : (⟨2, ![a, b]⟩ : Shape).Iotas κ 32 [1]) : iota κ ⟨2, ![a, b]⟩ 32 [1] h = nv fun _ j => j.val := by
  refine mk_of fun i j => ?_
  show BitVec.ofNat 32 (0 * b + j.val) = _
  rw [Nat.zero_mul, Nat.zero_add]

theorem select_mk (p : Fin a → Fin b → Prop) (f g : Fin a → Fin b → α) :
    select (pv p) (mk f) (mk g) = mk fun i j => ind (p i j) (f i j) (g i j) := by
  refine mk_of fun i j => ?_
  show (if ind (p i j) 1#1 0#1 = 1 then f i j else g i j) = _
  by_cases h : p i j
  · rw [ind_pos h, ind_pos h]; rfl
  · rw [ind_neg h, ind_neg h]; rfl
theorem ind_coe (p : Prop) (x y : ℝ) : ind p (x : EReal) (y : EReal) = ((ind p x y : ℝ) : EReal) := by
  unfold ind; split <;> rfl
theorem ind_ofNat (p : Prop) (x y : ℕ) : ind p (BitVec.ofNat 32 x) (BitVec.ofNat 32 y) = BitVec.ofNat 32 (ind p x y) := by
  unfold ind; split <;> rfl
theorem select_rv (p : Fin a → Fin b → Prop) (f g : Fin a → Fin b → ℝ) :
    select (pv p) (rv f) (rv g) = rv fun i j => ind (p i j) (f i j) (g i j) :=
  (select_mk p _ _).trans (mk_inj fun _ _ => ind_coe _ _ _)
theorem select_nv (p : Fin a → Fin b → Prop) (f g : Fin a → Fin b → ℕ) :
    select (pv p) (nv f) (nv g) = nv fun i j => ind (p i j) (f i j) (g i j) :=
  (select_mk p _ _).trans (mk_inj fun _ _ => ind_ofNat _ _ _)
theorem ogt_rv (f g : Fin a → Fin b → ℝ) : cmpf (F := Ideal) (φ := φ) .ogt (rv f) (rv g) = pv fun i j => g i j < f i j := by
  refine mk_of fun i j => ?_
  show BitVec.ofBool (decide (((g i j : ℝ) : EReal) < ((f i j : ℝ) : EReal))) = _
  rw [ofBool_ind, ind_congr EReal.coe_lt_coe_iff]
theorem oeq_mk (f g : Fin a → Fin b → EReal) : cmpf (F := Ideal) (φ := φ) .oeq (mk f) (mk g) = pv fun i j => f i j = g i j := by
  refine mk_of fun i j => ?_
  show BitVec.ofBool (decide (f i j = g i j)) = _
  rw [ofBool_ind]
theorem hot_pv (p : Fin a → Fin b → Prop) (h : 1 < 32) : sitofp (F := Ideal) φ (extui 32 (pv p) h) = rv fun i j => ind (p i j) 1 0 := by
  refine rv_of fun i j => ?_
  show ((((ind (p i j) 1#1 0#1 : BitVec 1).setWidth 32).toInt : ℝ) : EReal) = _
  by_cases h : p i j
  · rw [ind_pos h, ind_pos h]; norm_num
  · rw [ind_neg h, ind_neg h]; norm_num
theorem rowFirst (p : Fin a → Fin b → Prop) (hb : 0 < b) (e : ℕ) (he : b ≤ e) (he' : e < 2147483647) (h : (⟨2, ![a, b]⟩ : Shape).Reduces [1] ⟨1, ![a]⟩)
    (hacc : 2147483647#32 = IKind.minsi.neutral) :
    multiReductionI .minsi [1] ⟨1, ![a]⟩ (nv fun i j => ind (p i j) j.val e) 2147483647#32 h hacc
      = mk1 fun i => BitVec.ofNat 32 (firstOr (p i) e) := by
  refine (rowMin _ _ h hacc).trans ?_
  exact congrArg mk1 (funext fun i => fold_first hb (p i) e he he')
theorem slice_rv (f : Fin a → Fin b → ℝ) (o : ℕ) (h : (⟨2, ![a, b]⟩ : Shape).Slices ![0, o] ⟨2, ![a, c]⟩) (hc : o + c ≤ b) :
    extractStridedSlice ⟨2, ![a, c]⟩ ![0, o] (rv f) h = rv fun i j => f i ⟨o + j.val, by have := j.isLt; omega⟩ := by
  refine rv_of fun i j => ?_
  show ((f ⟨0 + i.val, _⟩ ⟨o + j.val, _⟩ : ℝ) : EReal) = _
  congr 2
  apply Fin.ext; exact Nat.zero_add _
theorem log_rv (f : Fin a → Fin b → ℝ) : log (F := Ideal) (φ := φ) (rv f) = mk fun i j => Ideal.log ((f i j : ℝ) : EReal) := rfl
theorem bcast_const (x : BitVec 32) (r : ℝ) (h : (Ideal.ofBits .f32 x : EReal) = ((r : ℝ) : EReal)) :
    broadcast (⟨2, ![a, b]⟩ : Shape) (Scalar.ofBits (F := Ideal) .f32 x) = rv fun _ _ => r := by
  funext i; exact h
theorem broadcast_bf (h : True) : broadcast (⟨2, ![a, b]⟩ : Shape) (Scalar.sitofp (F := Ideal) .bf16 0#32) = rv fun _ _ => 0 := by
  funext i; show (((0#32 : BitVec 32).toInt : ℝ) : EReal) = _; norm_num; rfl

end Cert.Lens

end
-- ==== Proof.HostLens.lean ====
/- What the reference program's operations do to arrays whose elements are real numbers. -/
module

public import proofs.«01_k».proof.Proof.Lens3
public import proofs.«01_k».proof.Proof.Consts
public import proofs.«01_k».proof.Proof.IntLens

@[expose] public section

set_option maxRecDepth 16384

noncomputable section

namespace Cert.Lens

open Idealize.ShloMosaic Idealize.SL.Sem

variable {a b c n : ℕ} {α : Type} {φ : FTy}

theorem mk1_inj {f g : Fin a → α} (h : ∀ i, f i = g i) : mk1 f = mk1 g := congrArg mk1 (funext h)
theorem rv1_inj {f g : Fin a → ℝ} (h : ∀ i, f i = g i) : rv1 f = rv1 g := congrArg rv1 (funext h)
theorem mk3_inj {f g : Fin a → Fin b → Fin c → α} (h : ∀ i j k, f i j k = g i j k) : mk3 f = mk3 g :=
  congrArg mk3 (funext fun i => funext fun j => funext fun k => h i j k)
theorem rv3_inj {f g : Fin a → Fin b → Fin c → ℝ} (h : ∀ i j k, f i j k = g i j k) : rv3 f = rv3 g :=
  congrArg rv3 (funext fun i => funext fun j => funext fun k => h i j k)
theorem mk_app (f : Fin a → Fin b → α) (i : Fin a) (j : Fin b) : mk f (ix2 i j) = f i j := rfl
theorem mk3_app (f : Fin a → Fin b → Fin c → α) (i : Fin a) (j : Fin b) (k : Fin c) : mk3 f (ix3 i j k) = f i j k := rfl

/-- A constant of no axes spread over a shape. -/
theorem bid_all (t : Shape) (dims : Fin (⟨0, ![]⟩ : Shape).rank → Fin t.rank) (h : (⟨0, ![]⟩ : Shape).BroadcastsInDim t dims) (x : α) :
    broadcastInDim t dims h (fun _ : (⟨0, ![]⟩ : Shape).Idx => x) = fun _ => x := by
  funext j; exact broadcastInDim_apply dims h _ j (fun a => a.elim0) fun a => a.elim0

theorem bid_0 (f : Fin a → α) (h : (⟨1, ![a]⟩ : Shape).BroadcastsInDim (⟨2, ![a, 1]⟩ : Shape) ![0]) :
    broadcastInDim (⟨2, ![a, 1]⟩ : Shape) ![0] h (mk1 f) = mk fun i _ => f i := by
  refine mk_of fun i j => ?_
  refine broadcastInDim_apply _ h (mk1 f) (ix2 i j) (ix1 i) fun ax => ?_
  match ax with
  | ⟨0, _⟩ =>
    show i.val = if a = 1 then 0 else i.val
    split
    · have := i.isLt; omega
    · rfl
theorem bid_0_rv (f : Fin a → ℝ) (h : (⟨1, ![a]⟩ : Shape).BroadcastsInDim (⟨2, ![a, 1]⟩ : Shape) ![0]) :
    broadcastInDim (⟨2, ![a, 1]⟩ : Shape) ![0] h (rv1 f) = rv fun i _ => f i := bid_0 _ h
theorem bid_1 (f : Fin b → α) (h : (⟨1, ![b]⟩ : Shape).BroadcastsInDim (⟨2, ![1, b]⟩ : Shape) ![1]) :
    broadcastInDim (⟨2, ![1, b]⟩ : Shape) ![1] h (mk1 f) = mk fun _ j => f j := by
  refine mk_of fun i j => ?_
  refine broadcastInDim_apply _ h (mk1 f) (ix2 i j) (ix1 j) fun ax => ?_
  match ax with
  | ⟨0, _⟩ =>
    show j.val = if b = 1 then 0 else j.val
    split
    · have := j.isLt; omega
    · rfl
theorem bid_1_rv (f : Fin b → ℝ) (h : (⟨1, ![b]⟩ : Shape).BroadcastsInDim (⟨2, ![1, b]⟩ : Shape) ![1]) :
    broadcastInDim (⟨2, ![1, b]⟩ : Shape) ![1] h (rv1 f) = rv fun _ j => f j := bid_1 _ h
theorem bid_col (f : Fin a → Fin 1 → α) (h : (⟨2, ![a, 1]⟩ : Shape).BroadcastsInDim (⟨2, ![a, b]⟩ : Shape) ![0, 1]) :
    broadcastInDim (⟨2, ![a, b]⟩ : Shape) ![0, 1] h (mk f) = mk fun i _ => f i 0 := by
  refine mk_of fun i j => ?_
  refine broadcastInDim_apply _ h (mk f) (ix2 i j) (ix2 i (0 : Fin 1)) fun ax => ?_
  match ax with
  | ⟨0, _⟩ =>
    show i.val = if a = 1 then 0 else i.val
    split
    · have := i.isLt; omega
    · rfl
  | ⟨1, _⟩ => rfl
theorem bid_col_rv (f : Fin a → Fin 1 → ℝ) (h : (⟨2, ![a, 1]⟩ : Shape).BroadcastsInDim (⟨2, ![a, b]⟩ : Shape) ![0, 1]) :
    broadcastInDim (⟨2, ![a, b]⟩ : Shape) ![0, 1] h (rv f) = rv fun i _ => f i 0 := bid_col _ h
theorem bid_row (f : Fin 1 → Fin b → α) (h : (⟨2, ![1, b]⟩ : Shape).BroadcastsInDim (⟨2, ![a, b]⟩ : Shape) ![0, 1]) :
    broadcastInDim (⟨2, ![a, b]⟩ : Shape) ![0, 1] h (mk f) = mk fun _ j => f 0 j := by
  refine mk_of fun i j => ?_
  refine broadcastInDim_apply _ h (mk f) (ix2 i j) (ix2 (0 : Fin 1) j) fun ax => ?_
  match ax with
  | ⟨0, _⟩ => rfl
  | ⟨1, _⟩ =>
    show j.val = if b = 1 then 0 else j.val
    split
    · have := j.isLt; omega
    · rfl
theorem bid_row_rv (f : Fin 1 → Fin b → ℝ) (h : (⟨2, ![1, b]⟩ : Shape).BroadcastsInDim (⟨2, ![a, b]⟩ : Shape) ![0, 1]) :
    broadcastInDim (⟨2, ![a, b]⟩ : Shape) ![0, 1] h (rv f) = rv fun _ j => f 0 j := bid_row _ h
theorem bid_01 (f : Fin a → Fin b → α) (h : (⟨2, ![a, b]⟩ : Shape).BroadcastsInDim (⟨3, ![a, b, c]⟩ : Shape) ![0, 1]) :
    broadcastInDim (⟨3, ![a, b, c]⟩ : Shape) ![0, 1] h (mk f) = mk3 fun i j _ => f i j := by
  refine mk3_of fun i j k => ?_
  refine broadcastInDim_apply _ h (mk f) (ix3 i j k) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
theorem bid_01_rv (f : Fin a → Fin b → ℝ) (h : (⟨2, ![a, b]⟩ : Shape).BroadcastsInDim (⟨3, ![a, b, c]⟩ : Shape) ![0, 1]) :
    broadcastInDim (⟨3, ![a, b, c]⟩ : Shape) ![0, 1] h (rv f) = rv3 fun i j _ => f i j := bid_01 _ h
theorem bid_12 (f : Fin b → Fin c → α) (h : (⟨2, ![b, c]⟩ : Shape).BroadcastsInDim (⟨3, ![1, b, c]⟩ : Shape) ![1, 2]) :
    broadcastInDim (⟨3, ![1, b, c]⟩ : Shape) ![1, 2] h (mk f) = mk3 fun _ j k => f j k := by
  refine mk3_of fun i j k => ?_
  refine broadcastInDim_apply _ h (mk f) (ix3 i j k) (ix2 j k) fun ax => ?_
  match ax with
  | ⟨0, _⟩ =>
    show j.val = if b = 1 then 0 else j.val
    split
    · have := j.isLt; omega
    · rfl
  | ⟨1, _⟩ =>
    show k.val = if c = 1 then 0 else k.val
    split
    · have := k.isLt; omega
    · rfl
theorem bid_12_rv (f : Fin b → Fin c → ℝ) (h : (⟨2, ![b, c]⟩ : Shape).BroadcastsInDim (⟨3, ![1, b, c]⟩ : Shape) ![1, 2]) :
    broadcastInDim (⟨3, ![1, b, c]⟩ : Shape) ![1, 2] h (rv f) = rv3 fun _ j k => f j k := bid_12 _ h
theorem bid_02 (f : Fin a → Fin c → α) (h : (⟨2, ![a, c]⟩ : Shape).BroadcastsInDim (⟨3, ![a, 1, c]⟩ : Shape) ![0, 2]) :
    broadcastInDim (⟨3, ![a, 1, c]⟩ : Shape) ![0, 2] h (mk f) = mk3 fun i _ k => f i k := by
  refine mk3_of fun i j k => ?_
  refine broadcastInDim_apply _ h (mk f) (ix3 i j k) (ix2 i k) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl
theorem bid_02_rv (f : Fin a → Fin c → ℝ) (h : (⟨2, ![a, c]⟩ : Shape).BroadcastsInDim (⟨3, ![a, 1, c]⟩ : Shape) ![0, 2]) :
    broadcastInDim (⟨3, ![a, 1, c]⟩ : Shape) ![0, 2] h (rv f) = rv3 fun i _ k => f i k := bid_02 _ h
theorem bid_c (f : Fin a → Fin b → Fin 1 → α) (h : (⟨3, ![a, b, 1]⟩ : Shape).BroadcastsInDim (⟨3, ![a, b, c]⟩ : Shape) ![0, 1, 2]) :
    broadcastInDim (⟨3, ![a, b, c]⟩ : Shape) ![0, 1, 2] h (mk3 f) = mk3 fun i j _ => f i j 0 := by
  refine mk3_of fun i j k => ?_
  refine broadcastInDim_apply _ h (mk3 f) (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
theorem bid_c_rv (f : Fin a → Fin b → Fin 1 → ℝ) (h : (⟨3, ![a, b, 1]⟩ : Shape).BroadcastsInDim (⟨3, ![a, b, c]⟩ : Shape) ![0, 1, 2]) :
    broadcastInDim (⟨3, ![a, b, c]⟩ : Shape) ![0, 1, 2] h (rv3 f) = rv3 fun i j _ => f i j 0 := bid_c _ h
theorem bid_a (f : Fin 1 → Fin b → Fin c → α) (h : (⟨3, ![1, b, c]⟩ : Shape).BroadcastsInDim (⟨3, ![a, b, c]⟩ : Shape) ![0, 1, 2]) :
    broadcastInDim (⟨3, ![a, b, c]⟩ : Shape) ![0, 1, 2] h (mk3 f) = mk3 fun _ j k => f 0 j k := by
  refine mk3_of fun i j k => ?_
  refine broadcastInDim_apply _ h (mk3 f) (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
theorem bid_a_rv (f : Fin 1 → Fin b → Fin c → ℝ) (h : (⟨3, ![1, b, c]⟩ : Shape).BroadcastsInDim (⟨3, ![a, b, c]⟩ : Shape) ![0, 1, 2]) :
    broadcastInDim (⟨3, ![a, b, c]⟩ : Shape) ![0, 1, 2] h (rv3 f) = rv3 fun _ j k => f 0 j k := bid_a _ h
theorem bid_b (f : Fin a → Fin 1 → Fin c → α) (h : (⟨3, ![a, 1, c]⟩ : Shape).BroadcastsInDim (⟨3, ![a, b, c]⟩ : Shape) ![0, 1, 2]) :
    broadcastInDim (⟨3, ![a, b, c]⟩ : Shape) ![0, 1, 2] h (mk3 f) = mk3 fun i _ k => f i 0 k := by
  refine mk3_of fun i j k => ?_
  refine broadcastInDim_apply _ h (mk3 f) (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
theorem bid_b_rv (f : Fin a → Fin 1 → Fin c → ℝ) (h : (⟨3, ![a, 1, c]⟩ : Shape).BroadcastsInDim (⟨3, ![a, b, c]⟩ : Shape) ![0, 1, 2]) :
    broadcastInDim (⟨3, ![a, b, c]⟩ : Shape) ![0, 1, 2] h (rv3 f) = rv3 fun i _ k => f i 0 k := bid_b _ h
theorem bid_ab (f : Fin 1 → Fin 1 → Fin c → α) (h : (⟨3, ![1, 1, c]⟩ : Shape).BroadcastsInDim (⟨3, ![a, b, c]⟩ : Shape) ![0, 1, 2]) :
    broadcastInDim (⟨3, ![a, b, c]⟩ : Shape) ![0, 1, 2] h (mk3 f) = mk3 fun _ _ k => f 0 0 k := by
  refine mk3_of fun i j k => ?_
  refine broadcastInDim_apply _ h (mk3 f) (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl
theorem bid_ab_rv (f : Fin 1 → Fin 1 → Fin c → ℝ) (h : (⟨3, ![1, 1, c]⟩ : Shape).BroadcastsInDim (⟨3, ![a, b, c]⟩ : Shape) ![0, 1, 2]) :
    broadcastInDim (⟨3, ![a, b, c]⟩ : Shape) ![0, 1, 2] h (rv3 f) = rv3 fun _ _ k => f 0 0 k := bid_ab _ h

/-! ### Elementwise operations -/

theorem map3 (F : EReal → EReal) (g : ℝ → ℝ) (f : Fin a → Fin b → Fin c → ℝ) (h : ∀ i j k, F ((f i j k : ℝ) : EReal) = ((g (f i j k) : ℝ) : EReal)) :
    (fun i => F (rv3 f i)) = rv3 fun i j k => g (f i j k) := rv3_of h
theorem hexp2 (f : Fin a → Fin b → ℝ) : Host.exp (F := Ideal) (φ := φ) (rv f) = rv fun i j => Real.exp (f i j) := rfl
theorem hexp3 (f : Fin a → Fin b → Fin c → ℝ) : Host.exp (F := Ideal) (φ := φ) (rv3 f) = rv3 fun i j k => Real.exp (f i j k) := rfl
theorem hdiv1 (f g : Fin a → ℝ) (h : ∀ i, g i ≠ 0) : Host.divf (F := Ideal) (φ := φ) (rv1 f) (rv1 g) = rv1 fun i => f i / g i := by
  refine rv1_of fun i => ?_
  refine (Ideal.div_coe (h i) (f i)).trans ?_
  rw [← EReal.coe_mul, mul_one_div]
theorem hdiv2 (f g : Fin a → Fin b → ℝ) (h : ∀ i j, g i j ≠ 0) : Host.divf (F := Ideal) (φ := φ) (rv f) (rv g) = rv fun i j => f i j / g i j := by
  refine rv_of fun i j => ?_
  refine (Ideal.div_coe (h i j) (f i j)).trans ?_
  rw [← EReal.coe_mul, mul_one_div]
theorem hdiv3 (f g : Fin a → Fin b → Fin c → ℝ) (h : ∀ i j k, g i j k ≠ 0) : Host.divf (F := Ideal) (φ := φ) (rv3 f) (rv3 g) = rv3 fun i j k => f i j k / g i j k := by
  refine rv3_of fun i j k => ?_
  refine (Ideal.div_coe (h i j k) (f i j k)).trans ?_
  rw [← EReal.coe_mul, mul_one_div]
theorem hsqrt3 (f : Fin a → Fin b → Fin c → ℝ) (h : ∀ i j k, 0 ≤ f i j k) : Host.sqrt (F := Ideal) (φ := φ) (rv3 f) = rv3 fun i j k => Real.sqrt (f i j k) := by
  refine rv3_of fun i j k => ?_
  show (if f i j k < 0 then (⊥ : EReal) else ((Real.sqrt (f i j k) : ℝ) : EReal)) = _
  rw [if_neg (not_lt.2 (h i j k))]
theorem add3 (f g : Fin a → Fin b → Fin c → ℝ) : addf (F := Ideal) (φ := φ) (rv3 f) (rv3 g) = rv3 fun i j k => f i j k + g i j k := rfl
theorem sub3 (f g : Fin a → Fin b → Fin c → ℝ) : subf (F := Ideal) (φ := φ) (rv3 f) (rv3 g) = rv3 fun i j k => f i j k - g i j k := rfl
theorem mul3 (f g : Fin a → Fin b → Fin c → ℝ) : mulf (F := Ideal) (φ := φ) (rv3 f) (rv3 g) = rv3 fun i j k => f i j k * g i j k := by
  refine rv3_of fun i j k => ?_
  show ((f i j k : ℝ) : EReal) * ((g i j k : ℝ) : EReal) = _
  norm_cast
theorem mul1 (f g : Fin a → ℝ) : mulf (F := Ideal) (φ := φ) (rv1 f) (rv1 g) = rv1 fun i => f i * g i := by
  refine rv1_of fun i => ?_
  show ((f i : ℝ) : EReal) * ((g i : ℝ) : EReal) = _
  norm_cast
theorem max3 (f g : Fin a → Fin b → Fin c → ℝ) : maximumf (F := Ideal) (φ := φ) (rv3 f) (rv3 g) = rv3 fun i j k => max (f i j k) (g i j k) := by
  refine rv3_of fun i j k => ?_
  exact (EReal.coe_strictMono.monotone.map_max (a := f i j k) (b := g i j k)).symm
/-- The maximum with minus infinity. -/
theorem max_bot {s : Shape} (x : s.Idx → EReal) : maximumf (F := Ideal) (φ := φ) (fun _ => (⊥ : EReal)) x = x := by
  funext i; exact max_bot_left (x i)

/-! ### Reductions -/

theorem lift_32 (h : (⟨3, ![a, b, c]⟩ : Shape).Reduces [2] ⟨2, ![a, b]⟩) (i : Fin a) (j : Fin b) (k : Fin c) : h.lift (ix2 i j) k = ix3 i j k := by
  funext x; apply Fin.ext
  match x with
  | ⟨0, _⟩ => rfl
  | ⟨1, _⟩ => rfl
  | ⟨2, _⟩ => rfl
theorem lift_31 (h : (⟨3, ![a, b, c]⟩ : Shape).Reduces [1] ⟨2, ![a, c]⟩) (i : Fin a) (j : Fin c) (k : Fin b) : h.lift (ix2 i j) k = ix3 i k j := by
  funext x; apply Fin.ext
  match x with
  | ⟨0, _⟩ => rfl
  | ⟨1, _⟩ => rfl
  | ⟨2, _⟩ => rfl
/-- The zero every sum starts from. -/
abbrev Z : (⟨0, ![]⟩ : Shape).Idx → EReal := constant (F := Ideal) (⟨0, ![]⟩ : Shape) .f32 0x00000000#32
/-- The minus infinity every maximum starts from. -/
abbrev B : (⟨0, ![]⟩ : Shape).Idx → EReal := constant (F := Ideal) (⟨0, ![]⟩ : Shape) .f32 0xFF800000#32
theorem B_eq : (constant (F := Ideal) (⟨0, ![]⟩ : Shape) .f32 0xFF800000#32) = fun _ => (⊥ : EReal) := by funext i; exact Consts.bot_eq
theorem Z_eq : (constant (F := Ideal) (⟨0, ![]⟩ : Shape) .f32 0x00000000#32) = fun _ => (0 : EReal) := by funext i; exact Ideal.ofBits_zero_f32
theorem hsum_21 (f : Fin a → Fin b → ℝ) (h' : (⟨2, ![a, b]⟩ : Shape).ReducesTo [1] ⟨1, ![a]⟩) (h : (⟨2, ![a, b]⟩ : Shape).Reduces [1] ⟨1, ![a]⟩) (hu : 0 < (⟨0, ![]⟩ : Shape).numel) :
    Host.reduceAdd (F := Ideal) (φ := .f32) (rv f) Z h' hu = rv1 fun i => ∑ k, f i k := by
  funext j
  refine (Ideal.hostReduceAdd_single h' h _ _ j).trans ?_
  rw [show Z (Shape.Idx.first hu) = (0 : EReal) from Ideal.ofBits_zero_f32, zero_add]
  show ∑ k : Fin b, _ = _
  simp only [lift_row]
  exact sum_coe _ _
theorem hsum_20 (f : Fin a → Fin b → ℝ) (h' : (⟨2, ![a, b]⟩ : Shape).ReducesTo [0] ⟨1, ![b]⟩) (h : (⟨2, ![a, b]⟩ : Shape).Reduces [0] ⟨1, ![b]⟩) (hu : 0 < (⟨0, ![]⟩ : Shape).numel) :
    Host.reduceAdd (F := Ideal) (φ := .f32) (rv f) Z h' hu = rv1 fun j => ∑ k, f k j := by
  funext j
  refine (Ideal.hostReduceAdd_single h' h _ _ j).trans ?_
  rw [show Z (Shape.Idx.first hu) = (0 : EReal) from Ideal.ofBits_zero_f32, zero_add]
  show ∑ k : Fin a, _ = _
  simp only [lift_col]
  exact sum_coe _ _
theorem hsum_32 (f : Fin a → Fin b → Fin c → ℝ) (h' : (⟨3, ![a, b, c]⟩ : Shape).ReducesTo [2] ⟨2, ![a, b]⟩) (h : (⟨3, ![a, b, c]⟩ : Shape).Reduces [2] ⟨2, ![a, b]⟩) (hu : 0 < (⟨0, ![]⟩ : Shape).numel) :
    Host.reduceAdd (F := Ideal) (φ := .f32) (rv3 f) Z h' hu = rv fun i j => ∑ k, f i j k := by
  refine rv_of fun i j => ?_
  refine (Ideal.hostReduceAdd_single h' h _ _ _).trans ?_
  rw [show Z (Shape.Idx.first hu) = (0 : EReal) from Ideal.ofBits_zero_f32, zero_add]
  show ∑ k : Fin c, _ = _
  simp only [lift_32]
  exact sum_coe _ _
theorem hsum_31 (f : Fin a → Fin b → Fin c → ℝ) (h' : (⟨3, ![a, b, c]⟩ : Shape).ReducesTo [1] ⟨2, ![a, c]⟩) (h : (⟨3, ![a, b, c]⟩ : Shape).Reduces [1] ⟨2, ![a, c]⟩) (hu : 0 < (⟨0, ![]⟩ : Shape).numel) :
    Host.reduceAdd (F := Ideal) (φ := .f32) (rv3 f) Z h' hu = rv fun i j => ∑ k, f i k j := by
  refine rv_of fun i j => ?_
  refine (Ideal.hostReduceAdd_single h' h _ _ _).trans ?_
  rw [show Z (Shape.Idx.first hu) = (0 : EReal) from Ideal.ofBits_zero_f32, zero_add]
  show ∑ k : Fin b, _ = _
  simp only [lift_31]
  exact sum_coe _ _
/-- The greatest of some real numbers is a real number. -/
theorem fold_max_real {m : ℕ} (hm : 0 < m) (f : Fin m → ℝ) : ∃ M : ℝ, (Finset.univ : Finset (Fin m)).fold max (⊥ : EReal) (fun k => ((f k : ℝ) : EReal)) = ((M : ℝ) : EReal) := by
  have key : ∀ s : Finset (Fin m), s.Nonempty → ∃ M : ℝ, s.fold max (⊥ : EReal) (fun k => ((f k : ℝ) : EReal)) = ((M : ℝ) : EReal) := by
    intro s hs
    induction hs using Finset.Nonempty.cons_induction with
    | singleton x => exact ⟨f x, by simp⟩
    | cons x s hx _ ih =>
      obtain ⟨M, hM⟩ := ih
      exact ⟨max (f x) M, by rw [Finset.fold_cons, hM]; exact (EReal.coe_strictMono.monotone.map_max (a := f x) (b := M)).symm⟩
  exact key _ ⟨⟨0, hm⟩, Finset.mem_univ _⟩
theorem hmax_21 (hb : 0 < b) (f : Fin a → Fin b → ℝ) (h' : (⟨2, ![a, b]⟩ : Shape).ReducesTo [1] ⟨1, ![a]⟩) (h : (⟨2, ![a, b]⟩ : Shape).Reduces [1] ⟨1, ![a]⟩) (hu : 0 < (⟨0, ![]⟩ : Shape).numel) :
    ∃ M : Fin a → ℝ, Host.reduce (FloatOps.maximumf (F := Ideal) (φ := .f32)) (rv f) B h' hu = rv1 M := by
  choose M hM using fun i : Fin a => fold_max_real hb (f i)
  refine ⟨M, rv1_of fun i => ?_⟩
  haveI : Std.Commutative (FloatOps.maximumf (F := Ideal) (φ := .f32)) := ⟨fun x y => max_comm (α := EReal) x y⟩
  haveI : Std.Associative (FloatOps.maximumf (F := Ideal) (φ := .f32)) := ⟨fun x y z => max_assoc (α := EReal) x y z⟩
  rw [Host.reduce_eq_fold_single _ _ _ h' h hu, show B (Shape.Idx.first hu) = (⊥ : EReal) from Consts.bot_eq, ← hM]
  show (Finset.univ : Finset (Fin b)).fold max _ _ = _
  congr 1
theorem hmax_32 (hc : 0 < c) (f : Fin a → Fin b → Fin c → ℝ) (h' : (⟨3, ![a, b, c]⟩ : Shape).ReducesTo [2] ⟨2, ![a, b]⟩) (h : (⟨3, ![a, b, c]⟩ : Shape).Reduces [2] ⟨2, ![a, b]⟩) (hu : 0 < (⟨0, ![]⟩ : Shape).numel) :
    ∃ M : Fin a → Fin b → ℝ, Host.reduce (FloatOps.maximumf (F := Ideal) (φ := .f32)) (rv3 f) B h' hu = rv M := by
  choose M hM using fun (i : Fin a) (j : Fin b) => fold_max_real hc (f i j)
  refine ⟨M, rv_of fun i j => ?_⟩
  haveI : Std.Commutative (FloatOps.maximumf (F := Ideal) (φ := .f32)) := ⟨fun x y => max_comm (α := EReal) x y⟩
  haveI : Std.Associative (FloatOps.maximumf (F := Ideal) (φ := .f32)) := ⟨fun x y z => max_assoc (α := EReal) x y z⟩
  rw [Host.reduce_eq_fold_single _ _ _ h' h hu, show B (Shape.Idx.first hu) = (⊥ : EReal) from Consts.bot_eq, ← hM]
  show (Finset.univ : Finset (Fin c)).fold max _ _ = _
  congr 1

/-! ### Transposes -/

theorem tr_10 (f : Fin a → Fin b → α) (h : (⟨2, ![a, b]⟩ : Shape).Transposes [1, 0] ⟨2, ![b, a]⟩) : transpose ⟨2, ![b, a]⟩ [1, 0] (mk f) h = mk fun i j => f j i := by
  refine mk_of fun i j => transpose_apply _ _ h (ix2 i j) (ix2 j i) fun x => ?_
  match x with
  | ⟨0, _⟩ => rfl
  | ⟨1, _⟩ => rfl
theorem tr_021 (f : Fin a → Fin b → Fin c → α) (h : (⟨3, ![a, b, c]⟩ : Shape).Transposes [0, 2, 1] ⟨3, ![a, c, b]⟩) : transpose ⟨3, ![a, c, b]⟩ [0, 2, 1] (mk3 f) h = mk3 fun i j k => f i k j := by
  refine mk3_of fun i j k => transpose_apply _ _ h (ix3 i j k) (ix3 i k j) fun x => ?_
  match x with
  | ⟨0, _⟩ => rfl
  | ⟨1, _⟩ => rfl
  | ⟨2, _⟩ => rfl
theorem tr_201 (f : Fin a → Fin b → Fin c → α) (h : (⟨3, ![a, b, c]⟩ : Shape).Transposes [2, 0, 1] ⟨3, ![c, a, b]⟩) : transpose ⟨3, ![c, a, b]⟩ [2, 0, 1] (mk3 f) h = mk3 fun i j k => f j k i := by
  refine mk3_of fun i j k => transpose_apply _ _ h (ix3 i j k) (ix3 j k i) fun x => ?_
  match x with
  | ⟨0, _⟩ => rfl
  | ⟨1, _⟩ => rfl
  | ⟨2, _⟩ => rfl

end Cert.Lens

end
-- ==== Proof.Finite.lean ====
/- What the precondition says of an array at the extended reals: every element is a real number. -/
module

public import proofs.«01_k».proof.Pre_finite
public import proofs.«01_k».proof.Proof.Consts
public import proofs.«01_k».proof.Proof.HostLens
public import Idealize.ShloMosaic.PureOps.Ideal
public import Idealize.ShloMosaic.PureOps.Ideal.Laws

@[expose] public section

namespace Cert.Finite

open Idealize.ShloMosaic Idealize.SL.Sem

/-- The side conditions that the precondition's function states hold. -/
instance facts : Cert.Pre_finite.Facts :=
  ⟨by decide, by decide, by decide, by decide, by decide, by decide⟩

/-- An array whose mask "absolute value below infinity" is all ones holds real numbers only. -/
theorem real_of_mask {s : Shape} (x : FVec Ideal s .f32) (b : FVec Ideal s .f32)
    (hb : ∀ i, b i = (⊤ : EReal)) (h : cmpf .olt (Host.absf x) b = fun _ => 1#1) :
    ∃ f : s.Idx → ℝ, x = fun i => ((f i : ℝ) : EReal) := by
  have key : ∀ i, ∃ r : ℝ, x i = ((r : ℝ) : EReal) := by
    intro i
    have e : BitVec.ofBool (decide (max (x i : EReal) (-x i) < b i)) = 1#1 := congrFun h i
    rw [hb i] at e
    have lt : max (x i : EReal) (-x i) < ⊤ := by
      by_contra hn
      rw [decide_eq_false hn] at e
      exact absurd e (by decide)
    have h1 : (x i : EReal) ≠ ⊤ := fun t => by rw [t] at lt; simp at lt
    have h2 : (x i : EReal) ≠ ⊥ := fun t => by rw [t] at lt; simp at lt
    exact ⟨(x i : EReal).toReal, (EReal.coe_toReal h1 h2).symm⟩
  choose f hf using key
  exact ⟨f, funext hf⟩

theorem mask_top (t : Shape) (h : Cert.Pre_finite.S_.BroadcastsInDim t ![]) (i : t.Idx) :
    broadcastInDim t ![] h (constant (F := Ideal) Cert.Pre_finite.S_ .f32 0x7F800000#32) i = (⊤ : EReal) := Consts.top_eq

open Cert.Lens

theorem one_axis {a : ℕ} (x : FVec Ideal ⟨1, ![a]⟩ .f32) (h' : Cert.Pre_finite.S_.BroadcastsInDim ⟨1, ![a]⟩ ![])
    (h : cmpf .olt (Host.absf x) (broadcastInDim _ ![] h' (constant (F := Ideal) Cert.Pre_finite.S_ .f32 0x7F800000#32)) = fun _ => 1#1) : ∃ f, x = rv1 f := by
  obtain ⟨f, e⟩ := real_of_mask x _ (mask_top _ h') h
  exact ⟨fun i => f (ix1 i), rv1_of fun i => by rw [e]⟩
theorem two_axes {a b : ℕ} (x : FVec Ideal ⟨2, ![a, b]⟩ .f32) (h' : Cert.Pre_finite.S_.BroadcastsInDim ⟨2, ![a, b]⟩ ![])
    (h : cmpf .olt (Host.absf x) (broadcastInDim _ ![] h' (constant (F := Ideal) Cert.Pre_finite.S_ .f32 0x7F800000#32)) = fun _ => 1#1) : ∃ f, x = rv f := by
  obtain ⟨f, e⟩ := real_of_mask x _ (mask_top _ h') h
  exact ⟨fun i j => f (ix2 i j), rv_of fun i j => by rw [e]⟩
theorem three_axes {a b c : ℕ} (x : FVec Ideal ⟨3, ![a, b, c]⟩ .f32) (h' : Cert.Pre_finite.S_.BroadcastsInDim ⟨3, ![a, b, c]⟩ ![])
    (h : cmpf .olt (Host.absf x) (broadcastInDim _ ![] h' (constant (F := Ideal) Cert.Pre_finite.S_ .f32 0x7F800000#32)) = fun _ => 1#1) : ∃ f, x = rv3 f := by
  obtain ⟨f, e⟩ := real_of_mask x _ (mask_top _ h') h
  exact ⟨fun i j k => f (ix3 i j k), rv3_of fun i j k => by rw [e]⟩

end Cert.Finite

end
-- ==== Proof.RefDots.lean ====
/- The reference program's products, of arrays of real numbers, as sums. -/
module

public import proofs.«01_k».proof.Proof.RefStages
public import proofs.«01_k».proof.Proof.HostLens

@[expose] public section

set_option maxRecDepth 16384

noncomputable section

namespace Cert.RefDots

open Cert.ReferenceIdeal Cert.ReferenceIdeal.Gen Idealize.ShloMosaic Idealize.SL.Sem Cert.Lens

theorem rdot0 (f : Fin 4096 → Fin 384 → ℝ) (g : Fin 384 → Fin 8 → ℝ) :
    Host.dotGeneral (F := Ideal) (φ₁ := .f32) (φ₂ := .f32) dot_S4096x384_S384x8_S4096x8_1_0_0_1_n_n none (rv f) (rv g) = rv fun i j => ∑ k, f i k * g k j := by
  refine rv_of fun i j => ?_
  show Ideal.matmul dot_S4096x384_S384x8_S4096x8_1_0_0_1_n_n (rv f) (rv g) (fun _ => 0) (ix2 i j) = _
  rw [Ideal.matmul_apply₁_of dot_S4096x384_S384x8_S4096x8_1_0_0_1_n_n (a := 1) rfl (K := 384) rfl _ _ _ _ (fun k => ix2 i k) (fun k => ix2 k j)
    (fun _ => by funext x; apply Fin.ext; match x with | ⟨0, _⟩ => rfl | ⟨1, _⟩ => rfl)
    (fun _ => by funext x; apply Fin.ext; match x with | ⟨0, _⟩ => rfl | ⟨1, _⟩ => rfl), ← sum_coe, zero_add]
  simp only [rv_ix2, EReal.coe_mul]

theorem rdot1 (f : Fin 4096 → Fin 384 → ℝ) (g : Fin 8 → Fin 64 → Fin 384 → ℝ) :
    Host.dotGeneral (F := Ideal) (φ₁ := .f32) (φ₂ := .f32) dot_S4096x384_S8x64x384_S4096x8x64_1_2_0_01_n_n none (rv f) (rv3 g) = rv3 fun i r h => ∑ k, f i k * g r h k := by
  refine rv3_of fun i r h => ?_
  show Ideal.matmul dot_S4096x384_S8x64x384_S4096x8x64_1_2_0_01_n_n (rv f) (rv3 g) (fun _ => 0) (ix3 i r h) = _
  rw [Ideal.matmul_apply₁_of dot_S4096x384_S8x64x384_S4096x8x64_1_2_0_01_n_n (a := 1) rfl (K := 384) rfl _ _ _ _ (fun k => ix2 i k) (fun k => ix3 r h k)
    (fun _ => by funext x; apply Fin.ext; match x with | ⟨0, _⟩ => rfl | ⟨1, _⟩ => rfl)
    (fun _ => by funext x; apply Fin.ext; match x with | ⟨0, _⟩ => rfl | ⟨1, _⟩ => rfl | ⟨2, _⟩ => rfl), ← sum_coe, zero_add]
  simp only [rv_ix2, EReal.coe_mul]
  rfl

theorem rdot2 (g : Fin 8 → Fin 64 → Fin 384 → ℝ) (f : Fin 1024 → Fin 384 → ℝ) :
    Host.dotGeneral (F := Ideal) (φ₁ := .f32) (φ₂ := .f32) dot_S8x64x384_S1024x384_S8x64x1024_2_1_01_0_n_n none (rv3 g) (rv f) = rv3 fun r h e => ∑ k, g r h k * f e k := by
  refine rv3_of fun r h e => ?_
  show Ideal.matmul dot_S8x64x384_S1024x384_S8x64x1024_2_1_01_0_n_n (rv3 g) (rv f) (fun _ => 0) (ix3 r h e) = _
  rw [Ideal.matmul_apply₁_of dot_S8x64x384_S1024x384_S8x64x1024_2_1_01_0_n_n (a := 2) rfl (K := 384) rfl _ _ _ _ (fun k => ix3 r h k) (fun k => ix2 e k)
    (fun _ => by funext x; apply Fin.ext; match x with | ⟨0, _⟩ => rfl | ⟨1, _⟩ => rfl | ⟨2, _⟩ => rfl)
    (fun _ => by funext x; apply Fin.ext; match x with | ⟨0, _⟩ => rfl | ⟨1, _⟩ => rfl), ← sum_coe, zero_add]
  simp only [rv_ix2, EReal.coe_mul]
  rfl

theorem rdot3 (g : Fin 8 → Fin 1024 → Fin 64 → ℝ) (f : Fin 4096 → Fin 8 → Fin 64 → ℝ) :
    Host.dotGeneral (F := Ideal) (φ₁ := .f32) (φ₂ := .f32) dot_S8x1024x64_S4096x8x64_S8x1024x4096_2_2_1_0_0_1 none (rv3 g) (rv3 f) = rv3 fun r e i => ∑ k, g r e k * f i r k := by
  refine rv3_of fun r e i => ?_
  show Ideal.matmul dot_S8x1024x64_S4096x8x64_S8x1024x4096_2_2_1_0_0_1 (rv3 g) (rv3 f) (fun _ => 0) (ix3 r e i) = _
  rw [Ideal.matmul_apply₁_of dot_S8x1024x64_S4096x8x64_S8x1024x4096_2_2_1_0_0_1 (a := 2) rfl (K := 64) rfl _ _ _ _ (fun k => ix3 r e k) (fun k => ix3 i r k)
    (fun _ => by funext x; apply Fin.ext; match x with | ⟨0, _⟩ => rfl | ⟨1, _⟩ => rfl | ⟨2, _⟩ => rfl)
    (fun _ => by funext x; apply Fin.ext; match x with | ⟨0, _⟩ => rfl | ⟨1, _⟩ => rfl | ⟨2, _⟩ => rfl), ← sum_coe, zero_add]
  refine Finset.sum_congr rfl fun k _ => ?_
  exact (EReal.coe_mul _ _).symm

end Cert.RefDots

end
-- ==== Proof.RefVal.lean ====
/- The reference program's stages at arrays of real numbers. -/
module

public import proofs.«01_k».proof.Proof.RefDots

@[expose] public section

set_option maxRecDepth 16384

noncomputable section

namespace Cert.RefVal

open Cert.ReferenceIdeal Cert.ReferenceIdeal.Gen Idealize.ShloMosaic Idealize.SL.Sem Cert.Lens Cert.Ref Cert.RefDots

/-- A quotient of exponentials does not change when the exponents are shifted. -/
theorem shift {n : ℕ} (l : Fin n → ℝ) (c : ℝ) (r : Fin n) : Real.exp (l r - c) / ∑ k, Real.exp (l k - c) = Real.exp (l r) / ∑ k, Real.exp (l k) := by
  have e : ∀ k, Real.exp (l k - c) = Real.exp (l k) * Real.exp (-c) := fun k => by rw [← Real.exp_add, sub_eq_add_neg]
  simp only [e, ← Finset.sum_mul]
  exact mul_div_mul_right _ _ (Real.exp_ne_zero _)
theorem sum_exp_ne {n : ℕ} (hn : 0 < n) (l : Fin n → ℝ) : ∑ k, Real.exp (l k) ≠ 0 :=
  (Finset.sum_pos (fun k _ => Real.exp_pos _) ⟨⟨0, hn⟩, Finset.mem_univ _⟩).ne'
/-- The quotient of exponentials. -/
def sm {n : ℕ} (l : Fin n → ℝ) (r : Fin n) : ℝ := Real.exp (l r) / ∑ k, Real.exp (l k)

theorem logits (X : Fin 4096 → Fin 384 → ℝ) (gw : Fin 8 → Fin 384 → ℝ) (gb : Fin 8 → ℝ) :
    rLogits (F := Ideal) (rv X) (rv gw) (rv1 gb) = rv fun i r => (∑ d, X i d * gw r d) + gb r := by
  unfold rLogits
  dsimp only
  rw [show transpose S384x8 [1, 0] (rv gw) transposes_S8x384_S384x8_1_0 = rv fun d r => gw r d from tr_10 _ _, rdot0,
    show broadcastInDim S1x8 ![1] bcast_S8_S1x8_1 (rv1 gb) = rv fun _ r => gb r from bid_1_rv _ _,
    show broadcastInDim S4096x8 ![0, 1] bcast_S1x8_S4096x8_0_1 (rv fun _ r => gb r) = rv fun _ r => gb r from bid_row_rv _ _, addf_rv]

theorem softmax8 (f : Fin 4096 → Fin 8 → ℝ) : rSoft (F := Ideal) (rv f) = rv fun i r => sm (f i) r := by
  obtain ⟨M, hM⟩ := hmax_21 (by norm_num) f reducesTo_S4096x8_S4096_d1 (by decide) h_S_
  unfold rSoft
  dsimp only
  rw [B_eq, bid_all S4096, max_bot, ← B_eq, hM,
    show broadcastInDim S4096x1 ![0] bcast_S4096_S4096x1_0 (rv1 M) = rv fun i _ => M i from bid_0_rv _ _,
    show broadcastInDim S4096x8 ![0, 1] bcast_S4096x1_S4096x8_0_1 (rv fun i _ => M i) = rv fun i _ => M i from bid_col_rv _ _,
    subf_rv, hexp2, hsum_21 _ _ (by decide),
    show broadcastInDim S4096x1 ![0] bcast_S4096_S4096x1_0 (rv1 fun i => ∑ k, Real.exp (f i k - M i)) = rv fun i _ => _ from bid_0_rv _ _,
    show broadcastInDim S4096x8 ![0, 1] bcast_S4096x1_S4096x8_0_1 (rv fun i _ => ∑ k, Real.exp (f i k - M i)) = rv fun i _ => _ from bid_col_rv _ _,
    hdiv2 _ _ fun i _ => sum_exp_ne (by norm_num) _]
  exact rv_inj fun i r => shift _ _ _

theorem softmax2 (f : Fin 4096 → Fin 2 → ℝ) : rGate (F := Ideal) (rv f) = rv fun i r => sm (f i) r := by
  obtain ⟨M, hM⟩ := hmax_21 (by norm_num) f reducesTo_S4096x2_S4096_d1 (by decide) h_S_
  unfold rGate
  dsimp only
  rw [B_eq, bid_all S4096, max_bot, ← B_eq, hM,
    show broadcastInDim S4096x1 ![0] bcast_S4096_S4096x1_0 (rv1 M) = rv fun i _ => M i from bid_0_rv _ _,
    show broadcastInDim S4096x2 ![0, 1] bcast_S4096x1_S4096x2_0_1 (rv fun i _ => M i) = rv fun i _ => M i from bid_col_rv _ _,
    subf_rv, hexp2, hsum_21 _ _ (by decide),
    show broadcastInDim S4096x1 ![0] bcast_S4096_S4096x1_0 (rv1 fun i => ∑ k, Real.exp (f i k - M i)) = rv fun i _ => _ from bid_0_rv _ _,
    show broadcastInDim S4096x2 ![0, 1] bcast_S4096x1_S4096x2_0_1 (rv fun i _ => ∑ k, Real.exp (f i k - M i)) = rv fun i _ => _ from bid_col_rv _ _,
    hdiv2 _ _ fun i _ => sum_exp_ne (by norm_num) _]
  exact rv_inj fun i r => shift _ _ _

theorem softmaxE (f : Fin 4096 → Fin 8 → Fin 1024 → ℝ) : rSmax (F := Ideal) (rv3 f) = rv3 fun i r e => sm (f i r) e := by
  obtain ⟨M, hM⟩ := hmax_32 (by norm_num) f reducesTo_S4096x8x1024_S4096x8_d2 (by decide) h_S_
  unfold rSmax
  dsimp only
  rw [B_eq, bid_all S4096x8, max_bot, ← B_eq, hM,
    show broadcastInDim S4096x8x1 ![0, 1] bcast_S4096x8_S4096x8x1_0_1 (rv M) = rv3 fun i r _ => M i r from bid_01_rv _ _,
    show broadcastInDim S4096x8x1024 ![0, 1, 2] bcast_S4096x8x1_S4096x8x1024_0_1_2 (rv3 fun i r _ => M i r) = rv3 fun i r _ => M i r from bid_c_rv _ _,
    sub3, hexp3, hsum_32 _ _ (by decide),
    show broadcastInDim S4096x8x1 ![0, 1] bcast_S4096x8_S4096x8x1_0_1 (rv fun i r => ∑ k, Real.exp (f i r k - M i r)) = rv3 fun i r _ => _ from bid_01_rv _ _,
    show broadcastInDim S4096x8x1024 ![0, 1, 2] bcast_S4096x8x1_S4096x8x1024_0_1_2 (rv3 fun i r _ => ∑ k, Real.exp (f i r k - M i r)) = rv3 fun i r _ => _ from bid_c_rv _ _,
    hdiv3 _ _ fun i r _ => sum_exp_ne (by norm_num) _]
  exact rv3_inj fun i r e => shift _ _ _

/-- The balance loss of a table of probabilities and a table of choices. -/
theorem balance (f g : Fin 4096 → Fin 8 → ℝ) : rAux (F := Ideal) (rv f) (rv g) = rv fun _ _ => 8 * (∑ r, (∑ i, f i r) / 4096 * ((∑ i, g i r) / 4096)) * Consts.wgt := by
  have c4 : (constant (F := Ideal) S_ .f32 0x45800000#32) = fun _ => ((4096 : ℝ) : EReal) := by funext i; exact Consts.n4096_eq
  have e4 : broadcastInDim S8 ![] bcast_S_S8 (constant (F := Ideal) S_ .f32 0x45800000#32) = rv1 fun _ => (4096 : ℝ) := by
    rw [c4]; exact bid_all S8 _ _ _
  unfold rAux
  dsimp only
  rw [hsum_20 f _ (by decide), hsum_20 g _ (by decide), e4, hdiv1 _ _ fun _ => by norm_num, hdiv1 _ _ fun _ => by norm_num, mul1]
  funext j
  refine (shapeCast_apply _ shapeCasts_S_S1x1 j (fun a => a.elim0) (by
    have h1 := (S_.rowMajor (fun a => a.elim0)).isLt
    have h2 := (S1x1.rowMajor j).isLt
    have e1 : S_.numel = 1 := rfl
    have e2 : S1x1.numel = 1 := rfl
    omega)).trans ?_
  have hs : Host.reduceAdd (F := Ideal) (φ := .f32) (rv1 fun r => (∑ i, f i r) / 4096 * ((∑ i, g i r) / 4096)) (constant (F := Ideal) S_ .f32 0x00000000#32) reducesTo_S8_S_d0 h_S_
      = fun _ => ((∑ r, (∑ i, f i r) / 4096 * ((∑ i, g i r) / 4096) : ℝ) : EReal) := by
    funext k
    refine (Ideal.hostReduceAdd_total reducesTo_S8_S_d0 (fun b => b.elim0) _ _ k).trans ?_
    rw [show (constant (F := Ideal) S_ .f32 0x00000000#32) (Shape.Idx.first h_S_) = (0 : EReal) from Ideal.ofBits_zero_f32, zero_add]
    refine (Fintype.sum_equiv ⟨fun i : S8.Idx => (i 0 : Fin 8), fun r => ix1 r, fun i => (eq_ix1 i).symm, fun r => rfl⟩ _ (fun r : Fin 8 => (((∑ i, f i r) / 4096 * ((∑ i, g i r) / 4096) : ℝ) : EReal)) fun i => rfl).trans ?_
    exact sum_coe _ _
  rw [hs]
  show (Ideal.ofBits .f32 0x41000000#32 : EReal) * _ * Ideal.ofBits .f32 0x3D4CCCCD#32 = _
  rw [Consts.n8_eq, Consts.wgt_eq, ← EReal.coe_mul, ← EReal.coe_mul]
  rfl

/-- One group of a projection divided by its norm. -/
def nrm (v : Fin 64 → ℝ) (h : Fin 64) : ℝ := v h / max (Real.sqrt (∑ k, v k * v k)) Consts.eps
theorem max_eps_ne (x : ℝ) : max x Consts.eps ≠ 0 := (lt_of_lt_of_le Consts.eps_spec.2 (le_max_right _ _)).ne'
theorem eps_const : (constant (F := Ideal) S_ .f32 0x2B8CBCCC#32) = fun _ => ((Consts.eps : ℝ) : EReal) := by funext i; exact Consts.eps_spec.1

theorem rows (X : Fin 4096 → Fin 384 → ℝ) (uw : Fin 8 → Fin 64 → Fin 384 → ℝ) (ub : Fin 8 → Fin 64 → ℝ) :
    rUx (F := Ideal) (rv X) (rv3 uw) (rv ub) = rv3 fun i r h => nrm (fun h => (∑ d, X i d * uw r h d) + ub r h) h := by
  have e : broadcastInDim S4096x8x1 ![] bcast_S_S4096x8x1 (constant (F := Ideal) S_ .f32 0x2B8CBCCC#32) = rv3 fun _ _ _ => Consts.eps := by
    rw [eps_const]; exact bid_all S4096x8x1 _ _ _
  unfold rUx
  dsimp only
  rw [rdot1, show broadcastInDim S1x8x64 ![1, 2] bcast_S8x64_S1x8x64_1_2 (rv ub) = rv3 fun _ r h => ub r h from bid_12_rv _ _,
    show broadcastInDim S4096x8x64 ![0, 1, 2] bcast_S1x8x64_S4096x8x64_0_1_2 (rv3 fun _ r h => ub r h) = rv3 fun _ r h => ub r h from bid_a_rv _ _,
    add3, mul3, hsum_32 _ _ (by decide),
    show broadcastInDim S4096x8x1 ![0, 1] bcast_S4096x8_S4096x8x1_0_1 (rv _) = rv3 fun i r _ => _ from bid_01_rv _ _,
    hsqrt3 _ fun i r _ => Finset.sum_nonneg fun k _ => mul_self_nonneg _, e, max3,
    show broadcastInDim S4096x8x64 ![0, 1, 2] bcast_S4096x8x1_S4096x8x64_0_1_2 (rv3 _) = rv3 fun i r _ => _ from bid_c_rv _ _,
    hdiv3 _ _ fun _ _ _ => max_eps_ne _]
  rfl

theorem cands (E : Fin 1024 → Fin 384 → ℝ) (vw : Fin 8 → Fin 64 → Fin 384 → ℝ) (vb : Fin 8 → Fin 64 → ℝ) :
    rVe (F := Ideal) (rv E) (rv3 vw) (rv vb) = rv3 fun r e h => nrm (fun h => (∑ d, vw r h d * E e d) + vb r h) h := by
  have e : broadcastInDim S8x1024x1 ![] bcast_S_S8x1024x1 (constant (F := Ideal) S_ .f32 0x2B8CBCCC#32) = rv3 fun _ _ _ => Consts.eps := by
    rw [eps_const]; exact bid_all S8x1024x1 _ _ _
  unfold rVe
  dsimp only
  rw [rdot2, show transpose S8x1024x64 [0, 2, 1] (rv3 _) transposes_S8x64x1024_S8x1024x64_0_2_1 = rv3 fun r e h => _ from tr_021 _ _,
    show broadcastInDim S8x1x64 ![0, 2] bcast_S8x64_S8x1x64_0_2 (rv vb) = rv3 fun r _ h => vb r h from bid_02_rv _ _,
    show broadcastInDim S8x1024x64 ![0, 1, 2] bcast_S8x1x64_S8x1024x64_0_1_2 (rv3 fun r _ h => vb r h) = rv3 fun r _ h => vb r h from bid_b_rv _ _,
    add3, mul3, hsum_32 _ _ (by decide),
    show broadcastInDim S8x1024x1 ![0, 1] bcast_S8x1024_S8x1024x1_0_1 (rv _) = rv3 fun i r _ => _ from bid_01_rv _ _,
    hsqrt3 _ fun i r _ => Finset.sum_nonneg fun k _ => mul_self_nonneg _, e, max3,
    show broadcastInDim S8x1024x64 ![0, 1, 2] bcast_S8x1024x1_S8x1024x64_0_1_2 (rv3 _) = rv3 fun i r _ => _ from bid_c_rv _ _,
    hdiv3 _ _ fun _ _ _ => max_eps_ne _]
  rfl

theorem scores (v : Fin 8 → Fin 1024 → Fin 64 → ℝ) (u : Fin 4096 → Fin 8 → Fin 64 → ℝ) :
    rScores (F := Ideal) (rv3 v) (rv3 u) = rv3 fun i r e => ∑ h, v r e h * u i r h := by
  have e1 : broadcastInDim S4096x8x1024 ![] bcast_S_S4096x8x1024 (constant (F := Ideal) S_ .f32 0x3F800000#32) = rv3 fun _ _ _ => (1 : ℝ) := by
    rw [show (constant (F := Ideal) S_ .f32 0x3F800000#32) = fun _ => ((1 : ℝ) : EReal) from by funext i; exact Consts.one_eq]; exact bid_all S4096x8x1024 _ _ _
  unfold rScores
  dsimp only
  rw [rdot3, show transpose S4096x8x1024 [2, 0, 1] (rv3 _) transposes_S8x1024x4096_S4096x8x1024_2_0_1 = rv3 fun i r e => _ from tr_201 _ _, e1, hdiv3 _ _ fun _ _ _ => one_ne_zero]
  exact rv3_inj fun i r e => div_one _

/-- The mixture of two rows by two gates. -/
theorem mixture (f : Fin 4096 → Fin 2 → Fin 1024 → ℝ) (g : Fin 4096 → Fin 2 → ℝ) :
    rRea (F := Ideal) (rv3 f) (rv g) = rv fun i e => f i 0 e * g i 0 + f i 1 e * g i 1 := by
  unfold rRea
  dsimp only
  rw [show broadcastInDim S4096x2x1 ![0, 1] bcast_S4096x2_S4096x2x1_0_1 (rv g) = rv3 fun i r _ => g i r from bid_01_rv _ _,
    show broadcastInDim S4096x2x1024 ![0, 1, 2] bcast_S4096x2x1_S4096x2x1024_0_1_2 (rv3 fun i r _ => g i r) = rv3 fun i r _ => g i r from bid_c_rv _ _,
    mul3, hsum_31 _ _ (by decide)]
  exact rv_inj fun i e => Fin.sum_univ_two _

end Cert.RefVal

end
-- ==== Proof.RefIdx.lean ====
/- The reference program's choices by position: the table of choices, the rows taken and the final element taken. -/
module

public import proofs.«01_k».proof.Proof.RefVal
public import proofs.«01_k».proof.Proof.Pick
public import Idealize.ShloMosaic.PureOps.Reduce

@[expose] public section

set_option maxRecDepth 16384

noncomputable section

namespace Cert.RefIdx

open Cert.ReferenceIdeal Cert.ReferenceIdeal.Gen Idealize.ShloMosaic Idealize.SL.Sem Cert.Lens Cert.Ref Cert.Pick

theorem word_eq {x y : ℕ} (hx : x < 2 ^ 31) (hy : y < 2 ^ 31) : (BitVec.ofNat 32 x == BitVec.ofNat 32 y) = decide (x = y) := by
  rw [Bool.eq_iff_iff, beq_iff_eq, decide_eq_true_iff]
  constructor
  · intro h
    have := congrArg BitVec.toNat h
    rw [BitVec.toNat_ofNat, BitVec.toNat_ofNat] at this
    omega
  · intro h; rw [h]

theorem real_of_bit (p : Prop) [Decidable p] : (FloatOps.uitofp (F := Ideal) .f32 (BitVec.ofBool (decide p)) : EReal) = ((ind p (1 : ℝ) 0 : ℝ) : EReal) := by
  by_cases h : p
  · rw [ind_pos h, decide_eq_true h]
    show (((1 : ℕ) : ℝ) : EReal) = _
    norm_num
  · rw [ind_neg h, decide_eq_false h]
    show (((0 : ℕ) : ℝ) : EReal) = _
    norm_num

/-- The table of choices. -/
theorem choices (g : Fin 4096 → Fin 2 → Fin 8) : rHot (F := Ideal) (nv fun i k => (g i k).val) = rv fun i r => ∑ k, ind ((g i k).val = r.val) 1 0 := by
  unfold rHot
  dsimp only
  rw [show broadcastInDim S4096x2x1 ![0, 1] bcast_S4096x2_S4096x2x1_0_1 (nv fun i k => (g i k).val) = mk3 fun i k _ => BitVec.ofNat 32 (g i k).val from bid_01 _ _,
    show broadcastInDim S4096x2x8 ![0, 1, 2] bcast_S4096x2x1_S4096x2x8_0_1_2 (mk3 fun i k _ => BitVec.ofNat 32 (g i k).val) = mk3 fun i k _ => BitVec.ofNat 32 (g i k).val from bid_c _ _,
    show iotaInDim S1x1x8 32 2 = mk3 fun _ _ r => BitVec.ofNat 32 r.val from rfl,
    show broadcastInDim S4096x2x8 ![0, 1, 2] bcast_S1x1x8_S4096x2x8_0_1_2 (mk3 fun _ _ r => BitVec.ofNat 32 r.val) = mk3 fun _ _ r => BitVec.ofNat 32 r.val from bid_ab _ _]
  rw [show uitofp (F := Ideal) .f32 (cmpi .eq (mk3 fun (i : Fin 4096) (k : Fin 2) (_ : Fin 8) => BitVec.ofNat 32 (g i k).val) (mk3 fun _ _ r => BitVec.ofNat 32 r.val)) = rv3 fun i k r => ind ((g i k).val = r.val) 1 0 from ?_]
  · exact hsum_31 _ _ (by decide) _
  · refine rv3_of fun i k r => ?_
    show FloatOps.uitofp (F := Ideal) .f32 (BitVec.ofBool (BitVec.ofNat 32 (g i k).val == BitVec.ofNat 32 r.val)) = _
    rw [word_eq (by omega) (by omega)]
    exact real_of_bit _

/-- A reduction of ones by conjunction. -/
theorem all_ones {s t u : Shape} {axes : List (Fin s.rank)} (h : s.ReducesTo axes t) (hu : 0 < u.numel) :
    Host.reduce IntOp.andi (fun _ : s.Idx => 1#1) (fun _ : u.Idx => 1#1) h hu = fun _ => 1#1 := by
  funext j
  rw [Host.reduce_eq_foldl]
  generalize ((List.finRange s.numel).map s.rowMajor.symm).filter (fun i => h.drop i = j) = l
  induction l with
  | nil => rfl
  | cons a l ih => exact ih

/-- The rows taken along an axis of eight. -/
theorem taken (f : Fin 4096 → Fin 8 → Fin 1024 → ℝ) (g : Fin 4096 → Fin 2 → Fin 8) :
    rTake (F := Ideal) (rv3 f) (nv fun i k => (g i k).val) = rv3 fun i k e => f i (g i k) e := by
  have e2 : broadcastInDim S4096x2x1 ![0, 1] bcast_S4096x2_S4096x2x1_0_1 (nv fun i k => (g i k).val) = mk3 fun i k _ => BitVec.ofNat 32 (g i k).val := bid_01 _ _
  have lt0 : ∀ x : Fin 8, (BitVec.ofNat 32 x.val).slt 0#32 = false := by decide
  have ge0 : ∀ x : Fin 8, (0#32).sle (BitVec.ofNat 32 x.val) = true := by decide
  have le7 : ∀ x : Fin 8, (BitVec.ofNat 32 x.val).sle 7#32 = true := by decide
  unfold rTake
  dsimp only
  rw [e2, show broadcastInDim S4096x2x1 ![] bcast_S_S4096x2x1 (constantI S_ 32 0#32) = fun _ => 0#32 from bid_all S4096x2x1 _ _ _,
    show cmpi .slt (mk3 fun (i : Fin 4096) (k : Fin 2) (_ : Fin 1) => BitVec.ofNat 32 (g i k).val) (fun _ => 0#32) = fun _ => 0#1 from by
      funext j; exact congrArg BitVec.ofBool (lt0 _)]
  rw [show ∀ x y : IVec S4096x2x1 32, select (fun _ => 0#1) x y = y from fun x y => rfl]
  rw [show cmpi .sge (mk3 fun (i : Fin 4096) (k : Fin 2) (_ : Fin 1) => BitVec.ofNat 32 (g i k).val) (fun _ => 0#32) = fun _ => 1#1 from by
      funext j; exact congrArg BitVec.ofBool (ge0 _),
    show broadcastInDim S4096x2x1 ![0, 1, 2] bcast_S1x1x1_S4096x2x1_0_1_2 (broadcastInDim S1x1x1 ![2] bcast_S1_S1x1x1_2 (constantI S1 32 7#32)) = fun _ => 7#32 from rfl,
    show cmpi .sle (mk3 fun (i : Fin 4096) (k : Fin 2) (_ : Fin 1) => BitVec.ofNat 32 (g i k).val) (fun _ => 7#32) = fun _ => 1#1 from by
      funext j; exact congrArg BitVec.ofBool (le7 _),
    show andi (fun _ : S4096x2x1.Idx => 1#1) (fun _ => 1#1) = fun _ => 1#1 from funext fun _ => (by decide : IntOp.andi 1#1 1#1 = 1#1),
    show constantI S_ 1 1#1 = fun _ => 1#1 from rfl, all_ones,
    show broadcastInDim S4096x2x1024 ![0, 1] bcast_S4096x2_S4096x2x1024_0_1 (fun _ : S4096x2.Idx => 1#1) = fun _ => 1#1 from rfl]
  rw [show ∀ x y : FVec Ideal S4096x2x1024 .f32, select (fun _ => 1#1) x y = x from fun x y => rfl]
  refine rv3_of fun i k e => ?_
  unfold Host.gather
  refine congrArg (rv3 f) (a₂ := ix3 i (g i k) e) (funext fun a => Fin.ext ?_)
  match a with
  | ⟨0, _⟩ => exact (Nat.zero_add _).trans rfl
  | ⟨1, _⟩ =>
    show min (BitVec.ofNat 32 (g i k).val).toInt.toNat 7 + 0 + 0 = (g i k).val
    rw [toInt_small _ (by omega)]
    have := (g i k).isLt
    omega
  | ⟨2, _⟩ => exact (Nat.zero_add _).trans rfl

/-- The logarithm of the element of every row at a position. -/
theorem logs (f : Fin 4096 → Fin 1024 → ℝ) (s : Fin 4096 → Fin 1024) :
    rLog (F := Ideal) (rv f) (mk1 fun i => BitVec.ofNat 32 (s i).val) = mk fun i _ => Ideal.log ((f i (s i) : ℝ) : EReal) := by
  have z : broadcastInDim S4096 ![] bcast_S_S4096 (constantI S_ 32 0#32) = fun _ => 0#32 := bid_all S4096 _ _ _
  have small : ∀ n : ℕ, n < 2 ^ 31 → (BitVec.ofNat 32 n).slt 0#32 = false := fun n h => by
    rw [BitVec.slt_eq_decide, toInt_small _ h]; simp
  unfold rLog
  dsimp only
  rw [z, show cmpi .slt (iotaInDim S4096 32 0) (fun _ => 0#32) = fun _ => 0#1 from by
      funext j; exact congrArg BitVec.ofBool (small _ (by have : (j 0).val < 4096 := (j 0).isLt; omega)),
    show cmpi .slt (mk1 fun i => BitVec.ofNat 32 (s i).val) (fun _ => 0#32) = fun _ => 0#1 from by
      funext j; exact congrArg BitVec.ofBool (small _ (by have := (s (j 0)).isLt; omega))]
  rw [show ∀ x y : IVec S4096 32, select (fun _ => 0#1) x y = y from fun x y => rfl, show ∀ x y : IVec S4096 32, select (fun _ => 0#1) x y = y from fun x y => rfl,
    show broadcastInDim S4096x1 ![0] bcast_S4096_S4096x1_0 (iotaInDim S4096 32 0) = mk fun i _ => BitVec.ofNat 32 i.val from bid_0 (fun i : Fin 4096 => BitVec.ofNat 32 i.val) _,
    show broadcastInDim S4096x1 ![0] bcast_S4096_S4096x1_0 (mk1 fun i => BitVec.ofNat 32 (s i).val) = mk fun i _ => BitVec.ofNat 32 (s i).val from bid_0 _ _]
  have hp : fn_pair (F := Ideal) (mk fun i _ => BitVec.ofNat 32 i.val) (mk fun i _ => BitVec.ofNat 32 (s i).val) = mk fun i k => if k = 0 then BitVec.ofNat 32 i.val else BitVec.ofNat 32 (s i).val := by
    refine mk_of fun i k => ?_
    match k with
    | ⟨0, _⟩ => rfl
    | ⟨1, _⟩ => rfl
  rw [hp, show Host.gather gather_S4096x1024_S4096x2_S4096_n_01_n_n_01_1_11 (rv f) (mk fun i k => if k = 0 then BitVec.ofNat 32 i.val else BitVec.ofNat 32 (s i).val) = rv1 fun i => f i (s i) from ?_]
  · exact bid_0 (fun i : Fin 4096 => Ideal.log ((f i (s i) : ℝ) : EReal)) _
  · refine rv1_of fun i => ?_
    unfold Host.gather
    refine congrArg (rv f) (a₂ := ix2 i (s i)) (funext fun a => Fin.ext ?_)
    match a with
    | ⟨0, _⟩ =>
      show min (BitVec.ofNat 32 i.val).toInt.toNat 4095 + 0 + 0 = i.val
      rw [toInt_small _ (by omega)]
      have := i.isLt
      omega
    | ⟨1, _⟩ =>
      show min (BitVec.ofNat 32 (s i).val).toInt.toNat 1023 + 0 + 0 = (s i).val
      rw [toInt_small _ (by omega)]
      have := (s i).isLt
      omega

end Cert.RefIdx

end
-- ==== Proof.Row.lean ====
/- The mathematics of one row: logits, gates, normalised projections, scores, the mixture, and the crossing of its running sum,
   in the form in which the kernel computes them, with the crossing found in chunks of 128. -/
module

public import proofs.«01_k».proof.Proof.Pick

@[expose] public section

noncomputable section

namespace Cert.Row

open Cert.Pick Cert.Consts

/-- Whether a column of 512 lies in a group of 64. -/
def G (c : Fin 512) (r : Fin 8) : ℝ := ind (c.val / 64 = r.val) 1 0
/-- The routing score of one row for one expert. -/
def logit (x : Fin 384 → ℝ) (g : Fin 8 → Fin 384 → ℝ) (b : Fin 8 → ℝ) (r : Fin 8) : ℝ := (∑ d, x d * g r d) + b r
/-- The exponential of the difference between the second greatest and the greatest score. -/
def e21 (l : Fin 8 → ℝ) : ℝ := Real.exp (l (t2 l) - l (t1 l))
/-- The gate of the greatest score. -/
def gate0 (l : Fin 8 → ℝ) : ℝ := 1 / (1 + e21 l)
/-- The gate of the second greatest score. -/
def gate1 (l : Fin 8 → ℝ) : ℝ := e21 l * gate0 l
/-- The probability of one expert. -/
def soft (l : Fin 8 → ℝ) (r : Fin 8) : ℝ := Real.exp (l r - l (t1 l)) / ∑ r', Real.exp (l r' - l (t1 l))
/-- Whether an expert is one of the two chosen. -/
def hot (l : Fin 8 → ℝ) (r : Fin 8) : ℝ := ind (r.val = (t1 l).val) 1 0 + ind (r.val = (t2 l).val) 1 0
/-- A projection of a row to 512 columns. -/
def lin (x : Fin 384 → ℝ) (w : Fin 512 → Fin 384 → ℝ) (b : Fin 512 → ℝ) (c : Fin 512) : ℝ := (∑ d, x d * w c d) + b c
/-- The reciprocal of the norm of one group of 64 columns. -/
def inv (v : Fin 512 → ℝ) (r : Fin 8) : ℝ := 1 / max (Real.sqrt (∑ c', v c' * v c' * G c' r)) eps
/-- The row with every group of 64 columns divided by its norm. -/
def unit (v : Fin 512 → ℝ) (c : Fin 512) : ℝ := v c * ∑ r, inv v r * G c r
/-- The inner product of two rows over one group. -/
def score (uh : Fin 512 → ℝ) (r : ℕ) (ve : Fin 1024 → Fin 512 → ℝ) (e : Fin 1024) : ℝ := ∑ c, ind (c.val / 64 = r) (uh c) 0 * ve e c
/-- The gated sum of two softmaxes. -/
def mix (a0 a1 : ℝ) (s0 s1 : Fin 1024 → ℝ) (e : Fin 1024) : ℝ :=
  a0 / (∑ e', Real.exp (s0 e')) * Real.exp (s0 e) + a1 / (∑ e', Real.exp (s1 e')) * Real.exp (s1 e)
/-- The running sum of a row. -/
def cum (m : Fin 1024 → ℝ) (e : Fin 1024) : ℝ := ∑ e', ind (e'.val ≤ e.val) (m e') 0

/-- The sum of one chunk of 128. -/
def csum (m : Fin 1024 → ℝ) (k : Fin 8) : ℝ := ∑ e, m e * ind (e.val / 128 = k.val) 1 0
/-- The running sum of the chunks. -/
def ccs (m : Fin 1024 → ℝ) (k : Fin 8) : ℝ := ∑ k', csum m k' * ind (k'.val ≤ k.val) 1 0
/-- The first chunk in which the running sum crosses, or 8. -/
def cst (m : Fin 1024 → ℝ) (u : ℝ) : ℕ := firstOr (fun k => u < ccs m k) 8
/-- The sum before the crossing chunk. -/
def prev (m : Fin 1024 → ℝ) (u : ℝ) : ℝ := ∑ k : Fin 8, ind (k.val = cst m u) (ccs m k - csum m k) 0
/-- The element of a row at a position given by a natural number. -/
def at_ (m : Fin 1024 → ℝ) (n : ℕ) : ℝ := if h : n < 1024 then m ⟨n, h⟩ else 0
/-- The chunk of a number, as the sum over the eight chunks of the selected one. -/
def chunk (m : Fin 1024 → ℝ) (s : ℕ) (l : Fin 128) : ℝ :=
  0 + ind (s = 0) (at_ m (0 + l.val)) 0 + ind (s = 1) (at_ m (128 + l.val)) 0 + ind (s = 2) (at_ m (256 + l.val)) 0 + ind (s = 3) (at_ m (384 + l.val)) 0
    + ind (s = 4) (at_ m (512 + l.val)) 0 + ind (s = 5) (at_ m (640 + l.val)) 0 + ind (s = 6) (at_ m (768 + l.val)) 0 + ind (s = 7) (at_ m (896 + l.val)) 0
/-- The running sum inside the crossing chunk. -/
def wcs (m : Fin 1024 → ℝ) (u : ℝ) (l : Fin 128) : ℝ := (∑ l', chunk m (cst m u) l' * ind (l'.val ≤ l.val) 1 0) + prev m u
/-- The first lane that crosses, or 128. -/
def lmin (m : Fin 1024 → ℝ) (u : ℝ) : ℕ := firstOr (fun l => u < wcs m u l) 128
/-- The lane taken. -/
def lane (m : Fin 1024 → ℝ) (u : ℝ) : ℕ := ind (128 ≤ lmin m u) 127 (lmin m u)
/-- The position that the kernel selects. -/
def kSel (m : Fin 1024 → ℝ) (u : ℝ) : ℕ := ind (cst m u < 8) (cst m u * 128 + lane m u) 0
/-- The element that the kernel takes at the position. -/
def kVal (m : Fin 1024 → ℝ) (u : ℝ) : ℝ := ind (cst m u < 8) (∑ l : Fin 128, ind (l.val = lane m u) (chunk m (cst m u) l) 0) (m 0)

/-! ### The chunked crossing is the crossing -/

/-- The position of a lane in a chunk. -/
def pos (k : Fin 8) (l : Fin 128) : Fin 1024 := ⟨128 * k.val + l.val, by have := k.isLt; have := l.isLt; omega⟩

theorem sum_chunks (F : Fin 1024 → ℝ) : ∑ e, F e = ∑ k : Fin 8, ∑ l : Fin 128, F (pos k l) := by
  rw [← Fintype.sum_prod_type' (f := fun k l => F (pos k l))]
  refine (Fintype.sum_equiv (finProdFinEquiv (m := 8) (n := 128)) _ _ fun x => ?_).symm
  congr 1
  apply Fin.ext
  show 128 * x.1.val + x.2.val = x.2.val + 128 * x.1.val
  omega
theorem sum_ind_eq {n : ℕ} (f : Fin n → ℝ) (k : Fin n) : ∑ j : Fin n, ind (j.val = k.val) (f j) 0 = f k := by
  rw [Finset.sum_eq_single k]
  · exact ind_pos rfl _ _
  · intro j _ hj; exact ind_neg (fun h => hj (Fin.ext h)) _ _
  · intro h; exact absurd (Finset.mem_univ k) h
theorem mul_ind (p : Prop) (x : ℝ) : x * ind p 1 0 = ind p x 0 := by
  by_cases h : p
  · rw [ind_pos h, ind_pos h, mul_one]
  · rw [ind_neg h, ind_neg h, mul_zero]
theorem sum_ind_const {n : ℕ} (p : Prop) (f : Fin n → ℝ) : ∑ j : Fin n, ind p (f j) 0 = ind p (∑ j, f j) 0 := by
  by_cases h : p
  · simp only [ind_pos h]
  · simp only [ind_neg h, Finset.sum_const_zero]
theorem csum_eq (m : Fin 1024 → ℝ) (k : Fin 8) : csum m k = ∑ l, m (pos k l) := by
  unfold csum
  rw [sum_chunks]
  have : ∀ k' : Fin 8, ∑ l : Fin 128, m (pos k' l) * ind ((pos k' l).val / 128 = k.val) 1 0 = ind (k'.val = k.val) (∑ l, m (pos k' l)) 0 := by
    intro k'
    rw [← sum_ind_const]
    refine Finset.sum_congr rfl fun l _ => ?_
    rw [mul_ind]
    refine ind_congr ?_ _ _
    have h1 : (pos k' l).val / 128 = k'.val := by
      show (128 * k'.val + l.val) / 128 = k'.val
      have := l.isLt; omega
    rw [h1]
  simp only [this]
  exact sum_ind_eq (fun k' => ∑ l, m (pos k' l)) k
theorem ccs_sub (m : Fin 1024 → ℝ) (k : Fin 8) : ccs m k - csum m k = ∑ k' : Fin 8, ind (k'.val < k.val) (csum m k') 0 := by
  unfold ccs
  have h : csum m k = ∑ k' : Fin 8, ind (k'.val = k.val) (csum m k') 0 := (sum_ind_eq (csum m) k).symm
  rw [h, ← Finset.sum_sub_distrib]
  refine Finset.sum_congr rfl fun k' _ => ?_
  rw [mul_ind]
  rcases lt_trichotomy k'.val k.val with h | h | h
  · rw [ind_pos h.le, ind_neg h.ne, ind_pos h, sub_zero]
  · rw [ind_pos h.le, ind_pos h, ind_neg (by omega), sub_self]
  · rw [ind_neg (by omega), ind_neg h.ne', ind_neg (by omega), sub_zero]
theorem cum_pos (m : Fin 1024 → ℝ) (k : Fin 8) (l : Fin 128) :
    cum m (pos k l) = (ccs m k - csum m k) + ∑ l' : Fin 128, ind (l'.val ≤ l.val) (m (pos k l')) 0 := by
  rw [ccs_sub]
  unfold cum
  rw [sum_chunks]
  have hk : ∑ l' : Fin 128, ind (l'.val ≤ l.val) (m (pos k l')) 0
      = ∑ k' : Fin 8, ind (k'.val = k.val) (∑ l' : Fin 128, ind (l'.val ≤ l.val) (m (pos k' l')) 0) 0 :=
    (sum_ind_eq (fun k' => ∑ l' : Fin 128, ind (l'.val ≤ l.val) (m (pos k' l')) 0) k).symm
  rw [hk, ← Finset.sum_add_distrib]
  refine Finset.sum_congr rfl fun k' _ => ?_
  rw [csum_eq]
  have hl := l.isLt
  rcases lt_trichotomy k'.val k.val with h | h | h
  · rw [ind_pos h, ind_neg h.ne, add_zero]
    refine Finset.sum_congr rfl fun l' _ => ind_pos ?_ _ _
    show 128 * k'.val + l'.val ≤ 128 * k.val + l.val
    have := l'.isLt; omega
  · rw [ind_neg (by omega), ind_pos h, zero_add]
    refine Finset.sum_congr rfl fun l' _ => ind_congr ?_ _ _
    show 128 * k'.val + l'.val ≤ 128 * k.val + l.val ↔ _
    omega
  · rw [ind_neg (by omega), ind_neg h.ne', add_zero]
    refine Finset.sum_eq_zero fun l' _ => ind_neg ?_ _ _
    show ¬ (128 * k'.val + l'.val ≤ 128 * k.val + l.val)
    omega
theorem cum_last (m : Fin 1024 → ℝ) (k : Fin 8) : cum m (pos k 127) = ccs m k := by
  rw [cum_pos]
  have : ∑ l' : Fin 128, ind (l'.val ≤ (127 : Fin 128).val) (m (pos k l')) 0 = csum m k := by
    rw [csum_eq]
    refine Finset.sum_congr rfl fun l' _ => ind_pos ?_ _ _
    have := l'.isLt
    show l'.val ≤ 127
    omega
  rw [this]; ring
theorem cum_mono (m : Fin 1024 → ℝ) (hm : ∀ e, 0 ≤ m e) {e f : Fin 1024} (h : e.val ≤ f.val) : cum m e ≤ cum m f := by
  refine Finset.sum_le_sum fun e' _ => ?_
  by_cases h1 : e'.val ≤ e.val
  · rw [ind_pos h1, ind_pos (h1.trans h)]
  · rw [ind_neg h1]
    by_cases h2 : e'.val ≤ f.val
    · rw [ind_pos h2]; exact hm e'
    · rw [ind_neg h2]
theorem exists_pos (e : Fin 1024) : ∃ k l, e = pos k l := by
  refine ⟨⟨e.val / 128, by have := e.isLt; omega⟩, ⟨e.val % 128, by omega⟩, Fin.ext ?_⟩
  show e.val = 128 * (e.val / 128) + e.val % 128
  omega
theorem chunk_eq (m : Fin 1024 → ℝ) (k : Fin 8) (l : Fin 128) : chunk m k.val l = m (pos k l) := by
  have hat : ∀ o : ℕ, 128 * k.val = o → at_ m (o + l.val) = m (pos k l) := by
    intro o ho
    have h : o + l.val < 1024 := by have := k.isLt; have := l.isLt; omega
    unfold at_
    rw [dif_pos h]
    congr 1
    apply Fin.ext
    show o + l.val = 128 * k.val + l.val
    omega
  unfold chunk
  match k, hat with
  | ⟨0, _⟩, hat => have h0 := hat 0 rfl; rw [Nat.zero_add] at h0; simpa [ind_ite] using h0
  | ⟨1, _⟩, hat => simp [ind_ite, hat 128]
  | ⟨2, _⟩, hat => simp [ind_ite, hat 256]
  | ⟨3, _⟩, hat => simp [ind_ite, hat 384]
  | ⟨4, _⟩, hat => simp [ind_ite, hat 512]
  | ⟨5, _⟩, hat => simp [ind_ite, hat 640]
  | ⟨6, _⟩, hat => simp [ind_ite, hat 768]
  | ⟨7, _⟩, hat => simp [ind_ite, hat 896]

/-- What the selection returns: the first position at which the running sum exceeds a number, and the row's element there; where
    there is none, position 0. -/
def Picks (m : Fin 1024 → ℝ) (u : ℝ) (s : Fin 1024) : Prop :=
  IsFirst (fun e => u < cum m e) s ∨ ((∀ e, ¬ u < cum m e) ∧ s = 0)
theorem Picks.unique {m : Fin 1024 → ℝ} {u : ℝ} {s t : Fin 1024} (hs : Picks m u s) (ht : Picks m u t) : s = t := by
  rcases hs with hs | hs <;> rcases ht with ht | ht
  · exact hs.unique ht
  · exact absurd hs.1 (ht.1 _)
  · exact absurd ht.1 (hs.1 _)
  · rw [hs.2, ht.2]
theorem exists_picks (m : Fin 1024 → ℝ) (u : ℝ) : ∃ s, Picks m u s := by
  by_cases h : ∃ e, u < cum m e
  · obtain ⟨i, hi⟩ := exists_first _ h
    exact ⟨i, Or.inl hi⟩
  · exact ⟨0, Or.inr ⟨fun e he => h ⟨e, he⟩, rfl⟩⟩
/-- The position selected. -/
def sel (m : Fin 1024 → ℝ) (u : ℝ) : Fin 1024 := Classical.choose (exists_picks m u)
theorem sel_spec (m : Fin 1024 → ℝ) (u : ℝ) : Picks m u (sel m u) := Classical.choose_spec (exists_picks m u)

theorem kernel_picks (m : Fin 1024 → ℝ) (hm : ∀ e, 0 ≤ m e) (u : ℝ) : kSel m u = (sel m u).val ∧ kVal m u = m (sel m u) := by
  by_cases hex : ∃ k, u < ccs m k
  · obtain ⟨k, hk⟩ := exists_first _ hex
    have hc : cst m u = k.val := firstOr_eq hk 8
    have hp : prev m u = ccs m k - csum m k := by
      unfold prev; rw [hc]; exact sum_ind_eq (fun k => ccs m k - csum m k) k
    have hw : ∀ l, wcs m u l = cum m (pos k l) := by
      intro l
      unfold wcs
      rw [hp, hc, cum_pos, add_comm]
      congr 1
      refine Finset.sum_congr rfl fun l' _ => ?_
      rw [chunk_eq, mul_ind]
    have hexl : ∃ l, u < wcs m u l := ⟨127, by rw [hw, cum_last]; exact hk.1⟩
    obtain ⟨l, hl⟩ := exists_first _ hexl
    have hlm : lmin m u = l.val := firstOr_eq hl 128
    have hla : lane m u = l.val := by
      unfold lane; rw [hlm, ind_neg (by have := l.isLt; omega)]
    have hpick : Picks m u (pos k l) := by
      refine Or.inl ⟨by have h : u < wcs m u l := hl.1; rw [hw] at h; exact h, fun e he hlt => ?_⟩
      obtain ⟨k', l', rfl⟩ := exists_pos e
      have he' : 128 * k'.val + l'.val < 128 * k.val + l.val := he
      have h1 := l.isLt
      have h2 := l'.isLt
      by_cases hkk : k'.val < k.val
      · refine hk.2 k' hkk ?_
        show u < ccs m k'
        rw [← cum_last]
        refine lt_of_lt_of_le hlt (cum_mono m hm ?_)
        show 128 * k'.val + l'.val ≤ 128 * k'.val + 127
        omega
      · have hkeq : k' = k := Fin.ext (by omega)
        subst hkeq
        refine hl.2 l' (by show l'.val < l.val; omega) ?_
        show u < wcs m u l'
        rw [hw]; exact hlt
    have hs : sel m u = pos k l := (sel_spec m u).unique hpick
    have hlt8 : cst m u < 8 := by rw [hc]; exact k.isLt
    constructor
    · unfold kSel; rw [ind_pos hlt8, hc, hla, hs]
      show k.val * 128 + l.val = 128 * k.val + l.val
      omega
    · unfold kVal; rw [ind_pos hlt8, hla, hs, hc]
      exact (sum_ind_eq (chunk m k.val) l).trans (chunk_eq m k l)
  · have hc : cst m u = 8 := firstOr_none (fun k hk => hex ⟨k, hk⟩) 8
    have hs : sel m u = 0 := by
      refine (sel_spec m u).unique (Or.inr ⟨fun e he => hex ?_, rfl⟩)
      obtain ⟨k, l, rfl⟩ := exists_pos e
      refine ⟨k, ?_⟩
      rw [← cum_last]
      refine lt_of_lt_of_le he (cum_mono m hm ?_)
      show 128 * k.val + l.val ≤ 128 * k.val + 127
      have := l.isLt; omega
    constructor
    · unfold kSel; rw [ind_neg (by omega), hs]; rfl
    · unfold kVal; rw [ind_neg (by omega), hs]

/-! ### The whole row -/

/-- The mixture of a row: gates and the two softmaxes of the chosen experts' scores. -/
def mixRow (l : Fin 8 → ℝ) (uh : Fin 512 → ℝ) (ve : Fin 1024 → Fin 512 → ℝ) (e : Fin 1024) : ℝ :=
  mix (gate0 l) (gate1 l) (score uh (t1 l).val ve) (score uh (t2 l).val ve) e
theorem e21_pos (l : Fin 8 → ℝ) : 0 < e21 l := Real.exp_pos _
theorem gate0_pos (l : Fin 8 → ℝ) : 0 < gate0 l := by
  have := e21_pos l
  unfold gate0; positivity
theorem gate1_pos (l : Fin 8 → ℝ) : 0 < gate1 l := mul_pos (e21_pos l) (gate0_pos l)
theorem sum_exp_pos {n : ℕ} (hn : 0 < n) (s : Fin n → ℝ) : 0 < ∑ e, Real.exp (s e) :=
  Finset.sum_pos (fun _ _ => Real.exp_pos _) ⟨⟨0, hn⟩, Finset.mem_univ _⟩
theorem mixRow_nonneg (l : Fin 8 → ℝ) (uh : Fin 512 → ℝ) (ve : Fin 1024 → Fin 512 → ℝ) (e : Fin 1024) : 0 ≤ mixRow l uh ve e := by
  have h0 := gate0_pos l
  have h1 := gate1_pos l
  have a := sum_exp_pos (n := 1024) (by norm_num) (score uh (t1 l).val ve)
  have b := sum_exp_pos (n := 1024) (by norm_num) (score uh (t2 l).val ve)
  unfold mixRow mix
  positivity
theorem max_eps_pos (x : ℝ) : 0 < max x eps := lt_of_lt_of_le eps_spec.2 (le_max_right _ _)

end Cert.Row

end
-- ==== Proof.RefCum.lean ====
/- The reference program's running sum along a row. -/
module

public import proofs.«01_k».proof.Proof.RefVal
public import proofs.«01_k».proof.Proof.Row

@[expose] public section

set_option maxRecDepth 16384

noncomputable section

namespace Cert.RefCum

open Cert.ReferenceIdeal Cert.ReferenceIdeal.Gen Idealize.ShloMosaic Idealize.SL.Sem Cert.Lens Cert.Ref Cert.Pick Cert.Row

theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The shape of a window. -/
abbrev W : Shape := ⟨2, ![1, 1024]⟩

theorem sum_window (g : W.Idx → EReal) : ∑ w, g w = ∑ k : Fin 1024, g (ix2 0 k) := by
  refine (Fintype.sum_bijective (fun k : Fin 1024 => (ix2 0 k : W.Idx)) ⟨?_, ?_⟩ _ _ fun k => rfl).symm
  · intro a b h
    exact congrFun h 1
  · intro w
    refine ⟨w 1, ?_⟩
    rw [eq_ix2 w]
    have : w 0 = (0 : Fin 1) := Subsingleton.elim (α := Fin 1) _ _
    rw [this]
    rfl

/-- One term of a window's sum. -/
def term (m : Fin 1024 → ℝ) (e k : Fin 1024) : ℝ := if h : 1023 ≤ e.val + k.val then m ⟨e.val + k.val - 1023, by omega⟩ else 0

theorem sum_term (m : Fin 1024 → ℝ) (e : Fin 1024) : ∑ k, term m e k = cum m e := by
  unfold cum
  rw [← Equiv.sum_comp (Equiv.addRight (e + 1)) fun e' : Fin 1024 => ind (e'.val ≤ e.val) (m e') 0]
  refine Finset.sum_congr rfl fun k _ => ?_
  have hv : (Equiv.addRight (e + 1) k).val = (k.val + (e.val + 1)) % 1024 := by
    show (k + (e + 1)).val = _
    rw [Fin.val_add, Fin.val_add]
    show (k.val + (e.val + 1) % 1024) % 1024 = _
    omega
  have := k.isLt
  have := e.isLt
  unfold term
  by_cases h : 1023 ≤ e.val + k.val
  · rw [dif_pos h, ind_pos (by rw [hv]; omega)]
    congr 1
    apply Fin.ext
    rw [hv]
    show e.val + k.val - 1023 = _
    omega
  · rw [dif_neg h, ind_neg (by rw [hv]; omega)]

/-- What a window position contributes: the row's element there, or the initial value in the padding. -/
def cell (m : Fin 4096 → Fin 1024 → ℝ) (i : Fin 4096) (e : Fin 1024) (w : W.Idx) : EReal :=
  if hin : ∀ a : Fin 2, (![0, 1023] : Fin 2 → ℕ) a ≤ ((ix2 i e : S4096x1024.Idx) a).val * (![1, 1] : Fin 2 → ℕ) a + (w a).val ∧ ((ix2 i e : S4096x1024.Idx) a).val * (![1, 1] : Fin 2 → ℕ) a + (w a).val - (![0, 1023] : Fin 2 → ℕ) a < S4096x1024.size a then
    rv m (fun a => ⟨((ix2 i e : S4096x1024.Idx) a).val * (![1, 1] : Fin 2 → ℕ) a + (w a).val - (![0, 1023] : Fin 2 → ℕ) a, (hin a).2⟩)
  else broadcastInDim S_ ![] bcast_S_S_ (constant (F := Ideal) S_ .f32 0x00000000#32) (Shape.Idx.first h_S_)

theorem same_cell (m : Fin 4096 → Fin 1024 → ℝ) (i : Fin 4096) (e : Fin 1024) (w : W.Idx)
    (d : Decidable (∀ a : Fin 2, (![0, 1023] : Fin 2 → ℕ) a ≤ ((ix2 i e : S4096x1024.Idx) a).val * (![1, 1] : Fin 2 → ℕ) a + (w a).val ∧ ((ix2 i e : S4096x1024.Idx) a).val * (![1, 1] : Fin 2 → ℕ) a + (w a).val - (![0, 1023] : Fin 2 → ℕ) a < S4096x1024.size a)) :
    @dite EReal _ d (fun hin => rv m (fun a => ⟨((ix2 i e : S4096x1024.Idx) a).val * (![1, 1] : Fin 2 → ℕ) a + (w a).val - (![0, 1023] : Fin 2 → ℕ) a, (hin a).2⟩)) (fun _ => broadcastInDim S_ ![] bcast_S_S_ (constant (F := Ideal) S_ .f32 0x00000000#32) (Shape.Idx.first h_S_)) = cell m i e w := by
  unfold cell
  congr

/-- The running sum along a row. -/
theorem running (m : Fin 4096 → Fin 1024 → ℝ) : rCum (F := Ideal) (rv m) = rv fun i e => cum (m i) e := by
  unfold rCum
  dsimp only
  refine rv_of fun i e => ?_
  show Host.reduceWindow (· + ·) ![1, 1024] ![1, 1] ![0, 1023] ![0, 0] (rv m) (fun _ : (⟨0, ![]⟩ : Shape).Idx => _) reduceWindows_S4096x1024_S4096x1024_w1s1p0_0_w1024s1p1023_0 _ (ix2 i e) = _
  unfold Host.reduceWindow
  dsimp only
  refine (foldl_sum _ _ _).trans ?_
  rw [← Fin.sum_univ_def]
  have z : broadcastInDim S_ ![] bcast_S_S_ (constant (F := Ideal) S_ .f32 0x00000000#32) (Shape.Idx.first h_S_) = (0 : EReal) := Ideal.ofBits_zero_f32
  rw [show ∀ a b : EReal, a = 0 → a + b = b from fun a b h => by rw [h, zero_add]]
  · refine Eq.trans (b := ∑ n, cell m i e (W.rowMajor.symm n)) (Finset.sum_congr rfl fun n _ => same_cell m i e _ _) ?_
    rw [Equiv.sum_comp W.rowMajor.symm (cell m i e), sum_window, ← sum_term, ← sum_coe]
    refine Finset.sum_congr rfl fun k _ => ?_
    have hk := k.isLt
    have he := e.isLt
    have hi := i.isLt
    unfold term cell
    by_cases h : 1023 ≤ e.val + k.val
    · rw [dif_pos h, dif_pos]
      · refine congrArg (rv m) (a₂ := ix2 i ⟨e.val + k.val - 1023, by omega⟩) (funext fun a => Fin.ext ?_)
        match a with
        | ⟨0, _⟩ => show i.val * 1 + 0 - 0 = i.val; omega
        | ⟨1, _⟩ => show e.val * 1 + k.val - 1023 = e.val + k.val - 1023; omega
      · intro a
        match a with
        | ⟨0, _⟩ => show 0 ≤ i.val * 1 + 0 ∧ i.val * 1 + 0 - 0 < 4096; omega
        | ⟨1, _⟩ => show 1023 ≤ e.val * 1 + k.val ∧ e.val * 1 + k.val - 1023 < 1024; omega
    · rw [dif_neg h, dif_neg]
      · exact z
      · intro hin
        have h1 : 1023 ≤ e.val * 1 + k.val := (hin 1).1
        omega
  · exact z

end Cert.RefCum

end
-- ==== Proof.Words.lean ====
/- The table of draws: the same words in both programs, and each a real number. -/
module

public import proofs.«01_k».proof.Proof.Gen.KernelIdeal
public import proofs.«01_k».proof.Proof.Gen.ReferenceIdeal

@[expose] public section

noncomputable section

namespace Cert.Table

open Idealize.ShloMosaic

/-- Both programs hold the same words. -/
theorem same : ∀ i : Fin 4096, Cert.KernelIdeal.lit0 i = Cert.ReferenceIdeal.lit0 i := by decide +kernel
/-- No word's exponent field is full. -/
theorem fin : ∀ i : Fin 4096, ¬ (Cert.KernelIdeal.lit0 i).extractLsb' 23 8 = 255#8 := by decide +kernel

end Cert.Table

end
-- ==== Proof.Table.lean ====
/- The draws as real numbers. -/
module

public import proofs.«01_k».proof.Proof.Words
public import Idealize.ShloMosaic.PureOps.Ideal
public import Idealize.ShloMosaic.PureOps.Ideal.Laws

@[expose] public section

noncomputable section

namespace Cert.Table

open Idealize.ShloMosaic

/-- The draw of a row, a real number. -/
def U (i : Fin 4096) : ℝ := (Ideal.ofBits .f32 (Cert.KernelIdeal.lit0 i) : EReal).toReal

/-- A word whose exponent field is not full denotes a real number. -/
theorem real_of_word (b : BitVec 32) (h : ¬ b.extractLsb' 23 8 = 255#8) : (Ideal.ofBits .f32 b : EReal) = (((Ideal.ofBits .f32 b : EReal).toReal : ℝ) : EReal) := by
  have h' : ¬ (b.extractLsb' 23 8).toNat = 2 ^ 8 - 1 := fun e => h (BitVec.eq_of_toNat_eq e)
  show Ideal.ieee 8 23 b = (((Ideal.ieee 8 23 b : EReal).toReal : ℝ) : EReal)
  unfold Ideal.ieee
  dsimp only
  rw [if_neg h']
  split <;> rw [EReal.toReal_coe]

theorem U_spec (i : Fin 4096) : (Ideal.ofBits .f32 (Cert.KernelIdeal.lit0 i) : EReal) = ((U i : ℝ) : EReal) := real_of_word _ (fin i)
theorem U_spec' (i : Fin 4096) : (Ideal.ofBits .f32 (Cert.ReferenceIdeal.lit0 i) : EReal) = ((U i : ℝ) : EReal) := by rw [← same]; exact U_spec i

end Cert.Table

end
-- ==== Proof.RefSel.lean ====
/- The reference program's draw: the first position at which the running sum exceeds the row's number. -/
module

public import proofs.«01_k».proof.Proof.RefVal
public import proofs.«01_k».proof.Proof.Row
public import proofs.«01_k».proof.Proof.Table
public import proofs.«01_k».proof.Proof.RefIdx
public import Idealize.ShloMosaic.PureOps.Reduce
public import Idealize.ShloMosaic.PureOps.Ideal.Laws

@[expose] public section

set_option maxRecDepth 16384

noncomputable section

namespace Cert.RefSel

open Cert.ReferenceIdeal Cert.ReferenceIdeal.Gen Idealize.ShloMosaic Idealize.SL.Sem Cert.Lens Cert.Ref Cert.Pick Cert.Row

/-- A position goes before another: greater value, or the same value and a smaller position. -/
def Before (v : Fin 1024 → ℝ) (x y : Fin 1024) : Prop := v y < v x ∨ (v x = v y ∧ x < y)
/-- The better of two positions. -/
def better (v : Fin 1024 → ℝ) (x y : Fin 1024) : Fin 1024 := ind (Before v x y) x y
/-- A position as a pair of a value and an index word. -/
def pair (v : Fin 1024 → ℝ) (x : Fin 1024) : Ideal .f32 × BitVec 32 := (((v x : ℝ) : EReal), BitVec.ofNat 32 x.val)

theorem slt_small (x y : Fin 1024) : IntOp.cmpi .slt (BitVec.ofNat 32 x.val) (BitVec.ofNat 32 y.val) = BitVec.ofBool (decide (x < y)) := by
  show BitVec.ofBool ((BitVec.ofNat 32 x.val).slt (BitVec.ofNat 32 y.val)) = _
  rw [BitVec.slt_eq_decide, toInt_small _ (by omega), toInt_small _ (by omega)]
  congr 1
  simp

/-- One step of the reduction on two pairs. -/
theorem step (v : Fin 1024 → ℝ) (x y : Fin 1024) : reducer_argmax_f32_i32 (F := Ideal) (pair v x) (pair v y) = pair v (better v x y) := by
  unfold reducer_argmax_f32_i32 pair
  dsimp only
  rw [slt_small, Ideal.cmpf_def, Ideal.cmpf_def, Ideal.cmpf_def]
  unfold Ideal.cmp
  dsimp only
  have u : decide (((v x : ℝ) : EReal) ≠ ((v x : ℝ) : EReal)) = false := by simp
  rw [u]
  rcases lt_trichotomy (v x) (v y) with h | h | h
  · have h1 : decide (((v y : ℝ) : EReal) < ((v x : ℝ) : EReal)) = false := by simpa using h.le
    have h2 : decide (((v x : ℝ) : EReal) = ((v y : ℝ) : EReal)) = false := by simpa using h.ne
    have hb : better v x y = y := ind_neg (by rintro (k | k); exacts [absurd k h.le.not_gt, absurd k.1 h.ne]) _ _
    rw [h1, h2, hb]
    cases decide (x < y) <;> rfl
  · have h1 : decide (((v y : ℝ) : EReal) < ((v x : ℝ) : EReal)) = false := by simpa using h.le
    have h2 : decide (((v x : ℝ) : EReal) = ((v y : ℝ) : EReal)) = true := by simpa using h
    rw [h1, h2]
    by_cases hxy : x < y
    · rw [decide_eq_true hxy, show better v x y = x from ind_pos (Or.inr ⟨h, hxy⟩) _ _, h]
      rfl
    · rw [decide_eq_false hxy, show better v x y = y from ind_neg (by rintro (k | k); exacts [absurd k h.le.not_gt, hxy k.2]) _ _]
      rfl
  · have h1 : decide (((v y : ℝ) : EReal) < ((v x : ℝ) : EReal)) = true := by simpa using h
    have hb : better v x y = x := ind_pos (Or.inl h) _ _
    rw [h1, hb]
    cases decide (x < y) <;> cases decide (((v x : ℝ) : EReal) = ((v y : ℝ) : EReal)) <;> rfl

/-- The first step of the reduction. -/
theorem first_step (v : Fin 1024 → ℝ) (y : Fin 1024) : reducer_argmax_f32_i32 (F := Ideal) ((⊥ : EReal), 0#32) (pair v y) = pair v y := by
  unfold reducer_argmax_f32_i32 pair
  dsimp only
  rw [Ideal.cmpf_def, Ideal.cmpf_def, Ideal.cmpf_def]
  unfold Ideal.cmp
  dsimp only
  have h0 : decide ((⊥ : EReal) ≠ ⊥) = false := by simp
  have h1 : decide (((v y : ℝ) : EReal) < ⊥) = false := by simp
  have h2 : decide ((⊥ : EReal) = ((v y : ℝ) : EReal)) = false := by simp
  rw [h0, h1, h2]
  generalize IntOp.cmpi .slt 0#32 (BitVec.ofNat 32 y.val) = b
  rcases (by decide : ∀ b : BitVec 1, b = 0#1 ∨ b = 1#1) b with rfl | rfl <;> rfl

theorem fold_pairs (v : Fin 1024 → ℝ) (l : List (Fin 1024)) (a : Fin 1024) :
    (l.map (pair v)).foldl (reducer_argmax_f32_i32 (F := Ideal)) (pair v a) = pair v (l.foldl (better v) a) := by
  induction l generalizing a with
  | nil => rfl
  | cons b l ih => rw [List.map_cons, List.foldl_cons, List.foldl_cons, step, ih]

theorem Before.trans {v : Fin 1024 → ℝ} {x y z : Fin 1024} (h : Before v x y) (k : Before v y z) : Before v x z := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩
theorem before_total {v : Fin 1024 → ℝ} {x y : Fin 1024} (h : ¬ Before v x y) : y = x ∨ Before v y x := by
  by_cases e : y = x
  · exact Or.inl e
  right
  rcases lt_trichotomy (v x) (v y) with k | k | k
  · exact Or.inl k
  · rcases lt_trichotomy x y with j | j | j
    · exact absurd (Or.inr ⟨k, j⟩) h
    · exact absurd j.symm e
    · exact Or.inr ⟨k.symm, j⟩
  · exact absurd (Or.inl k) h

/-- The fold ends at the best of its positions. -/
theorem fold_best (v : Fin 1024 → ℝ) (l : List (Fin 1024)) (a : Fin 1024) :
    ∀ w, w = a ∨ w ∈ l → w = l.foldl (better v) a ∨ Before v (l.foldl (better v) a) w := by
  induction l generalizing a with
  | nil => intro w hw; rcases hw with hw | hw; exacts [Or.inl hw, absurd hw (List.not_mem_nil)]
  | cons b l ih =>
    intro w hw
    rw [List.foldl_cons]
    have key : ∀ w, w = a ∨ w = b → w = better v a b ∨ Before v (better v a b) w := by
      intro w hw
      by_cases h : Before v a b
      · rw [show better v a b = a from ind_pos h _ _]
        rcases hw with rfl | rfl
        exacts [Or.inl rfl, Or.inr h]
      · rw [show better v a b = b from ind_neg h _ _]
        rcases hw with rfl | rfl
        · rcases before_total h with k | k
          exacts [Or.inl k.symm, Or.inr k]
        · exact Or.inl rfl
    have go : w = a ∨ w = b → w = l.foldl (better v) (better v a b) ∨ Before v (l.foldl (better v) (better v a b)) w := by
      intro hw
      rcases key w hw with h | h
      · exact ih _ w (Or.inl h)
      · rcases ih (better v a b) (better v a b) (Or.inl rfl) with k | k
        · right; rw [← k]; exact h
        · exact Or.inr (k.trans h)
    rcases hw with rfl | hw
    · exact go (Or.inl rfl)
    · rcases List.mem_cons.1 hw with rfl | hw
      · exact go (Or.inr rfl)
      · exact ih _ w (Or.inr hw)

/-- The second coordinate of the element at a row-major position. -/
def second (n : Fin S4096x1024.numel) : Fin 1024 := S4096x1024.rowMajor.symm n 1

/-- The positions of a row, in the order in which the reduction meets them. -/
def order (i : Fin 4096) : List (Fin 1024) :=
  ((List.finRange S4096x1024.numel).filter fun n => reducesTo_S4096x1024_S4096_d1.drop (S4096x1024.rowMajor.symm n) = ix1 i).map second

theorem fiber_eq (f : Fin 4096 → Fin 1024 → ℝ) (i : Fin 4096) :
    Host.argReduceFiber (rv f : S4096x1024.Idx → Ideal .f32) (iotaInDim S4096x1024 32 1) reducesTo_S4096x1024_S4096_d1 (ix1 i) = (order i).map (pair (f i)) := by
  unfold Host.argReduceFiber order
  refine Eq.trans ?_ (List.map_map).symm
  refine List.map_congr_left fun n hn => ?_
  have hd := of_decide_eq_true (List.mem_filter.1 hn).2
  have h0 : S4096x1024.rowMajor.symm n 0 = i := congrFun hd 0
  refine Prod.ext ?_ rfl
  show ((f (S4096x1024.rowMajor.symm n 0) (S4096x1024.rowMajor.symm n 1) : ℝ) : EReal) = _
  rw [h0]
  rfl

theorem mem_order (i : Fin 4096) (e : Fin 1024) : e ∈ order i := by
  unfold order
  refine List.mem_map.2 ⟨S4096x1024.rowMajor (ix2 i e), List.mem_filter.2 ⟨List.mem_finRange _, decide_eq_true ?_⟩, ?_⟩
  · rw [Equiv.symm_apply_apply]
    funext a
    match a with
    | ⟨0, _⟩ => rfl
  · exact congrFun (Equiv.symm_apply_apply S4096x1024.rowMajor (ix2 i e)) 1

/-- The arg-max of a row of indicators is the position picked. -/
theorem argmax (f : Fin 4096 → Fin 1024 → ℝ) (i : Fin 4096) :
    ∃ z, (∀ w, w = z ∨ Before (f i) z w) ∧ ((order i).map (pair (f i))).foldl (reducer_argmax_f32_i32 (F := Ideal)) ((⊥ : EReal), 0#32) = pair (f i) z := by
  have hall := mem_order i
  generalize order i = l at hall
  cases l with
  | nil => exact absurd (hall 0) List.not_mem_nil
  | cons a l =>
    refine ⟨l.foldl (better (f i)) a, fun w => fold_best _ _ _ w (List.mem_cons.1 (hall w)), ?_⟩
    rw [List.map_cons, List.foldl_cons, first_step, fold_pairs]

theorem picked (m : Fin 1024 → ℝ) (u : ℝ) (z : Fin 1024) (h : ∀ w, w = z ∨ Before (fun e => ind (u < cum m e) 1 0) z w) : z = sel m u := by
  refine Picks.unique (m := m) (u := u) ?_ (sel_spec m u)
  by_cases hz : u < cum m z
  · refine Or.inl ⟨hz, fun j hj hu => ?_⟩
    rcases h j with e | e | ⟨_, e⟩
    · exact absurd e hj.ne
    · simp only [ind_pos hz, ind_pos hu] at e
      exact lt_irrefl _ e
    · exact absurd e hj.le.not_gt
  · have hn : ∀ e, ¬ u < cum m e := by
      intro w hw
      rcases h w with e | e | ⟨e, _⟩
      · exact hz (e ▸ hw)
      · simp only [ind_neg hz, ind_pos hw] at e
        norm_num at e
      · simp only [ind_neg hz, ind_pos hw] at e
        norm_num at e
    refine Or.inr ⟨hn, ?_⟩
    rcases h 0 with e | e | ⟨_, e⟩
    · exact e.symm
    · simp only [ind_neg hz, ind_neg (hn 0)] at e
      exact absurd e (lt_irrefl _)
    · exact absurd e (Nat.not_lt_zero _)

/-- The numbers of the draw, as a column of reals. -/
theorem table : (fun i => FloatOps.ofBits (F := Ideal) .f32 (lit0 (S4096x1.rowMajor i)) : FVec Ideal S4096x1 .f32) = rv fun i _ => Table.U i := by
  refine rv_of fun i j => ?_
  have : S4096x1.rowMajor (ix2 i j) = i := Fin.ext ((Shape.rowMajor_val_two _).trans (by
    have := j.isLt
    show i.val * 1 + j.val = i.val
    omega))
  rw [this]
  exact Table.U_spec' i

/-- The position drawn in every row. -/
theorem drawn (m : Fin 4096 → Fin 1024 → ℝ) : rSel (F := Ideal) (rv fun i e => cum (m i) e) = mk1 fun i => BitVec.ofNat 32 (sel (m i) (Table.U i)).val := by
  unfold rSel
  dsimp only
  rw [table, show broadcastInDim S4096x1024 ![0, 1] bcast_S4096x1_S4096x1024_0_1 (rv fun i _ => Table.U i) = rv fun i _ => Table.U i from bid_col_rv _ _]
  rw [show uitofp (F := Ideal) .f32 (cmpf (F := Ideal) (φ := .f32) .ogt (rv fun i e => cum (m i) e) (rv fun i _ => Table.U i)) = rv fun i e => ind (Table.U i < cum (m i) e) 1 0 from by
    refine rv_of fun i e => ?_
    show FloatOps.uitofp (F := Ideal) .f32 (BitVec.ofBool (decide (((Table.U i : ℝ) : EReal) < ((cum (m i) e : ℝ) : EReal)))) = _
    rw [RefIdx.real_of_bit]
    exact congrArg (fun r : ℝ => (r : EReal)) (ind_congr EReal.coe_lt_coe_iff _ _)]
  refine mk1_of fun i => ?_
  rw [Ideal.argReduce_eq_reduce2, Host.reduce2_eq_foldl_fiber, fiber_eq]
  rw [show (constant (F := Ideal) S_ .f32 0xFF800000#32) (Shape.Idx.first h_S_) = (⊥ : EReal) from Consts.bot_eq, show constantI S_ 32 0#32 (Shape.Idx.first h_S_) = 0#32 from rfl]
  obtain ⟨z, hz, e⟩ := argmax (fun i e => ind (Table.U i < cum (m i) e) 1 0) i
  rw [e, picked (m i) (Table.U i) z hz]
  rfl

end Cert.RefSel

end
-- ==== Proof.RefTop.lean ====
/- The two greatest of every row in the reference program: a stable sort of eight, cut to two. -/
module

public import proofs.«01_k».proof.Proof.RefStages
public import proofs.«01_k».proof.Proof.HostLens
public import proofs.«01_k».proof.Proof.Pick
public import Idealize.ShloMosaic.Lib.SortFacts

@[expose] public section

set_option maxRecDepth 16384

noncomputable section

namespace Cert.RefTop

open Cert.ReferenceIdeal Cert.ReferenceIdeal.Gen Idealize.ShloMosaic Idealize.SL.Sem Cert.Lens Cert.Ref Cert.Pick

/-- The order of the sorted list: greater values first, equal values by position. -/
def Ahead {n : ℕ} (l : Fin n → ℝ) (x y : Fin n) : Prop := l y < l x ∨ (l x = l y ∧ x < y)

theorem insert_ahead {n : ℕ} (l : Fin n → ℝ) (before : Fin n → Fin n → Bool) (hb : ∀ x y, before x y = true ↔ l y < l x) (a : Fin n) :
    ∀ m : List (Fin n), m.Pairwise (Ahead l) → (∀ c ∈ m, a < c) → (insertBefore before a m).Pairwise (Ahead l)
  | [], _, _ => List.pairwise_singleton _ _
  | b :: m, hp, ha => by
    rw [List.pairwise_cons] at hp
    unfold insertBefore
    split
    · rename_i h
      have hba := (hb b a).1 h
      refine List.pairwise_cons.2 ⟨fun x hx => ?_, insert_ahead l before hb a m hp.2 fun c hc => ha c (List.mem_cons_of_mem _ hc)⟩
      rcases List.mem_cons.1 ((perm_insertBefore before a m).mem_iff.1 hx) with rfl | hx
      · exact Or.inl hba
      · exact hp.1 x hx
    · rename_i h
      have hba : l b ≤ l a := not_lt.1 fun h' => h ((hb b a).2 h')
      have step : ∀ c, l c ≤ l a → a < c → Ahead l a c := fun c h1 h2 => (lt_or_eq_of_le h1).imp id fun e => ⟨e.symm, h2⟩
      refine List.pairwise_cons.2 ⟨fun x hx => ?_, List.pairwise_cons.2 hp⟩
      rcases List.mem_cons.1 hx with rfl | hx'
      · exact step _ hba (ha _ hx)
      · refine step _ (le_trans ?_ hba) (ha _ hx)
        rcases hp.1 x hx' with h1 | h1
        · exact h1.le
        · exact h1.1.ge

theorem sort_ahead {n : ℕ} (l : Fin n → ℝ) (before : Fin n → Fin n → Bool) (hb : ∀ x y, before x y = true ↔ l y < l x) :
    ∀ m : List (Fin n), m.Pairwise (· < ·) → (stableSort before m).Pairwise (Ahead l)
  | [], _ => List.Pairwise.nil
  | a :: m, h => by
    rw [List.pairwise_cons] at h
    unfold stableSort
    exact insert_ahead l before hb a _ (sort_ahead l before hb m h.2) fun c hc => h.1 c ((perm_stableSort before m).mem_iff.1 hc)

theorem ahead_top {n : ℕ} {l : Fin n → ℝ} {P : Fin n → Prop} {i : Fin n} (hi : P i) (h : ∀ j, P j → j = i ∨ Ahead l i j) : IsTop P l i := by
  refine ⟨hi, fun j hj => ?_, fun j hj hlt => ?_⟩
  · rcases h j hj with rfl | h1 | h1
    · exact le_rfl
    · exact h1.le
    · exact h1.1.ge
  · rcases h j hj with rfl | h1 | h1
    · exact absurd hlt (lt_irrefl _)
    · exact h1
    · exact absurd hlt (not_lt.2 h1.2.le)

/-- The first two positions of the stable sort are those of the two greatest. -/
theorem sorted_two (l : Fin 8 → ℝ) (before : Fin 8 → Fin 8 → Bool) (hb : ∀ x y, before x y = true ↔ l y < l x) :
    sortedFrom before 0 = t1 l ∧ sortedFrom before 1 = t2 l := by
  have hp := sort_ahead l before hb (List.finRange 8) (List.pairwise_lt_finRange 8)
  have hmem : ∀ j : Fin 8, j ∈ stableSort before (List.finRange 8) := fun j => (perm_stableSort before _).mem_iff.2 (List.mem_finRange j)
  have hlen := length_sortPositions 8 before
  have key : ∀ S : List (Fin 8), S.Pairwise (Ahead l) → (∀ j, j ∈ S) → ∀ hl : S.length = 8,
      S.get ((0 : Fin 8).cast hl.symm) = t1 l ∧ S.get ((1 : Fin 8).cast hl.symm) = t2 l := by
    intro S hS hm hl
    match S, hS, hm, hl with
    | x :: y :: S, hS, hm, hl =>
      rw [List.pairwise_cons, List.pairwise_cons] at hS
      have hx : x = t1 l := (ahead_top (P := fun _ => True) trivial fun j _ => (List.mem_cons.1 (hm j)).imp id fun h => hS.1 j h).unique (t1_spec l)
      refine ⟨hx, ?_⟩
      have hyx : y ≠ x := by
        intro e
        rcases hS.1 y (List.mem_cons_self ..) with h | h
        · rw [e] at h; exact lt_irrefl _ h
        · rw [e] at h; exact lt_irrefl _ h.2
      refine (ahead_top (P := fun j => j ≠ t1 l) (hx ▸ hyx) fun j hj => ?_).unique (t2_spec l)
      rcases List.mem_cons.1 (hm j) with h | h
      · exact absurd (h.trans hx) hj
      · exact (List.mem_cons.1 h).imp id fun h => hS.2.1 j h
  exact key _ hp hmem hlen

theorem gt_iff (x y : ℝ) : ((FloatOps.cmpfTotal (F := Ideal) (φ := .f32) .gt ((x : ℝ) : EReal) ((y : ℝ) : EReal)) == 1#1) = true ↔ y < x := by
  rw [Ideal.cmpfTotal_def, beq_iff_eq]
  show BitVec.ofBool (decide (((y : ℝ) : EReal) < ((x : ℝ) : EReal))) = 1#1 ↔ _
  rw [← EReal.coe_lt_coe_iff]
  by_cases h : ((y : ℝ) : EReal) < ((x : ℝ) : EReal) <;> simp [h]

/-- The position of the greatest or of the second greatest. -/
def tk (l : Fin 8 → ℝ) (k : Fin 2) : Fin 8 := if k = 0 then t1 l else t2 l

theorem along_row (i : Fin 4096) (k x : Fin 8) (h : 1 < 2) : (ix2 i k : S4096x8.Idx).along ⟨1, h⟩ x = ix2 i x := by
  funext a
  match a with
  | ⟨0, _⟩ => rfl
  | ⟨1, _⟩ => rfl

theorem sorted_tk (l : Fin 8 → ℝ) (k : Fin 2) :
    sortedFrom (fun k k' : Fin 8 => FloatOps.cmpfTotal (F := Ideal) (φ := .f32) .gt ((l k : ℝ) : EReal) ((l k' : ℝ) : EReal) == 1#1) (k.castLE (by omega)) = tk l k := by
  have h := sorted_two l _ fun x y => gt_iff (l x) (l y)
  match k with
  | ⟨0, _⟩ => exact h.1
  | ⟨1, _⟩ => exact h.2

theorem cut (i : Fin 4096) (k : Fin 2) (h : S4096x8.Slices (fun _ => 0) S4096x2) {α : Type} (x : S4096x8.Idx → α) :
    extractStridedSlice S4096x2 (fun _ => 0) x h (ix2 i k) = x (ix2 i (k.castLE (by omega))) := by
  unfold extractStridedSlice
  refine congrArg x (funext fun a => Fin.ext ?_)
  match a with
  | ⟨0, _⟩ => exact Nat.zero_add _
  | ⟨1, _⟩ => exact Nat.zero_add _

theorem vals (f : Fin 4096 → Fin 8 → ℝ) : rVals (F := Ideal) (rv f) = rv fun i k => f i (tk (f i) k) := by
  refine rv_of fun i k => ?_
  unfold rVals Host.topK
  dsimp only
  rw [cut]
  unfold Host.sort2
  rw [dif_pos (show 1 < S4096x8.rank from by decide)]
  dsimp only
  exact (congrArg (rv f) (along_row i _ _ _)).trans (congrArg (fun z => ((f i z : ℝ) : EReal)) (sorted_tk (f i) k))

theorem idxs (f : Fin 4096 → Fin 8 → ℝ) : rIdxs (F := Ideal) (rv f) = nv fun i k => (tk (f i) k).val := by
  refine mk_of fun i k => ?_
  unfold rIdxs Host.topK
  dsimp only
  rw [cut]
  unfold Host.sort2
  rw [dif_pos (show 1 < S4096x8.rank from by decide)]
  dsimp only
  exact congrArg (fun z : Fin 8 => BitVec.ofNat 32 z.val) (sorted_tk (f i) k)

end Cert.RefTop

end
-- ==== Proof.Blocks.lean ====
/- What each grid point's input blocks hold, from the launch's arguments. -/
module

public import proofs.«01_k».proof.Proof.Gen.KernelIdeal.Value
public import proofs.«01_k».proof.Proof.Lens3
public import proofs.«01_k».proof.Proof.Table

@[expose] public section

set_option maxRecDepth 16384

noncomputable section

namespace Cert.Blocks

open Idealize.ShloMosaic Idealize.ShloMosaic.TcCoe Idealize.SL.Sem Cert.KernelIdeal Cert.KernelIdeal.Gen Cert.Lens

variable (m : (ℓ : Loc nD τ sig) → Buf (Elt Ideal) ℓ) (c : Dev nD)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem n4 (t : Fin cfg0.N) : t.val < 4 := lt_of_lt_of_eq t.isLt (show cfg0.N = 4 from N_0)

/-- The array row a block's row stands for. -/
abbrev at_ (t : Fin cfg0.N) (i : Fin 1024) : Fin 4096 := ⟨1024 * t.val + i.val, by have := n4 t; omega⟩

variable {m c}
variable {X : Fin 4096 → Fin 384 → ℝ} {emb : Fin 1024 → Fin 384 → ℝ} {gw : Fin 8 → Fin 384 → ℝ} {gb : Fin 8 → ℝ}
  {uw3 vw3 : Fin 8 → Fin 64 → Fin 384 → ℝ} {ub2 vb2 : Fin 8 → Fin 64 → ℝ} (t : Fin cfg0.N)

theorem emb0 (t : Fin cfg0.N) (j : S1024x384.Idx) : (((cfg0.win 0).blk t).view.emb j : S1024x384.Idx) = j := by
  obtain ⟨e0, e1⟩ := idx0 t
  funext a; apply Fin.ext
  match a with
  | ⟨0, _⟩ => show win0_0.index t (0 : Fin 2) * 1024 + 1 * (j 0).val = (j 0).val; omega
  | ⟨1, _⟩ => show win0_0.index t (1 : Fin 2) * 384 + 1 * (j 1).val = (j 1).val; omega
/-- What window 0 holds at a point. -/
theorem blk0 (h : m ((c : Thread nD τ).loc main_arg1) = rv emb) : (iblk m c 0 t : Vec Ideal S1024x384 .f32) = rv emb := by
  funext j
  show V m c main_arg1 (((cfg0.win 0).blk t).view.emb j) = _
  rw [emb0]
  rw [V_main_arg1, h]

theorem emb1 (t : Fin cfg0.N) (j : S512x384.Idx) : (((cfg0.win 1).blk t).view.emb j : S512x384.Idx) = j := by
  obtain ⟨e0, e1⟩ := idx1 t
  funext a; apply Fin.ext
  match a with
  | ⟨0, _⟩ => show win0_1.index t (0 : Fin 2) * 512 + 1 * (j 0).val = (j 0).val; omega
  | ⟨1, _⟩ => show win0_1.index t (1 : Fin 2) * 384 + 1 * (j 1).val = (j 1).val; omega
/-- What window 1 holds at a point. -/
theorem blk1 (h : m ((c : Thread nD τ).loc main_arg6) = rv3 vw3) : (iblk m c 1 t : Vec Ideal S512x384 .f32) = rv fun j d => vw3 (gq j) (gm j) d := by
  funext j
  show V m c main_call0_v0 (((cfg0.win 1).blk t).view.emb j) = _
  rw [emb1]
  rw [show V m c main_call0_v0 = shapeCast S512x384 (m ((c : Thread nD τ).loc main_arg6)) shapeCasts_S8x64x384_S512x384 from rfl, h]
  exact congrFun (cast_merge _ _) j

theorem emb2 (t : Fin cfg0.N) (j : S512x1.Idx) : (((cfg0.win 2).blk t).view.emb j : S512x1.Idx) = j := by
  obtain ⟨e0, e1⟩ := idx2 t
  funext a; apply Fin.ext
  match a with
  | ⟨0, _⟩ => show win0_2.index t (0 : Fin 2) * 512 + 1 * (j 0).val = (j 0).val; omega
  | ⟨1, _⟩ => show win0_2.index t (1 : Fin 2) * 1 + 1 * (j 1).val = (j 1).val; omega
/-- What window 2 holds at a point. -/
theorem blk2 (h : m ((c : Thread nD τ).loc main_arg7) = rv vb2) : (iblk m c 2 t : Vec Ideal S512x1 .f32) = rv fun j _ => vb2 (gq j) (gm j) := by
  funext j
  show V m c main_call0_v1 (((cfg0.win 2).blk t).view.emb j) = _
  rw [emb2]
  rw [show V m c main_call0_v1 = shapeCast S512x1 (m ((c : Thread nD τ).loc main_arg7)) shapeCasts_S8x64_S512x1 from rfl, h]
  exact congrFun (cast_pile _ _) j

theorem emb3 (t : Fin cfg0.N) (j : S1024x384.Idx) : (((cfg0.win 3).blk t).view.emb j : S4096x384.Idx) = ix2 (at_ t (j 0)) (j 1) := by
  obtain ⟨e0, e1⟩ := idx3 t
  funext a; apply Fin.ext
  match a with
  | ⟨0, _⟩ => show win0_3.index t (0 : Fin 2) * 1024 + 1 * (j 0).val = 1024 * t.val + (j 0).val; omega
  | ⟨1, _⟩ => show win0_3.index t (1 : Fin 2) * 384 + 1 * (j 1).val = (j 1).val; omega
/-- What window 3 holds at a point. -/
theorem blk3 (h : m ((c : Thread nD τ).loc main_arg0) = rv X) : (iblk m c 3 t : Vec Ideal S1024x384 .f32) = rv fun i d => X (at_ t i) d := by
  funext j
  show V m c main_arg0 (((cfg0.win 3).blk t).view.emb j) = _
  rw [emb3]
  rw [V_main_arg0, h]
  rfl

theorem emb4 (t : Fin cfg0.N) (j : S8x384.Idx) : (((cfg0.win 4).blk t).view.emb j : S8x384.Idx) = j := by
  obtain ⟨e0, e1⟩ := idx4 t
  funext a; apply Fin.ext
  match a with
  | ⟨0, _⟩ => show win0_4.index t (0 : Fin 2) * 8 + 1 * (j 0).val = (j 0).val; omega
  | ⟨1, _⟩ => show win0_4.index t (1 : Fin 2) * 384 + 1 * (j 1).val = (j 1).val; omega
/-- What window 4 holds at a point. -/
theorem blk4 (h : m ((c : Thread nD τ).loc main_arg2) = rv gw) : (iblk m c 4 t : Vec Ideal S8x384 .f32) = rv gw := by
  funext j
  show V m c main_arg2 (((cfg0.win 4).blk t).view.emb j) = _
  rw [emb4]
  rw [V_main_arg2, h]

theorem emb5 (t : Fin cfg0.N) (j : S1x8.Idx) : (((cfg0.win 5).blk t).view.emb j : S1x8.Idx) = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 8 + 1 * (j 1).val = (j 1).val; omega
/-- What window 5 holds at a point. -/
theorem blk5 (h : m ((c : Thread nD τ).loc main_arg3) = rv1 gb) : (iblk m c 5 t : Vec Ideal S1x8 .f32) = rv fun _ r => gb r := by
  funext j
  show V m c main_call0_v4 (((cfg0.win 5).blk t).view.emb j) = _
  rw [emb5]
  rw [show V m c main_call0_v4 = shapeCast S1x8 (m ((c : Thread nD τ).loc main_arg3)) shapeCasts_S8_S1x8 from rfl, h]
  exact congrFun (cast_row_rv _ _) j

theorem emb6 (t : Fin cfg0.N) (j : S512x384.Idx) : (((cfg0.win 6).blk t).view.emb j : S512x384.Idx) = j := by
  obtain ⟨e0, e1⟩ := idx6 t
  funext a; apply Fin.ext
  match a with
  | ⟨0, _⟩ => show win0_6.index t (0 : Fin 2) * 512 + 1 * (j 0).val = (j 0).val; omega
  | ⟨1, _⟩ => show win0_6.index t (1 : Fin 2) * 384 + 1 * (j 1).val = (j 1).val; omega
/-- What window 6 holds at a point. -/
theorem blk6 (h : m ((c : Thread nD τ).loc main_arg4) = rv3 uw3) : (iblk m c 6 t : Vec Ideal S512x384 .f32) = rv fun j d => uw3 (gq j) (gm j) d := by
  funext j
  show V m c main_call0_v2 (((cfg0.win 6).blk t).view.emb j) = _
  rw [emb6]
  rw [show V m c main_call0_v2 = shapeCast S512x384 (m ((c : Thread nD τ).loc main_arg4)) shapeCasts_S8x64x384_S512x384 from rfl, h]
  exact congrFun (cast_merge _ _) j

theorem emb7 (t : Fin cfg0.N) (j : S1x512.Idx) : (((cfg0.win 7).blk t).view.emb j : S1x512.Idx) = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 512 + 1 * (j 1).val = (j 1).val; omega
/-- What window 7 holds at a point. -/
theorem blk7 (h : m ((c : Thread nD τ).loc main_arg5) = rv ub2) : (iblk m c 7 t : Vec Ideal S1x512 .f32) = rv fun _ j => ub2 (gq j) (gm j) := by
  funext j
  show V m c main_call0_v3 (((cfg0.win 7).blk t).view.emb j) = _
  rw [emb7]
  rw [show V m c main_call0_v3 = shapeCast S1x512 (m ((c : Thread nD τ).loc main_arg5)) shapeCasts_S8x64_S1x512 from rfl, h]
  exact congrFun (cast_line _ _) j

theorem emb8 (t : Fin cfg0.N) (j : S1024x1.Idx) : (((cfg0.win 8).blk t).view.emb j : S4096x1.Idx) = ix2 (at_ t (j 0)) (j 1) := by
  obtain ⟨e0, e1⟩ := idx8 t
  funext a; apply Fin.ext
  match a with
  | ⟨0, _⟩ => show win0_8.index t (0 : Fin 2) * 1024 + 1 * (j 0).val = 1024 * t.val + (j 0).val; omega
  | ⟨1, _⟩ => show win0_8.index t (1 : Fin 2) * 1 + 1 * (j 1).val = (j 1).val; omega
/-- What window 8 holds at a point. -/
theorem blk8 : (iblk m c 8 t : Vec Ideal S1024x1 .f32) = rv fun i _ => Table.U (at_ t i) := by
  funext j
  show V m c main_call0_cst (((cfg0.win 8).blk t).view.emb j) = _
  rw [emb8]
  show (Ideal.ofBits .f32 (lit0 (S4096x1.rowMajor (ix2 (at_ t (j 0)) (j 1)))) : EReal) = ((Table.U (at_ t (j 0)) : ℝ) : EReal)
  rw [show S4096x1.rowMajor (ix2 (at_ t (j 0)) (j 1)) = at_ t (j 0) from Fin.ext ((Shape.rowMajor_val_two _).trans (by
    have h1 : (j 1).val < 1 := (j 1).isLt
    show (1024 * t.val + (j 0).val) * 1 + (j 1).val = 1024 * t.val + (j 0).val
    omega))]
  exact Table.U_spec _

end Cert.Blocks

end
-- ==== Proof.Half.lean ====
/- The two halves of a grid point compute one and the same function of the half's rows. -/
module

public import proofs.«01_k».proof.Proof.Gen.KernelIdeal.Skeleton

@[expose] public section

set_option maxRecDepth 16384

noncomputable section

namespace Cert.Half

open Idealize.ShloMosaic Idealize.SL.Sem Cert.KernelIdeal Cert.KernelIdeal.Gen

variable {F : FTy → Type} [FloatOps F]

/-- Column numbers, 512×8. -/
abbrev c8 : IVec S512x8 32 := iota .tc S512x8 32 [1] iota_S512x8_d1_w32
/-- Column numbers, 512×128. -/
abbrev c128 : IVec S512x128 32 := iota .tc S512x128 32 [1] iota_S512x128_d1_w32
/-- The triangular array of ones, 128×128. -/
abbrev tri : FVec F S128x128 .f32 := k0_pay21 (iota .tc S128x128 32 [0] iota_S128x128_d0_w32) (iota .tc S128x128 32 [1] iota_S128x128_d1_w32)
/-- The group number of each column, 512×512. -/
abbrev grp : IVec S512x512 32 := k0_pay18 (iota .tc S512x512 32 [1] iota_S512x512_d1_w32) 64#32 k0_pay16 k0_pay17 1#32

section
variable (m : FVec F S512x1024 .f32) (u : Vec F S512x1 .f32)

/-- A row's mixture rounded to the narrow format. -/
abbrev lo : FVec F S512x1024 .bf16 := truncf .bf16 m bitsLt_bf16_f32
/-- The chunk holding the crossing. -/
abbrev ck : IVec S512x1 32 := k0_pay90 k0_pay19 k0_pay20 c8 m u (lo m)
/-- Whether a crossing exists. -/
abbrev ok : IVec S512x1 1 := k0_pay91 k0_pay19 k0_pay20 c8 m u (lo m)
/-- The running total before the chunk. -/
abbrev pr : FVec F S512x1 .f32 := k0_pay92 k0_pay19 k0_pay20 c8 m u (lo m)
/-- The first seven terms of the chunk's selection. -/
abbrev ca : FVec F S512x128 .f32 := k0_pay95 m (ck m u) (k0_pay93 k0_pay19 k0_pay20 c8 m u (lo m)) (k0_pay94 k0_pay19 k0_pay20 c8 m u (lo m))
/-- The last term of the chunk's selection. -/
abbrev cb : FVec F S512x128 .f32 := k0_pay96 m (ck m u)
/-- The selected candidates of a half, from its mixture rows and its draws. -/
def selOf : IVec S512x1 32 := k0_pay99 tri c128 u (ck m u) (ok m u) (pr m u) (ca m u) (cb m u)
/-- The logarithms of the selected candidates' weights. -/
def logOf : FVec F S512x1 .f32 := k0_pay100 tri c128 m u (ok m u) (pr m u) (ca m u) (cb m u)
end

section
variable (g : Vec F S8x384 .f32) (x : Vec F S512x384 .f32) (b : Vec F S1x8 .f32)

/-- The users' normalised projections. -/
abbrev un (uh ul : Vec F S512x384 .bf16) (ub : Vec F S1x512 .f32) : FVec F S512x512 .bf16 := k0_pay81 k0_pay7 (k0_pay26 x) (k0_pay27 x) uh ul ub

/-- The mixture rows of a half. -/
def mixOf (uh ul : Vec F S512x384 .bf16) (ub : Vec F S1x512 .f32) (vh vl : Vec F S512x1024 .bf16) : FVec F S512x1024 .f32 :=
  k0_pay86 grp (k0_pay34 (k0_pay33 c8 g x b)) (k0_pay36 (k0_pay29 g x b) (k0_pay32 c8 g x b)) (k0_pay37 (k0_pay29 g x b) (k0_pay32 c8 g x b))
    (un x uh ul ub) (k0_pay82 k0_pay7 (k0_pay26 x) (k0_pay27 x) uh ul ub)
    (k0_pay83 k0_pay7 grp (k0_pay26 x) (k0_pay27 x) (k0_pay30 c8 g x b) uh ul ub) (k0_pay84 grp (k0_pay30 c8 g x b)) k0_pay85 vh vl vh vl

/-- The first accumulator's gain over a half. -/
def acc1 (p : FVec F S1x8 .f32) : FVec F S1x8 .f32 := k0_pay38 p (k0_pay28 g x b) (k0_pay29 g x b)
/-- The second accumulator's gain over a half. -/
def acc2 (q : FVec F S1x8 .f32) : FVec F S1x8 .f32 := k0_pay39 c8 q (k0_pay30 c8 g x b) (k0_pay33 c8 g x b)
end

/-! The second half's router is the first half's. -/
section
variable (g : Vec F S8x384 .f32) (x : Vec F S512x384 .f32) (b : Vec F S1x8 .f32)

theorem e68 : k0_pay68 (k0_pay22 g) (k0_pay23 g) x b = k0_pay28 g x b := rfl
theorem e69 : k0_pay69 (k0_pay22 g) (k0_pay23 g) x b = k0_pay29 g x b := rfl
theorem e71 : k0_pay71 c8 (k0_pay70 (k0_pay22 g) (k0_pay23 g) x b) = k0_pay30 c8 g x b := rfl
theorem e73 : k0_pay73 c8 (k0_pay68 (k0_pay22 g) (k0_pay23 g) x b) (k0_pay70 (k0_pay22 g) (k0_pay23 g) x b) = k0_pay32 c8 g x b := rfl
theorem e74 : k0_pay74 c8 (k0_pay68 (k0_pay22 g) (k0_pay23 g) x b) (k0_pay70 (k0_pay22 g) (k0_pay23 g) x b) = k0_pay34 (k0_pay33 c8 g x b) := rfl
theorem e76 : k0_pay76 c8 (k0_pay68 (k0_pay22 g) (k0_pay23 g) x b) (k0_pay69 (k0_pay22 g) (k0_pay23 g) x b) (k0_pay70 (k0_pay22 g) (k0_pay23 g) x b)
    = k0_pay36 (k0_pay29 g x b) (k0_pay32 c8 g x b) := rfl
theorem e77 : k0_pay77 c8 (k0_pay68 (k0_pay22 g) (k0_pay23 g) x b) (k0_pay69 (k0_pay22 g) (k0_pay23 g) x b) (k0_pay70 (k0_pay22 g) (k0_pay23 g) x b)
    = k0_pay37 (k0_pay29 g x b) (k0_pay32 c8 g x b) := rfl
theorem e78 (p : FVec F S1x8 .f32) : k0_pay78 p (k0_pay68 (k0_pay22 g) (k0_pay23 g) x b) (k0_pay69 (k0_pay22 g) (k0_pay23 g) x b) = acc1 g x b p := rfl
theorem e79 (q : FVec F S1x8 .f32) : k0_pay79 c8 q (k0_pay68 (k0_pay22 g) (k0_pay23 g) x b) (k0_pay70 (k0_pay22 g) (k0_pay23 g) x b) = acc2 g x b q := rfl
end

/-! The first half's mixture and selection are the second half's. -/
section
variable (v28 : FVec F S512x8 .f32) (a c : FVec F S512x384 .bf16) (uh ul : Vec F S512x384 .bf16) (ub : Vec F S1x512 .f32)

theorem e44 : k0_pay44 v28 (k0_pay40 a c uh ul ub) (k0_pay41 a c uh ul ub) (k0_pay42 a c uh ul ub) (k0_pay43 a c uh ul ub) = k0_pay80 v28 a c uh ul ub := rfl
theorem e45 : k0_pay45 v28 (k0_pay40 a c uh ul ub) (k0_pay41 a c uh ul ub) (k0_pay42 a c uh ul ub) (k0_pay43 a c uh ul ub) = k0_pay81 v28 a c uh ul ub := rfl
theorem e46 : k0_pay46 v28 (k0_pay40 a c uh ul ub) (k0_pay41 a c uh ul ub) (k0_pay42 a c uh ul ub) (k0_pay43 a c uh ul ub) = k0_pay82 v28 a c uh ul ub := rfl

theorem e51 (v57 : IVec S512x512 32) (i j : IVec S512x1 32) (g0 g1 : FVec F S512x1 .f32) (vh vl : Vec F S512x1024 .bf16) :
    k0_pay51 g0 g1 (k0_pay47 v28 v57 i (k0_pay40 a c uh ul ub) (k0_pay41 a c uh ul ub) (k0_pay42 a c uh ul ub) (k0_pay43 a c uh ul ub))
      (k0_pay48 v28 v57 i (k0_pay40 a c uh ul ub) (k0_pay41 a c uh ul ub) (k0_pay42 a c uh ul ub) (k0_pay43 a c uh ul ub))
      (k0_pay49 v28 v57 j (k0_pay40 a c uh ul ub) (k0_pay41 a c uh ul ub) (k0_pay42 a c uh ul ub) (k0_pay43 a c uh ul ub))
      (k0_pay50 v28 v57 j (k0_pay40 a c uh ul ub) (k0_pay41 a c uh ul ub) (k0_pay42 a c uh ul ub) (k0_pay43 a c uh ul ub)) vh vl vh vl
    = k0_pay86 v57 j g0 g1 (k0_pay81 v28 a c uh ul ub) (k0_pay82 v28 a c uh ul ub) (k0_pay83 v28 v57 a c i uh ul ub) (k0_pay84 v57 i) k0_pay85 vh vl vh vl := by
  unfold k0_pay47 k0_pay48 k0_pay49 k0_pay50
  rw [e45, e46]
  rfl
end

section
variable (g0 g1 : FVec F S512x1 .f32) (p q r s : FVec F S512x512 .bf16) (vh vl : Vec F S512x1024 .bf16) (u : Vec F S512x1 .f32)

theorem e52 : k0_pay52 k0_pay19 g0 g1 p q r s vh vl vh vl = k0_pay88 k0_pay19 (k0_pay51 g0 g1 p q r s vh vl vh vl) (lo (k0_pay51 g0 g1 p q r s vh vl vh vl)) := rfl
theorem e53 : k0_pay53 k0_pay19 k0_pay20 g0 g1 p q r s vh vl vh vl
    = k0_pay89 k0_pay19 k0_pay20 (k0_pay51 g0 g1 p q r s vh vl vh vl) (lo (k0_pay51 g0 g1 p q r s vh vl vh vl)) := rfl
end

section
variable (m : FVec F S512x1024 .f32) (u : Vec F S512x1 .f32)

/-- The running chunk totals. -/
abbrev cc : FVec F S512x8 .f32 := k0_pay89 k0_pay19 k0_pay20 m (lo m)
/-- The chunk totals. -/
abbrev cs : FVec F S512x8 .f32 := k0_pay88 k0_pay19 m (lo m)

theorem e54 : k0_pay54 c8 u (cc m) = ck m u := rfl
theorem e55 : k0_pay55 c8 u (cc m) = ok m u := rfl
theorem e56 : k0_pay56 c8 u (cs m) (cc m) = pr m u := rfl
/-- The first half's chunk selection. -/
abbrev l62 : IVec S512x128 32 := k0_pay62 tri c128 m u (ck m u) (pr m u) (k0_pay57 c8 m u (cc m)) (k0_pay58 m) (k0_pay59 c8 u (cc m)) k0_pay60
theorem e61 : k0_pay61 m (ck m u) (k0_pay57 c8 m u (cc m)) (k0_pay58 m) (k0_pay59 c8 u (cc m)) k0_pay60 = k0_pay97 (ca m u) (cb m u) := rfl
theorem e63 : k0_pay63 (l62 m u) = k0_pay98 tri c128 u (pr m u) (ca m u) (cb m u) := by
  unfold l62 k0_pay62
  rw [e61]
  rfl
theorem e64 : k0_pay64 (ck m u) (ok m u) (l62 m u) = selOf m u := by
  unfold k0_pay64
  rw [e63]
  rfl
theorem e65 : k0_pay65 c128 m (ok m u) (k0_pay61 m (ck m u) (k0_pay57 c8 m u (cc m)) (k0_pay58 m) (k0_pay59 c8 u (cc m)) k0_pay60) (l62 m u) = logOf m u := by
  unfold k0_pay65
  rw [e63, e61]
  rfl
end

section
variable (g : Vec F S8x384 .f32) (x : Vec F S512x384 .f32) (b : Vec F S1x8 .f32) (uh ul : Vec F S512x384 .bf16) (ub : Vec F S1x512 .f32)
  (vh vl : Vec F S512x1024 .bf16) (u : Vec F S512x1 .f32)

/-- The four arrays the first half's projection passes on. -/
abbrev h40 : FVec F S512x512 .f32 := k0_pay40 (k0_pay26 x) (k0_pay27 x) uh ul ub
/-- Squares. -/
abbrev h41 : FVec F S512x512 .f32 := k0_pay41 (k0_pay26 x) (k0_pay27 x) uh ul ub
/-- Squares, rounded. -/
abbrev h42 : FVec F S512x512 .bf16 := k0_pay42 (k0_pay26 x) (k0_pay27 x) uh ul ub
/-- Squares, rounded and widened. -/
abbrev h43 : FVec F S512x512 .f32 := k0_pay43 (k0_pay26 x) (k0_pay27 x) uh ul ub
/-- The first half's gates. -/
abbrev g0 : FVec F S512x1 .f32 := k0_pay36 (k0_pay29 g x b) (k0_pay32 c8 g x b)
/-- The second gate. -/
abbrev g1 : FVec F S512x1 .f32 := k0_pay37 (k0_pay29 g x b) (k0_pay32 c8 g x b)
/-- The first half's projections kept at the chosen experts' columns. -/
abbrev h47 : FVec F S512x512 .bf16 := k0_pay47 k0_pay7 grp (k0_pay30 c8 g x b) (h40 x uh ul ub) (h41 x uh ul ub) (h42 x uh ul ub) (h43 x uh ul ub)
/-- The rest of the first expert's columns. -/
abbrev h48 : FVec F S512x512 .bf16 := k0_pay48 k0_pay7 grp (k0_pay30 c8 g x b) (h40 x uh ul ub) (h41 x uh ul ub) (h42 x uh ul ub) (h43 x uh ul ub)
/-- The second expert's columns. -/
abbrev h49 : FVec F S512x512 .bf16 := k0_pay49 k0_pay7 grp (k0_pay34 (k0_pay33 c8 g x b)) (h40 x uh ul ub) (h41 x uh ul ub) (h42 x uh ul ub) (h43 x uh ul ub)
/-- The rest of the second expert's columns. -/
abbrev h50 : FVec F S512x512 .bf16 := k0_pay50 k0_pay7 grp (k0_pay34 (k0_pay33 c8 g x b)) (h40 x uh ul ub) (h41 x uh ul ub) (h42 x uh ul ub) (h43 x uh ul ub)
/-- The first half's mixture. -/
abbrev h51 : FVec F S512x1024 .f32 := k0_pay51 (g0 g x b) (g1 g x b) (h47 g x b uh ul ub) (h48 g x b uh ul ub) (h49 g x b uh ul ub) (h50 g x b uh ul ub) vh vl vh vl
/-- The first half's chunk totals. -/
abbrev h52 : FVec F S512x8 .f32 := k0_pay52 k0_pay19 (g0 g x b) (g1 g x b) (h47 g x b uh ul ub) (h48 g x b uh ul ub) (h49 g x b uh ul ub) (h50 g x b uh ul ub) vh vl vh vl
/-- The first half's running chunk totals. -/
abbrev h53 : FVec F S512x8 .f32 := k0_pay53 k0_pay19 k0_pay20 (g0 g x b) (g1 g x b) (h47 g x b uh ul ub) (h48 g x b uh ul ub) (h49 g x b uh ul ub) (h50 g x b uh ul ub) vh vl vh vl
/-- The first three terms of the chunk selection. -/
abbrev h57 : FVec F S512x128 .f32 := k0_pay57 c8 (h51 g x b uh ul ub vh vl) u (h53 g x b uh ul ub vh vl)
/-- The first half's crossing lanes. -/
abbrev h62 : IVec S512x128 32 := k0_pay62 tri c128 (h51 g x b uh ul ub vh vl) u (k0_pay54 c8 u (h53 g x b uh ul ub vh vl))
  (k0_pay56 c8 u (h52 g x b uh ul ub vh vl) (h53 g x b uh ul ub vh vl)) (h57 g x b uh ul ub vh vl u) (k0_pay58 (h51 g x b uh ul ub vh vl))
  (k0_pay59 c8 u (h53 g x b uh ul ub vh vl)) k0_pay60
/-- The first half's chunk. -/
abbrev h61 : FVec F S512x128 .f32 := k0_pay61 (h51 g x b uh ul ub vh vl) (k0_pay54 c8 u (h53 g x b uh ul ub vh vl)) (h57 g x b uh ul ub vh vl u) (k0_pay58 (h51 g x b uh ul ub vh vl))
  (k0_pay59 c8 u (h53 g x b uh ul ub vh vl)) k0_pay60

theorem m1 : h51 g x b uh ul ub vh vl = mixOf g x b uh ul ub vh vl := e51 _ _ _ _ _ _ _ _ _ _ _ _ _

/-- The first half's selection. -/
theorem first_sel : k0_pay64 (k0_pay54 c8 u (h53 g x b uh ul ub vh vl)) (k0_pay55 c8 u (h53 g x b uh ul ub vh vl)) (h62 g x b uh ul ub vh vl u)
    = selOf (mixOf g x b uh ul ub vh vl) u := by
  unfold h62 h57 h53 h52
  rw [e52, e53]
  rw [show k0_pay51 (g0 g x b) (g1 g x b) (h47 g x b uh ul ub) (h48 g x b uh ul ub) (h49 g x b uh ul ub) (h50 g x b uh ul ub) vh vl vh vl = mixOf g x b uh ul ub vh vl from m1 g x b uh ul ub vh vl]
  exact e64 (mixOf g x b uh ul ub vh vl) u
/-- The first half's logarithms. -/
theorem first_log : k0_pay65 c128 (h51 g x b uh ul ub vh vl) (k0_pay55 c8 u (h53 g x b uh ul ub vh vl)) (h61 g x b uh ul ub vh vl u) (h62 g x b uh ul ub vh vl u)
    = logOf (mixOf g x b uh ul ub vh vl) u := by
  unfold h62 h61 h57 h53 h52
  rw [e52, e53]
  rw [show k0_pay51 (g0 g x b) (g1 g x b) (h47 g x b uh ul ub) (h48 g x b uh ul ub) (h49 g x b uh ul ub) (h50 g x b uh ul ub) vh vl vh vl = mixOf g x b uh ul ub vh vl from m1 g x b uh ul ub vh vl]
  exact e65 (mixOf g x b uh ul ub vh vl) u

/-- The second half's logits. -/
abbrev w68 : FVec F S512x8 .f32 := k0_pay68 (k0_pay22 g) (k0_pay23 g) x b
/-- The largest logit. -/
abbrev w69 : FVec F S512x1 .f32 := k0_pay69 (k0_pay22 g) (k0_pay23 g) x b
/-- Where the largest logit is. -/
abbrev w70 : IVec S512x8 1 := k0_pay70 (k0_pay22 g) (k0_pay23 g) x b
/-- The second half's mixture. -/
abbrev w86 : FVec F S512x1024 .f32 := k0_pay86 grp (k0_pay74 c8 (w68 g x b) (w70 g x b)) (k0_pay76 c8 (w68 g x b) (w69 g x b) (w70 g x b)) (k0_pay77 c8 (w68 g x b) (w69 g x b) (w70 g x b))
  (k0_pay81 k0_pay7 (k0_pay66 x) (k0_pay67 x) uh ul ub) (k0_pay82 k0_pay7 (k0_pay66 x) (k0_pay67 x) uh ul ub)
  (k0_pay83 k0_pay7 grp (k0_pay66 x) (k0_pay67 x) (k0_pay71 c8 (w70 g x b)) uh ul ub) (k0_pay84 grp (k0_pay71 c8 (w70 g x b))) k0_pay85 vh vl vh vl
/-- The second half's mixture, rounded. -/
abbrev w87 : FVec F S512x1024 .bf16 := k0_pay87 grp (k0_pay74 c8 (w68 g x b) (w70 g x b)) (k0_pay76 c8 (w68 g x b) (w69 g x b) (w70 g x b)) (k0_pay77 c8 (w68 g x b) (w69 g x b) (w70 g x b))
  (k0_pay81 k0_pay7 (k0_pay66 x) (k0_pay67 x) uh ul ub) (k0_pay82 k0_pay7 (k0_pay66 x) (k0_pay67 x) uh ul ub)
  (k0_pay83 k0_pay7 grp (k0_pay66 x) (k0_pay67 x) (k0_pay71 c8 (w70 g x b)) uh ul ub) (k0_pay84 grp (k0_pay71 c8 (w70 g x b))) k0_pay85 vh vl vh vl
theorem m2 : w86 g x b uh ul ub vh vl = mixOf g x b uh ul ub vh vl := by
  unfold w86
  rw [e74, e76, e77, e71]
  rfl
theorem m3 : w87 g x b uh ul ub vh vl = lo (w86 g x b uh ul ub vh vl) := rfl

/-- The second half's chunk. -/
abbrev y90 : IVec S512x1 32 := k0_pay90 k0_pay19 k0_pay20 c8 (w86 g x b uh ul ub vh vl) u (w87 g x b uh ul ub vh vl)
/-- Whether a crossing exists. -/
abbrev y91 : IVec S512x1 1 := k0_pay91 k0_pay19 k0_pay20 c8 (w86 g x b uh ul ub vh vl) u (w87 g x b uh ul ub vh vl)
/-- The total before the chunk. -/
abbrev y92 : FVec F S512x1 .f32 := k0_pay92 k0_pay19 k0_pay20 c8 (w86 g x b uh ul ub vh vl) u (w87 g x b uh ul ub vh vl)
/-- The first seven terms. -/
abbrev y95 : FVec F S512x128 .f32 := k0_pay95 (w86 g x b uh ul ub vh vl) (y90 g x b uh ul ub vh vl u) (k0_pay93 k0_pay19 k0_pay20 c8 (w86 g x b uh ul ub vh vl) u (w87 g x b uh ul ub vh vl))
  (k0_pay94 k0_pay19 k0_pay20 c8 (w86 g x b uh ul ub vh vl) u (w87 g x b uh ul ub vh vl))
/-- The last term. -/
abbrev y96 : FVec F S512x128 .f32 := k0_pay96 (w86 g x b uh ul ub vh vl) (y90 g x b uh ul ub vh vl u)
/-- The second half's selection. -/
theorem second_sel : k0_pay99 tri c128 u (y90 g x b uh ul ub vh vl u) (y91 g x b uh ul ub vh vl u) (y92 g x b uh ul ub vh vl u) (y95 g x b uh ul ub vh vl u) (y96 g x b uh ul ub vh vl u)
    = selOf (mixOf g x b uh ul ub vh vl) u := by
  unfold y96 y95 y92 y91 y90
  rw [m3, m2]
  rfl
/-- The second half's logarithms. -/
theorem second_log : k0_pay100 tri c128 (w86 g x b uh ul ub vh vl) u (y91 g x b uh ul ub vh vl u) (y92 g x b uh ul ub vh vl u) (y95 g x b uh ul ub vh vl u) (y96 g x b uh ul ub vh vl u)
    = logOf (mixOf g x b uh ul ub vh vl) u := by
  unfold y96 y95 y92 y91 y90
  rw [m3, m2]
  rfl
end

end Cert.Half

end
-- ==== Proof.Pieces.lean ====
/- The pieces each kind of grid point stores, as the half functions of what it loads. -/
module

public import proofs.«01_k».proof.Proof.Gen.KernelIdeal.Value
public import proofs.«01_k».proof.Proof.Half

@[expose] public section

set_option maxRecDepth 16384

noncomputable section

namespace Cert.Pieces

open Idealize.ShloMosaic Idealize.SL.Sem Cert.KernelIdeal Cert.KernelIdeal.Gen Cert.Half

variable {F : FTy → Type} [FloatOps F]

/-- Two stored halves agree when their contents do. -/
theorem two {e : EltTy} {p p' q q' : Vec F S512x1 e} (hp : p = p') (hq : q = q') :
    ([⟨Rect.unit (s := S1024x1) ![512, 0] S512x1.size inb_S1024x1_S512x1_512_0, p⟩,
      ⟨Rect.unit (s := S1024x1) ![0, 0] S512x1.size inb_S1024x1_S512x1_0_0, q⟩] :
        List (View.Piece (Elt F) S1024x1 e)) =
    [⟨Rect.unit (s := S1024x1) ![512, 0] S512x1.size inb_S1024x1_S512x1_512_0, p'⟩,
      ⟨Rect.unit (s := S1024x1) ![0, 0] S512x1.size inb_S1024x1_S512x1_0_0, q'⟩] := by
  subst hp hq
  rfl

section
variable (c : Dev nD) (i : grid0.Coords) (arg1 : Memref sig .tc .vmem S1024x384 .f32) (harg1 : arg1.IsWhole) (arg2 : Memref sig .tc .vmem S512x384 .f32) (harg2 : arg2.IsWhole) (arg3 : Memref sig .tc .vmem S512x1 .f32) (harg3 : arg3.IsWhole) (arg4 : Memref sig .tc .vmem S1024x384 .f32) (harg4 : arg4.IsWhole) (arg5 : Memref sig .tc .vmem S8x384 .f32) (harg5 : arg5.IsWhole) (arg6 : Memref sig .tc .vmem S1x8 .f32) (harg6 : arg6.IsWhole) (arg7 : Memref sig .tc .vmem S512x384 .f32) (harg7 : arg7.IsWhole) (arg8 : Memref sig .tc .vmem S1x512 .f32) (harg8 : arg8.IsWhole) (arg9 : Memref sig .tc .vmem S1024x1 .f32) (harg9 : arg9.IsWhole) (arg10 : Memref sig .tc .vmem S1024x1 .i32) (harg10 : arg10.IsWhole) (arg11 : Memref sig .tc .vmem S1024x1 .f32) (harg11 : arg11.IsWhole) (arg12 : Memref sig .tc .vmem S1x1 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x384 .bf16) (harg15 : arg15.IsWhole) (arg16 : Memref sig .tc .vmem S512x384 .bf16) (harg16 : arg16.IsWhole) (arg17 : Memref sig .tc .vmem S1x8 .f32) (harg17 : arg17.IsWhole) (arg18 : Memref sig .tc .vmem S1x8 .f32) (harg18 : arg18.IsWhole) (hc0 : cond0_0 i) (hc1 : ¬cond0_1 i)     (x0 : Vec F S1024x384 .f32) (x1 : Vec F S512x384 .f32) (x2 : Vec F S512x1 .f32) (x3 : Vec F S1024x384 .f32) (x4 : Vec F S8x384 .f32) (x5 : Vec F S1x8 .f32) (x6 : Vec F S512x384 .f32) (x7 : Vec F S1x512 .f32) (x8 : Vec F S1024x1 .f32)

/-- The selections stored. -/
theorem pA9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).1 = [⟨Rect.unit (s := S1024x1) ![512, 0] S512x1.size inb_S1024x1_S512x1_512_0, selOf (mixOf (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (arg15.view.readCov [⟨Rect.unit ![0, 0] S512x384.size inb_S512x384_S512x384_0_0, k0_pay12 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (arg16.view.readCov [⟨Rect.unit ![0, 0] S512x384.size inb_S512x384_S512x384_0_0, k0_pay13 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (View.readAt (Elt F) arg8.view (Rect.unit (s := S1x512) ![0, 0] S1x512.size inb_S1x512_S1x512_0_0).toLoadRect (harg8.unread x7)) (arg13.view.readCov [⟨Rect.unit ![0, 0] S512x1024.size inb_S512x1024_S512x1024_0_0, k0_pay8 (k0_pay5 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect) (arg14.view.readCov [⟨Rect.unit ![0, 0] S512x1024.size inb_S512x1024_S512x1024_0_0, k0_pay9 (k0_pay4 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2))) (k0_pay6 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect)) (View.readAt (Elt F) arg9.view (Rect.unit (s := S1024x1) ![512, 0] S512x1.size inb_S1024x1_S512x1_512_0).toLoadRect (harg9.unread x8))⟩, ⟨Rect.unit (s := S1024x1) ![0, 0] S512x1.size inb_S1024x1_S512x1_0_0, selOf (mixOf (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (arg15.view.readCov [⟨Rect.unit ![0, 0] S512x384.size inb_S512x384_S512x384_0_0, k0_pay12 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (arg16.view.readCov [⟨Rect.unit ![0, 0] S512x384.size inb_S512x384_S512x384_0_0, k0_pay13 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (View.readAt (Elt F) arg8.view (Rect.unit (s := S1x512) ![0, 0] S1x512.size inb_S1x512_S1x512_0_0).toLoadRect (harg8.unread x7)) (arg13.view.readCov [⟨Rect.unit ![0, 0] S512x1024.size inb_S512x1024_S512x1024_0_0, k0_pay8 (k0_pay5 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect) (arg14.view.readCov [⟨Rect.unit ![0, 0] S512x1024.size inb_S512x1024_S512x1024_0_0, k0_pay9 (k0_pay4 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2))) (k0_pay6 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect)) (View.readAt (Elt F) arg9.view (Rect.unit (s := S1024x1) ![0, 0] S512x1.size inb_S1024x1_S512x1_0_0).toLoadRect (harg9.unread x8))⟩] := by
  unfold kernelRun0_A
  refine (two (F := F) (e := .i32)
    (second_sel (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) _ _ (View.readAt (Elt F) arg8.view (Rect.unit (s := S1x512) ![0, 0] S1x512.size inb_S1x512_S1x512_0_0).toLoadRect (harg8.unread x7)) _ _ (View.readAt (Elt F) arg9.view (Rect.unit (s := S1024x1) ![512, 0] S512x1.size inb_S1024x1_S512x1_512_0).toLoadRect (harg9.unread x8)))
    (first_sel (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) _ _ (View.readAt (Elt F) arg8.view (Rect.unit (s := S1x512) ![0, 0] S1x512.size inb_S1x512_S1x512_0_0).toLoadRect (harg8.unread x7)) _ _ (View.readAt (Elt F) arg9.view (Rect.unit (s := S1024x1) ![0, 0] S512x1.size inb_S1024x1_S512x1_0_0).toLoadRect (harg9.unread x8)))).trans ?_
  rfl

/-- The logarithms stored. -/
theorem pA10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.1 = [⟨Rect.unit (s := S1024x1) ![512, 0] S512x1.size inb_S1024x1_S512x1_512_0, logOf (mixOf (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (arg15.view.readCov [⟨Rect.unit ![0, 0] S512x384.size inb_S512x384_S512x384_0_0, k0_pay12 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (arg16.view.readCov [⟨Rect.unit ![0, 0] S512x384.size inb_S512x384_S512x384_0_0, k0_pay13 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (View.readAt (Elt F) arg8.view (Rect.unit (s := S1x512) ![0, 0] S1x512.size inb_S1x512_S1x512_0_0).toLoadRect (harg8.unread x7)) (arg13.view.readCov [⟨Rect.unit ![0, 0] S512x1024.size inb_S512x1024_S512x1024_0_0, k0_pay8 (k0_pay5 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect) (arg14.view.readCov [⟨Rect.unit ![0, 0] S512x1024.size inb_S512x1024_S512x1024_0_0, k0_pay9 (k0_pay4 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2))) (k0_pay6 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect)) (View.readAt (Elt F) arg9.view (Rect.unit (s := S1024x1) ![512, 0] S512x1.size inb_S1024x1_S512x1_512_0).toLoadRect (harg9.unread x8))⟩, ⟨Rect.unit (s := S1024x1) ![0, 0] S512x1.size inb_S1024x1_S512x1_0_0, logOf (mixOf (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (arg15.view.readCov [⟨Rect.unit ![0, 0] S512x384.size inb_S512x384_S512x384_0_0, k0_pay12 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (arg16.view.readCov [⟨Rect.unit ![0, 0] S512x384.size inb_S512x384_S512x384_0_0, k0_pay13 (View.readAt (Elt F) arg7.view (Rect.unit (s := S512x384) ![0, 0] S512x384.size inb_S512x384_S512x384_0_0).toLoadRect (harg7.unread x6))⟩] (Rect.unit (s := S512x384) ![0, 0] S512x384.size inb_S512x384_S512x384_0_0).toLoadRect) (View.readAt (Elt F) arg8.view (Rect.unit (s := S1x512) ![0, 0] S1x512.size inb_S1x512_S1x512_0_0).toLoadRect (harg8.unread x7)) (arg13.view.readCov [⟨Rect.unit ![0, 0] S512x1024.size inb_S512x1024_S512x1024_0_0, k0_pay8 (k0_pay5 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect) (arg14.view.readCov [⟨Rect.unit ![0, 0] S512x1024.size inb_S512x1024_S512x1024_0_0, k0_pay9 (k0_pay4 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2))) (k0_pay6 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] (Rect.unit (s := S512x1024) ![0, 0] S512x1024.size inb_S512x1024_S512x1024_0_0).toLoadRect)) (View.readAt (Elt F) arg9.view (Rect.unit (s := S1024x1) ![0, 0] S512x1.size inb_S1024x1_S512x1_0_0).toLoadRect (harg9.unread x8))⟩] := by
  unfold kernelRun0_A
  refine (two (F := F) (e := .f32)
    (second_log (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) _ _ (View.readAt (Elt F) arg8.view (Rect.unit (s := S1x512) ![0, 0] S1x512.size inb_S1x512_S1x512_0_0).toLoadRect (harg8.unread x7)) _ _ (View.readAt (Elt F) arg9.view (Rect.unit (s := S1024x1) ![512, 0] S512x1.size inb_S1024x1_S512x1_512_0).toLoadRect (harg9.unread x8)))
    (first_log (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) _ _ (View.readAt (Elt F) arg8.view (Rect.unit (s := S1x512) ![0, 0] S1x512.size inb_S1x512_S1x512_0_0).toLoadRect (harg8.unread x7)) _ _ (View.readAt (Elt F) arg9.view (Rect.unit (s := S1024x1) ![0, 0] S512x1.size inb_S1024x1_S512x1_0_0).toLoadRect (harg9.unread x8)))).trans ?_
  rfl

/-- The first accumulator stored. -/
theorem pAs4 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.2.1 = [⟨Rect.unit ![0, 0] S1x8.size inb_S1x8_S1x8_0_0, k0_pay1 (k0_pay101 (acc1 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc1 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay24)) (arg17.view.readCov [⟨Rect.unit ![0, 0] S1x8.size inb_S1x8_S1x8_0_0, k0_pay14⟩] (Rect.unit (s := S1x8) ![0, 0] S1x8.size inb_S1x8_S1x8_0_0).toLoadRect))⟩, ⟨Rect.unit ![0, 0] S1x8.size inb_S1x8_S1x8_0_0, k0_pay14⟩] := by
  unfold kernelRun0_A
  rfl

/-- The second accumulator stored. -/
theorem pAs5 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.2.2.1 = [⟨Rect.unit ![0, 0] S1x8.size inb_S1x8_S1x8_0_0, k0_pay2 (acc2 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc2 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay25)) (arg18.view.readCov [⟨Rect.unit ![0, 0] S1x8.size inb_S1x8_S1x8_0_0, k0_pay15⟩] (Rect.unit (s := S1x8) ![0, 0] S1x8.size inb_S1x8_S1x8_0_0).toLoadRect)⟩, ⟨Rect.unit ![0, 0] S1x8.size inb_S1x8_S1x8_0_0, k0_pay15⟩] := by
  unfold kernelRun0_A
  rfl

/-- The scratch stored at the first point. -/
theorem pAs0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.1 = [⟨Rect.unit ![0, 0] S512x1024.size inb_S512x1024_S512x1024_0_0, k0_pay8 (k0_pay5 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] := by
  unfold kernelRun0_A
  rfl

/-- The scratch stored at the first point. -/
theorem pAs1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.1 = [⟨Rect.unit ![0, 0] S512x1024.size inb_S512x1024_S512x1024_0_0, k0_pay9 (k0_pay4 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2))) (k0_pay6 k0_pay7 (View.readAt (Elt F) arg2.view (Rect.unit (s := S512x384) ![0, 0] S512x384.size inb_S512x384_S512x384_0_0).toLoadRect (harg2.unread x1)) (View.readAt (Elt F) arg1.view (Rect.unit (s := S1024x384) ![0, 0] S1024x384.size inb_S1024x384_S1024x384_0_0).toLoadRect (harg1.unread x0)) (View.readAt (Elt F) arg3.view (Rect.unit (s := S512x1) ![0, 0] S512x1.size inb_S512x1_S512x1_0_0).toLoadRect (harg3.unread x2)))⟩] := by
  unfold kernelRun0_A
  rfl

/-- The scratch stored at the first point. -/
theorem pAs2 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.1 = [⟨Rect.unit ![0, 0] S512x384.size inb_S512x384_S512x384_0_0, k0_pay12 (View.readAt (Elt F) arg7.view (Rect.unit (s := S512x384) ![0, 0] S512x384.size inb_S512x384_S512x384_0_0).toLoadRect (harg7.unread x6))⟩] := by
  unfold kernelRun0_A
  rfl

/-- The scratch stored at the first point. -/
theorem pAs3 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.1 = [⟨Rect.unit ![0, 0] S512x384.size inb_S512x384_S512x384_0_0, k0_pay13 (View.readAt (Elt F) arg7.view (Rect.unit (s := S512x384) ![0, 0] S512x384.size inb_S512x384_S512x384_0_0).toLoadRect (harg7.unread x6))⟩] := by
  unfold kernelRun0_A
  rfl

end

section
variable (c : Dev nD) (i : grid0.Coords) (arg1 : Memref sig .tc .vmem S1024x384 .f32) (harg1 : arg1.IsWhole) (arg2 : Memref sig .tc .vmem S512x384 .f32) (harg2 : arg2.IsWhole) (arg3 : Memref sig .tc .vmem S512x1 .f32) (harg3 : arg3.IsWhole) (arg4 : Memref sig .tc .vmem S1024x384 .f32) (harg4 : arg4.IsWhole) (arg5 : Memref sig .tc .vmem S8x384 .f32) (harg5 : arg5.IsWhole) (arg6 : Memref sig .tc .vmem S1x8 .f32) (harg6 : arg6.IsWhole) (arg7 : Memref sig .tc .vmem S512x384 .f32) (harg7 : arg7.IsWhole) (arg8 : Memref sig .tc .vmem S1x512 .f32) (harg8 : arg8.IsWhole) (arg9 : Memref sig .tc .vmem S1024x1 .f32) (harg9 : arg9.IsWhole) (arg10 : Memref sig .tc .vmem S1024x1 .i32) (harg10 : arg10.IsWhole) (arg11 : Memref sig .tc .vmem S1024x1 .f32) (harg11 : arg11.IsWhole) (arg12 : Memref sig .tc .vmem S1x1 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x384 .bf16) (harg15 : arg15.IsWhole) (arg16 : Memref sig .tc .vmem S512x384 .bf16) (harg16 : arg16.IsWhole) (arg17 : Memref sig .tc .vmem S1x8 .f32) (harg17 : arg17.IsWhole) (arg18 : Memref sig .tc .vmem S1x8 .f32) (harg18 : arg18.IsWhole) (hc0 : ¬cond0_0 i) (hc1 : ¬cond0_1 i)     (x0 : Vec F S1024x384 .f32) (x1 : Vec F S512x384 .f32) (x2 : Vec F S512x1 .f32) (x3 : Vec F S1024x384 .f32) (x4 : Vec F S8x384 .f32) (x5 : Vec F S1x8 .f32) (x6 : Vec F S512x384 .f32) (x7 : Vec F S1x512 .f32) (x8 : Vec F S1024x1 .f32) (xs0 : Vec F S512x1024 .bf16) (xs1 : Vec F S512x1024 .bf16) (xs2 : Vec F S512x384 .bf16) (xs3 : Vec F S512x384 .bf16) (xs4 : Vec F S1x8 .f32) (xs5 : Vec F S1x8 .f32)

/-- The selections stored. -/
theorem pB9 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).1 = [⟨Rect.unit (s := S1024x1) ![512, 0] S512x1.size inb_S1024x1_S512x1_512_0, selOf (mixOf (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![512, 0] S512x1.size inb_S1024x1_S512x1_512_0).toLoadRect (harg9.unread x8))⟩, ⟨Rect.unit (s := S1024x1) ![0, 0] S512x1.size inb_S1024x1_S512x1_0_0, selOf (mixOf (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![0, 0] S512x1.size inb_S1024x1_S512x1_0_0).toLoadRect (harg9.unread x8))⟩] := by
  unfold kernelRun0_B
  exact two (F := F) (e := .i32)
    (second_sel (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![512, 0] S512x1.size inb_S1024x1_S512x1_512_0).toLoadRect (harg9.unread x8)))
    (first_sel (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![0, 0] S512x1.size inb_S1024x1_S512x1_0_0).toLoadRect (harg9.unread x8)))

/-- The logarithms stored. -/
theorem pB10 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).2.1 = [⟨Rect.unit (s := S1024x1) ![512, 0] S512x1.size inb_S1024x1_S512x1_512_0, logOf (mixOf (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![512, 0] S512x1.size inb_S1024x1_S512x1_512_0).toLoadRect (harg9.unread x8))⟩, ⟨Rect.unit (s := S1024x1) ![0, 0] S512x1.size inb_S1024x1_S512x1_0_0, logOf (mixOf (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![0, 0] S512x1.size inb_S1024x1_S512x1_0_0).toLoadRect (harg9.unread x8))⟩] := by
  unfold kernelRun0_B
  exact two (F := F) (e := .f32)
    (second_log (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![512, 0] S512x1.size inb_S1024x1_S512x1_512_0).toLoadRect (harg9.unread x8)))
    (first_log (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![0, 0] S512x1.size inb_S1024x1_S512x1_0_0).toLoadRect (harg9.unread x8)))

/-- The first accumulator stored. -/
theorem pBs4 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).2.2.2.2.2.2.2.1 = [⟨Rect.unit ![0, 0] S1x8.size inb_S1x8_S1x8_0_0, k0_pay1 (k0_pay101 (acc1 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc1 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay24)) (View.readAt (Elt F) arg17.view (Rect.unit (s := S1x8) ![0, 0] S1x8.size inb_S1x8_S1x8_0_0).toLoadRect (harg17.unread xs4)))⟩] := by
  unfold kernelRun0_B
  rfl

/-- The second accumulator stored. -/
theorem pBs5 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).2.2.2.2.2.2.2.2.1 = [⟨Rect.unit ![0, 0] S1x8.size inb_S1x8_S1x8_0_0, k0_pay2 (acc2 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc2 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay25)) (View.readAt (Elt F) arg18.view (Rect.unit (s := S1x8) ![0, 0] S1x8.size inb_S1x8_S1x8_0_0).toLoadRect (harg18.unread xs5))⟩] := by
  unfold kernelRun0_B
  rfl

end

section
variable (c : Dev nD) (i : grid0.Coords) (arg1 : Memref sig .tc .vmem S1024x384 .f32) (harg1 : arg1.IsWhole) (arg2 : Memref sig .tc .vmem S512x384 .f32) (harg2 : arg2.IsWhole) (arg3 : Memref sig .tc .vmem S512x1 .f32) (harg3 : arg3.IsWhole) (arg4 : Memref sig .tc .vmem S1024x384 .f32) (harg4 : arg4.IsWhole) (arg5 : Memref sig .tc .vmem S8x384 .f32) (harg5 : arg5.IsWhole) (arg6 : Memref sig .tc .vmem S1x8 .f32) (harg6 : arg6.IsWhole) (arg7 : Memref sig .tc .vmem S512x384 .f32) (harg7 : arg7.IsWhole) (arg8 : Memref sig .tc .vmem S1x512 .f32) (harg8 : arg8.IsWhole) (arg9 : Memref sig .tc .vmem S1024x1 .f32) (harg9 : arg9.IsWhole) (arg10 : Memref sig .tc .vmem S1024x1 .i32) (harg10 : arg10.IsWhole) (arg11 : Memref sig .tc .vmem S1024x1 .f32) (harg11 : arg11.IsWhole) (arg12 : Memref sig .tc .vmem S1x1 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x384 .bf16) (harg15 : arg15.IsWhole) (arg16 : Memref sig .tc .vmem S512x384 .bf16) (harg16 : arg16.IsWhole) (arg17 : Memref sig .tc .vmem S1x8 .f32) (harg17 : arg17.IsWhole) (arg18 : Memref sig .tc .vmem S1x8 .f32) (harg18 : arg18.IsWhole) (hc0 : ¬cond0_0 i) (hc1 : cond0_1 i)     (x0 : Vec F S1024x384 .f32) (x1 : Vec F S512x384 .f32) (x2 : Vec F S512x1 .f32) (x3 : Vec F S1024x384 .f32) (x4 : Vec F S8x384 .f32) (x5 : Vec F S1x8 .f32) (x6 : Vec F S512x384 .f32) (x7 : Vec F S1x512 .f32) (x8 : Vec F S1024x1 .f32) (xs0 : Vec F S512x1024 .bf16) (xs1 : Vec F S512x1024 .bf16) (xs2 : Vec F S512x384 .bf16) (xs3 : Vec F S512x384 .bf16) (xs4 : Vec F S1x8 .f32) (xs5 : Vec F S1x8 .f32)

/-- The selections stored. -/
theorem pC9 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).1 = [⟨Rect.unit (s := S1024x1) ![512, 0] S512x1.size inb_S1024x1_S512x1_512_0, selOf (mixOf (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![512, 0] S512x1.size inb_S1024x1_S512x1_512_0).toLoadRect (harg9.unread x8))⟩, ⟨Rect.unit (s := S1024x1) ![0, 0] S512x1.size inb_S1024x1_S512x1_0_0, selOf (mixOf (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![0, 0] S512x1.size inb_S1024x1_S512x1_0_0).toLoadRect (harg9.unread x8))⟩] := by
  unfold kernelRun0_C
  exact two (F := F) (e := .i32)
    (second_sel (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![512, 0] S512x1.size inb_S1024x1_S512x1_512_0).toLoadRect (harg9.unread x8)))
    (first_sel (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![0, 0] S512x1.size inb_S1024x1_S512x1_0_0).toLoadRect (harg9.unread x8)))

/-- The logarithms stored. -/
theorem pC10 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).2.1 = [⟨Rect.unit (s := S1024x1) ![512, 0] S512x1.size inb_S1024x1_S512x1_512_0, logOf (mixOf (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![512, 0] S512x1.size inb_S1024x1_S512x1_512_0).toLoadRect (harg9.unread x8))⟩, ⟨Rect.unit (s := S1024x1) ![0, 0] S512x1.size inb_S1024x1_S512x1_0_0, logOf (mixOf (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1))) (View.readAt (Elt F) arg9.view (Rect.unit (s := S1024x1) ![0, 0] S512x1.size inb_S1024x1_S512x1_0_0).toLoadRect (harg9.unread x8))⟩] := by
  unfold kernelRun0_C
  exact two (F := F) (e := .f32)
    (second_log (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![512, 0] S512x1.size inb_S1024x1_S512x1_512_0).toLoadRect (harg9.unread x8)))
    (first_log (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) (View.readAt (Elt F) arg15.view (Rect.unit (s := S512x384) ![0, 0] S512x384.size inb_S512x384_S512x384_0_0).toLoadRect (harg15.unread xs2)) (View.readAt (Elt F) arg16.view (Rect.unit (s := S512x384) ![0, 0] S512x384.size inb_S512x384_S512x384_0_0).toLoadRect (harg16.unread xs3)) (View.readAt (Elt F) arg8.view (Rect.unit (s := S1x512) ![0, 0] S1x512.size inb_S1x512_S1x512_0_0).toLoadRect (harg8.unread x7)) (View.readAt (Elt F) arg13.view (Rect.unit (s := S512x1024) ![0, 0] S512x1024.size inb_S512x1024_S512x1024_0_0).toLoadRect (harg13.unread xs0)) (View.readAt (Elt F) arg14.view (Rect.unit (s := S512x1024) ![0, 0] S512x1024.size inb_S512x1024_S512x1024_0_0).toLoadRect (harg14.unread xs1)) (View.readAt (Elt F) arg9.view (Rect.unit (s := S1024x1) ![0, 0] S512x1.size inb_S1024x1_S512x1_0_0).toLoadRect (harg9.unread x8)))

/-- The first accumulator stored. -/
theorem pCs4 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).2.2.2.2.2.2.2.1 = [⟨Rect.unit ![0, 0] S1x8.size inb_S1x8_S1x8_0_0, k0_pay1 (k0_pay101 (acc1 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc1 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay24)) (View.readAt (Elt F) arg17.view (Rect.unit (s := S1x8) ![0, 0] S1x8.size inb_S1x8_S1x8_0_0).toLoadRect (harg17.unread xs4)))⟩] := by
  unfold kernelRun0_C
  rfl

/-- The second accumulator stored. -/
theorem pCs5 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).2.2.2.2.2.2.2.2.1 = [⟨Rect.unit ![0, 0] S1x8.size inb_S1x8_S1x8_0_0, k0_pay2 (acc2 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc2 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay25)) (View.readAt (Elt F) arg18.view (Rect.unit (s := S1x8) ![0, 0] S1x8.size inb_S1x8_S1x8_0_0).toLoadRect (harg18.unread xs5))⟩] := by
  unfold kernelRun0_C
  rfl

/-- The loss stored at the last point. -/
theorem pC11 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs1 xs2 xs3 xs4 xs5).2.2.1 = [⟨Rect.unit ![0, 0] S1x1.size inb_S1x1_S1x1_0_0, k0_pay3 (arg17.view.readCov [⟨Rect.unit ![0, 0] ![1, 8] inb_S1x8_S1x8_0_0, k0_pay1 (k0_pay101 (acc1 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc1 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay24)) (View.readAt (Elt F) arg17.view (Rect.unit (s := S1x8) ![0, 0] S1x8.size inb_S1x8_S1x8_0_0).toLoadRect (harg17.unread xs4)))⟩] (Rect.unit (s := S1x8) ![0, 0] ![1, 8] inb_S1x8_S1x8_0_0).toLoadRect) (arg18.view.readCov [⟨Rect.unit ![0, 0] ![1, 8] inb_S1x8_S1x8_0_0, k0_pay2 (acc2 (View.readAt (Elt F) arg5.view (Rect.unit (s := S8x384) ![0, 0] S8x384.size inb_S8x384_S8x384_0_0).toLoadRect (harg5.unread x4)) (View.readAt (Elt F) arg4.view (Rect.unit (s := S1024x384) ![512, 0] S512x384.size inb_S1024x384_S512x384_512_0).toLoadRect (harg4.unread x3)) (View.readAt (Elt F) arg6.view (Rect.unit (s := S1x8) ![0, 0] S1x8.size inb_S1x8_S1x8_0_0).toLoadRect (harg6.unread x5)) (acc2 (View.readAt (Elt F) arg5.view (Rect.unit (s := S8x384) ![0, 0] S8x384.size inb_S8x384_S8x384_0_0).toLoadRect (harg5.unread x4)) (View.readAt (Elt F) arg4.view (Rect.unit (s := S1024x384) ![0, 0] S512x384.size inb_S1024x384_S512x384_0_0).toLoadRect (harg4.unread x3)) (View.readAt (Elt F) arg6.view (Rect.unit (s := S1x8) ![0, 0] S1x8.size inb_S1x8_S1x8_0_0).toLoadRect (harg6.unread x5)) k0_pay25)) (View.readAt (Elt F) arg18.view (Rect.unit (s := S1x8) ![0, 0] S1x8.size inb_S1x8_S1x8_0_0).toLoadRect (harg18.unread xs5))⟩] (Rect.unit (s := S1x8) ![0, 0] ![1, 8] inb_S1x8_S1x8_0_0).toLoadRect)⟩] := by
  unfold kernelRun0_C
  rfl

end

end Cert.Pieces

end
-- ==== Proof.KDots.lean ====
/- The kernel's matrix products and constants on arrays of real numbers. -/
module

public import proofs.«01_k».proof.Proof.Gen.KernelIdeal
public import proofs.«01_k».proof.Proof.Lens
public import proofs.«01_k».proof.Proof.Consts

@[expose] public section

set_option maxRecDepth 16384

noncomputable section

namespace Cert.KDots

open Idealize.ShloMosaic Idealize.SL.Sem Cert.Lens Cert.KernelIdeal Cert.KernelIdeal.Gen

variable {φ ψ : FTy}

/-- The product of a 512×384 and a 1024×384 array over axes 1 and 1: the sum over the contracted coordinate. -/
theorem dot0 (f : Fin 512 → Fin 384 → ℝ) (g : Fin 1024 → Fin 384 → ℝ) :
    matmul (F := Ideal) (φ₁ := φ) (φ₂ := ψ) dot_S512x384_S1024x384_S512x1024_1_1_0_0_n_n none (rv f) (rv g) (rv fun _ _ => 0) = rv fun i j => ∑ k, f i k * g j k :=
  matmul_rv dot_S512x384_S1024x384_S512x1024_1_1_0_0_n_n (ax := 1) rfl rfl (fun i _ k => (i, k)) (fun _ j k => (j, k))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×8 and a 512×1024 array over axes 0 and 0: the sum over the contracted coordinate. -/
theorem dot1 (f : Fin 512 → Fin 8 → ℝ) (g : Fin 512 → Fin 1024 → ℝ) :
    matmul (F := Ideal) (φ₁ := φ) (φ₂ := ψ) dot_S512x8_S512x1024_S8x1024_0_0_1_1_n_n none (rv f) (rv g) (rv fun _ _ => 0) = rv fun i j => ∑ k, f k i * g k j :=
  matmul_rv dot_S512x8_S512x1024_S8x1024_0_0_1_1_n_n (ax := 0) rfl rfl (fun i _ k => (k, i)) (fun _ j k => (k, j))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×8 and a 8×1024 array over axes 1 and 0: the sum over the contracted coordinate. -/
theorem dot2 (f : Fin 512 → Fin 8 → ℝ) (g : Fin 8 → Fin 1024 → ℝ) :
    matmul (F := Ideal) (φ₁ := φ) (φ₂ := ψ) dot_S512x8_S8x1024_S512x1024_1_0_0_1_n_n none (rv f) (rv g) (rv fun _ _ => 0) = rv fun i j => ∑ k, f i k * g k j :=
  matmul_rv dot_S512x8_S8x1024_S512x1024_1_0_0_1_n_n (ax := 1) rfl rfl (fun i _ k => (i, k)) (fun _ j k => (k, j))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×384 and a 8×384 array over axes 1 and 1: the sum over the contracted coordinate. -/
theorem dot3 (f : Fin 512 → Fin 384 → ℝ) (g : Fin 8 → Fin 384 → ℝ) :
    matmul (F := Ideal) (φ₁ := φ) (φ₂ := ψ) dot_S512x384_S8x384_S512x8_1_1_0_0_n_n none (rv f) (rv g) (rv fun _ _ => 0) = rv fun i j => ∑ k, f i k * g j k :=
  matmul_rv dot_S512x384_S8x384_S512x8_1_1_0_0_n_n (ax := 1) rfl rfl (fun i _ k => (i, k)) (fun _ j k => (j, k))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×384 and a 512×384 array over axes 1 and 1: the sum over the contracted coordinate. -/
theorem dot4 (f : Fin 512 → Fin 384 → ℝ) (g : Fin 512 → Fin 384 → ℝ) :
    matmul (F := Ideal) (φ₁ := φ) (φ₂ := ψ) dot_S512x384_S512x384_S512x512_1_1_0_0_n_n none (rv f) (rv g) (rv fun _ _ => 0) = rv fun i j => ∑ k, f i k * g j k :=
  matmul_rv dot_S512x384_S512x384_S512x512_1_1_0_0_n_n (ax := 1) rfl rfl (fun i _ k => (i, k)) (fun _ j k => (j, k))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×512 and a 512×8 array over axes 1 and 0: the sum over the contracted coordinate. -/
theorem dot5 (f : Fin 512 → Fin 512 → ℝ) (g : Fin 512 → Fin 8 → ℝ) :
    matmul (F := Ideal) (φ₁ := φ) (φ₂ := ψ) dot_S512x512_S512x8_S512x8_1_0_0_1_n_n none (rv f) (rv g) (rv fun _ _ => 0) = rv fun i j => ∑ k, f i k * g k j :=
  matmul_rv dot_S512x512_S512x8_S512x8_1_0_0_1_n_n (ax := 1) rfl rfl (fun i _ k => (i, k)) (fun _ j k => (k, j))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×8 and a 512×8 array over axes 1 and 1: the sum over the contracted coordinate. -/
theorem dot6 (f : Fin 512 → Fin 8 → ℝ) (g : Fin 512 → Fin 8 → ℝ) :
    matmul (F := Ideal) (φ₁ := φ) (φ₂ := ψ) dot_S512x8_S512x8_S512x512_1_1_0_0_n_n none (rv f) (rv g) (rv fun _ _ => 0) = rv fun i j => ∑ k, f i k * g j k :=
  matmul_rv dot_S512x8_S512x8_S512x512_1_1_0_0_n_n (ax := 1) rfl rfl (fun i _ k => (i, k)) (fun _ j k => (j, k))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×512 and a 512×1024 array over axes 1 and 0: the sum over the contracted coordinate. -/
theorem dot7 (f : Fin 512 → Fin 512 → ℝ) (g : Fin 512 → Fin 1024 → ℝ) :
    matmul (F := Ideal) (φ₁ := φ) (φ₂ := ψ) dot_S512x512_S512x1024_S512x1024_1_0_0_1_n_n none (rv f) (rv g) (rv fun _ _ => 0) = rv fun i j => ∑ k, f i k * g k j :=
  matmul_rv dot_S512x512_S512x1024_S512x1024_1_0_0_1_n_n (ax := 1) rfl rfl (fun i _ k => (i, k)) (fun _ j k => (k, j))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×1024 and a 1024×8 array over axes 1 and 0: the sum over the contracted coordinate. -/
theorem dot8 (f : Fin 512 → Fin 1024 → ℝ) (g : Fin 1024 → Fin 8 → ℝ) :
    matmul (F := Ideal) (φ₁ := φ) (φ₂ := ψ) dot_S512x1024_S1024x8_S512x8_1_0_0_1_n_n none (rv f) (rv g) (rv fun _ _ => 0) = rv fun i j => ∑ k, f i k * g k j :=
  matmul_rv dot_S512x1024_S1024x8_S512x8_1_0_0_1_n_n (ax := 1) rfl rfl (fun i _ k => (i, k)) (fun _ j k => (k, j))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×8 and a 8×8 array over axes 1 and 0: the sum over the contracted coordinate. -/
theorem dot9 (f : Fin 512 → Fin 8 → ℝ) (g : Fin 8 → Fin 8 → ℝ) :
    matmul (F := Ideal) (φ₁ := φ) (φ₂ := ψ) dot_S512x8_S8x8_S512x8_1_0_0_1_n_n none (rv f) (rv g) (rv fun _ _ => 0) = rv fun i j => ∑ k, f i k * g k j :=
  matmul_rv dot_S512x8_S8x8_S512x8_1_0_0_1_n_n (ax := 1) rfl rfl (fun i _ k => (i, k)) (fun _ j k => (k, j))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

/-- The product of a 512×128 and a 128×128 array over axes 1 and 0: the sum over the contracted coordinate. -/
theorem dot10 (f : Fin 512 → Fin 128 → ℝ) (g : Fin 128 → Fin 128 → ℝ) :
    matmul (F := Ideal) (φ₁ := φ) (φ₂ := ψ) dot_S512x128_S128x128_S512x128_1_0_0_1_n_n none (rv f) (rv g) (rv fun _ _ => 0) = rv fun i j => ∑ k, f i k * g k j :=
  matmul_rv dot_S512x128_S128x128_S512x128_1_0_0_1_n_n (ax := 1) rfl rfl (fun i _ k => (i, k)) (fun _ j k => (k, j))
    (fun _ _ _ => by funext x; apply Fin.ext; match x with | ⟨0, _⟩ => rfl | ⟨1, _⟩ => rfl)
    (fun _ _ _ => by funext x; apply Fin.ext; match x with | ⟨0, _⟩ => rfl | ⟨1, _⟩ => rfl) f g

end Cert.KDots

end
-- ==== Proof.Pay1.lean ====
/- What each stage of the kernel's body computes on arrays of real numbers: routing. -/
module

public import proofs.«01_k».proof.Proof.Gen.KernelIdeal.Skeleton
public import proofs.«01_k».proof.Proof.KDots
public import proofs.«01_k».proof.Proof.IntLens
public import proofs.«01_k».proof.Proof.Row

@[expose] public section

set_option maxRecDepth 16384

noncomputable section

namespace Cert.Pay

open Idealize.ShloMosaic Idealize.SL.Sem Cert.Lens Cert.KDots Cert.KernelIdeal Cert.KernelIdeal.Gen Cert.Pick Cert.Row Cert.Consts

variable {φ ψ : FTy} {a b : ℕ}

theorem truncf_rv (f : Fin a → Fin b → ℝ) (h : ψ.bits < φ.bits) : truncf (F := Ideal) (φ := φ) ψ (rv f) h = rv f := rfl
theorem extf_rv (f : Fin a → Fin b → ℝ) (h : φ.bits < ψ.bits) : extf (F := Ideal) (φ := φ) ψ (rv f) h = rv f := rfl

theorem pay28 (gw : Fin 8 → Fin 384 → ℝ) (x : Fin 512 → Fin 384 → ℝ) (gb : Fin 8 → ℝ) :
    k0_pay28 (F := Ideal) (rv gw) (rv x) (rv fun _ r => gb r) = rv fun i r => logit (x i) gw gb r := by
  unfold k0_pay28 k0_pay27 k0_pay26 k0_pay23 k0_pay22
  simp only [truncf_rv, extf_rv, subf_rv, constant_zero, dot3, addf_rv, cast_self, bcast_row_rv, sub_self, zero_mul, mul_zero,
    Finset.sum_const_zero, add_zero]
  rfl

/-- The column numbers of an array of eight columns. -/
def I8 : IVec S512x8 32 := nv fun _ j => j.val
theorem lt8 (i : Fin 8) : i.val < 2 ^ 31 := by have := i.isLt; omega

theorem max_t1 (L : Fin 512 → Fin 8 → ℝ) (h) (hφ) (hacc) :
    multiReduction (F := Ideal) (φ := .f32) .maximumf [1] S512 (rv L) 0xFF800000#32 h hφ hacc = rv1 fun i => L i (t1 (L i)) := by
  refine (rowMax (fun i j => ((L i j : ℝ) : EReal)) _ h hφ hacc).trans ?_
  refine congrArg mk1 (funext fun i => ?_)
  show (Finset.univ : Finset (Fin 8)).fold max (Ideal.ofBits .f32 0xFF800000#32 : EReal) _ = _
  rw [bot_eq]; exact fold_t1 (L i)
theorem max_t2 (L : Fin 512 → Fin 8 → ℝ) (h) (hφ) (hacc) :
    multiReduction (F := Ideal) (φ := .f32) .maximumf [1] S512 (mk fun i j => rest (L i) j) 0xFF800000#32 h hφ hacc = rv1 fun i => L i (t2 (L i)) := by
  refine (rowMax (fun i j => rest (L i) j) _ h hφ hacc).trans ?_
  refine congrArg mk1 (funext fun i => ?_)
  show (Finset.univ : Finset (Fin 8)).fold max (Ideal.ofBits .f32 0xFF800000#32 : EReal) _ = _
  rw [bot_eq]; exact fold_t2 (L i)

section
variable {g : Vec Ideal S8x384 .f32} {x : Vec Ideal S512x384 .f32} {b : Vec Ideal S1x8 .f32} {L : Fin 512 → Fin 8 → ℝ}

theorem pay29 (h : k0_pay28 (F := Ideal) g x b = rv L) : k0_pay29 (F := Ideal) g x b = rv fun i _ => L i (t1 (L i)) := by
  unfold k0_pay29
  rw [h]
  exact (congrArg (fun v => shapeCast S512x1 v shapeCasts_S512_S512x1) (max_t1 L _ _ _)).trans (cast_col_rv _ _)
theorem pay30 (h : k0_pay28 (F := Ideal) g x b = rv L) : k0_pay30 (F := Ideal) I8 g x b = nv fun i _ => (t1 (L i)).val := by
  unfold k0_pay30
  rw [pay29 h, h]
  simp only [bcast_col_rv]
  rw [show cmpf (F := Ideal) (φ := .f32) .oeq (rv L) (rv fun i _ => L i (t1 (L i))) = pv fun i j => L i j = L i (t1 (L i)) from
    (oeq_mk _ _).trans (pv_inj fun i j => EReal.coe_eq_coe_iff)]
  rw [show broadcast S512x8 8#32 = nv fun _ _ => 8 from rfl, show I8 = nv fun _ j => j.val from rfl, select_nv]
  refine (congrArg (fun v => shapeCast S512x1 v shapeCasts_S512_S512x1) (rowFirst (fun i j => L i j = L i (t1 (L i))) (by norm_num) 8 (by norm_num) (by norm_num) _ _)).trans ?_
  refine (cast_col _ _).trans (mk_inj fun i _ => ?_)
  rw [firstOr_t1]
theorem pay31 (h : k0_pay28 (F := Ideal) g x b = rv L) : k0_pay31 (F := Ideal) I8 g x b = mk fun i j => rest (L i) j := by
  unfold k0_pay31
  rw [pay30 h, h]
  simp only [bcast_col_nv]
  rw [show I8 = nv fun _ j => j.val from rfl, eq_nv _ _ (fun _ j => lt8 j) (fun i _ => lt8 _)]
  have hb : broadcast S512x8 (Scalar.ofBits (F := Ideal) .f32 0xFF800000#32) = mk fun _ _ => (⊥ : EReal) := by
    funext i; exact bot_eq
  rw [hb]
  refine (select_mk _ _ _).trans (mk_inj fun i j => ?_)
  exact ind_congr (Fin.ext_iff).symm _ _
theorem pay32 (h : k0_pay28 (F := Ideal) g x b = rv L) : k0_pay32 (F := Ideal) I8 g x b = rv fun i _ => L i (t2 (L i)) := by
  unfold k0_pay32
  rw [pay31 h]
  exact (congrArg (fun v => shapeCast S512x1 v shapeCasts_S512_S512x1) (max_t2 L _ _ _)).trans (cast_col_rv _ _)
theorem pay33 (h : k0_pay28 (F := Ideal) g x b = rv L) :
    k0_pay33 (F := Ideal) I8 g x b = nv fun i j => ind (j ≠ t1 (L i) ∧ L i j = L i (t2 (L i))) j.val 8 := by
  unfold k0_pay33
  rw [pay32 h, pay31 h]
  simp only [bcast_col_rv]
  rw [show cmpf (F := Ideal) (φ := .f32) .oeq (mk fun i j => rest (L i) j) (rv fun i _ => L i (t2 (L i)))
      = pv fun i j => j ≠ t1 (L i) ∧ L i j = L i (t2 (L i)) from (oeq_mk _ _).trans (pv_inj fun i j => rest_eq (L i) j)]
  rw [show broadcast S512x8 8#32 = nv fun _ _ => 8 from rfl, show I8 = nv fun _ j => j.val from rfl, select_nv]
theorem pay34 (L : Fin 512 → Fin 8 → ℝ) :
    k0_pay34 (nv fun i j => ind (j ≠ t1 (L i) ∧ L i j = L i (t2 (L i))) j.val 8) = nv fun i _ => (t2 (L i)).val := by
  unfold k0_pay34
  refine (congrArg (fun v => shapeCast S512x1 v shapeCasts_S512_S512x1) (rowFirst (fun i j => j ≠ t1 (L i) ∧ L i j = L i (t2 (L i))) (by norm_num) 8 (by norm_num) (by norm_num) _ _)).trans ?_
  refine (cast_col _ _).trans (mk_inj fun i _ => ?_)
  rw [firstOr_t2]
end

theorem one_rv : broadcast S512x1 (Scalar.ofBits (F := Ideal) .f32 0x3F800000#32) = rv fun _ _ => 1 := bcast_const _ 1 one_eq

theorem pay36 (L : Fin 512 → Fin 8 → ℝ) :
    k0_pay36 (F := Ideal) (rv fun i _ => L i (t1 (L i))) (rv fun i _ => L i (t2 (L i))) = rv fun i _ => gate0 (L i) := by
  unfold k0_pay36 k0_pay35
  simp only [subf_rv, exp_rv, one_rv, addf_rv]
  exact divf_rv _ _ fun i _ => ne_of_gt (by positivity)
theorem pay37 (L : Fin 512 → Fin 8 → ℝ) :
    k0_pay37 (F := Ideal) (rv fun i _ => L i (t1 (L i))) (rv fun i _ => L i (t2 (L i))) = rv fun i _ => gate1 (L i) := by
  unfold k0_pay37
  rw [pay36]
  unfold k0_pay35
  simp only [subf_rv, exp_rv, mulf_rv]
  rfl

theorem sum8 (f : Fin 512 → Fin 8 → ℝ) :
    shapeCast S512x1 (multiReduction (F := Ideal) (φ := .f32) .add [1] S512 (rv f) 0x00000000#32 reduces_S512x8_S512 (.inl rfl) rfl) shapeCasts_S512_S512x1
      = rv fun i _ => ∑ k, f i k :=
  (congrArg (fun v => shapeCast S512x1 v shapeCasts_S512_S512x1) (rowSum f _ _ _ _)).trans (cast_col_rv _ _)
theorem sum1024 (f : Fin 512 → Fin 1024 → ℝ) :
    shapeCast S512x1 (multiReduction (F := Ideal) (φ := .f32) .add [1] S512 (rv f) 0x00000000#32 reduces_S512x1024_S512 (.inl rfl) rfl) shapeCasts_S512_S512x1
      = rv fun i _ => ∑ k, f i k :=
  (congrArg (fun v => shapeCast S512x1 v shapeCasts_S512_S512x1) (rowSum f _ _ _ _)).trans (cast_col_rv _ _)
theorem sum128 (f : Fin 512 → Fin 128 → ℝ) :
    shapeCast S512x1 (multiReduction (F := Ideal) (φ := .f32) .add [1] S512 (rv f) 0x00000000#32 reduces_S512x128_S512 (.inl rfl) rfl) shapeCasts_S512_S512x1
      = rv fun i _ => ∑ k, f i k :=
  (congrArg (fun v => shapeCast S512x1 v shapeCasts_S512_S512x1) (rowSum f _ _ _ _)).trans (cast_col_rv _ _)
theorem cols8 (f : Fin 512 → Fin 8 → ℝ) :
    shapeCast S1x8 (multiReduction (F := Ideal) (φ := .f32) .add [0] S8 (rv f) 0x00000000#32 reduces_S512x8_S8 (.inl rfl) rfl) shapeCasts_S8_S1x8
      = rv fun _ j => ∑ k, f k j :=
  (congrArg (fun v => shapeCast S1x8 v shapeCasts_S8_S1x8) (colSum f _ _ _ _)).trans (cast_row_rv _ _)

theorem pay38 (p : Fin 8 → ℝ) (L : Fin 512 → Fin 8 → ℝ) :
    k0_pay38 (F := Ideal) (rv fun _ r => p r) (rv L) (rv fun i _ => L i (t1 (L i))) = rv fun _ r => p r + ∑ i, soft (L i) r := by
  unfold k0_pay38
  simp only [bcast_col_rv, subf_rv, exp_rv]
  rw [sum8]
  simp only [bcast_col_rv]
  rw [divf_rv _ _ fun i _ => ne_of_gt (sum_exp_pos (n := 8) (by norm_num) _)]
  rw [cols8, addf_rv]
  rfl
theorem pay39 (q : Fin 8 → ℝ) (L : Fin 512 → Fin 8 → ℝ) :
    k0_pay39 (F := Ideal) I8 (rv fun _ r => q r) (nv fun i _ => (t1 (L i)).val) (nv fun i j => ind (j ≠ t1 (L i) ∧ L i j = L i (t2 (L i))) j.val 8)
      = rv fun _ r => q r + ∑ i, hot (L i) r := by
  unfold k0_pay39
  rw [pay34]
  simp only [bcast_col_nv]
  rw [show I8 = nv fun _ j => j.val from rfl, eq_nv _ _ (fun _ j => lt8 j) (fun i _ => lt8 _), eq_nv _ _ (fun _ j => lt8 j) (fun i _ => lt8 _)]
  simp only [hot_pv, addf_rv]
  rw [cols8, addf_rv]
  rfl

end Cert.Pay

end
-- ==== Proof.Pay2.lean ====
/- What each stage of the kernel's body computes on arrays of real numbers: indicator matrices and the candidates' normalised projections. -/
module

public import proofs.«01_k».proof.Proof.Pay1

@[expose] public section

set_option maxRecDepth 16384

noncomputable section

namespace Cert.Pay

open Idealize.ShloMosaic Idealize.SL.Sem Cert.Lens Cert.KDots Cert.KernelIdeal Cert.KernelIdeal.Gen Cert.Pick Cert.Row Cert.Consts

variable {φ ψ : FTy} {a b : ℕ}

/-- A word's quotient by another, rounded down, as the kernel spells it. -/
def fdiv (x d w : BitVec 32) : BitVec 32 :=
  Scalar.select (IntOp.andi (IntOp.cmpi .ne (IntOp.subi ((IntOp.cmpi .sgt x 0#32).setWidth 32) ((IntOp.cmpi .slt x 0#32).setWidth 32)) w)
    (IntOp.cmpi .ne (IntOp.remsi .vector x d) 0#32)) (IntOp.subi (IntOp.divsi .vector x d) 1#32) (IntOp.divsi .vector x d)
theorem fdiv64 : ∀ n : Fin 512, fdiv (BitVec.ofNat 32 n.val) 64#32 1#32 = BitVec.ofNat 32 (n.val / 64) := by decide +kernel
theorem fdiv128 : ∀ n : Fin 1024, fdiv (BitVec.ofNat 32 n.val) 128#32 1#32 = BitVec.ofNat 32 (n.val / 128) := by decide +kernel
theorem w64 : Scalar.subi (Scalar.extui (Scalar.cmpi .sgt 64#32 0#32)) (Scalar.extui (Scalar.cmpi .slt 64#32 0#32)) = 1#32 := by decide
theorem w128 : Scalar.subi (Scalar.extui (Scalar.cmpi .sgt 128#32 0#32)) (Scalar.extui (Scalar.cmpi .slt 128#32 0#32)) = 1#32 := by decide

theorem pay7 : k0_pay7 (F := Ideal) = rv G := by
  unfold k0_pay7
  dsimp only
  rw [iota0_nv, iota1_nv, w64]
  have h : select (andi (cmpi .ne (subi (extui 32 (cmpi .sgt (nv fun (i : Fin 512) (_ : Fin 8) => i.val) (broadcast S512x8 0#32)) natLt_1_32)
      (extui 32 (cmpi .slt (nv fun (i : Fin 512) (_ : Fin 8) => i.val) (broadcast S512x8 0#32)) natLt_1_32)) (broadcast S512x8 1#32))
      (cmpi .ne (remsi (nv fun (i : Fin 512) (_ : Fin 8) => i.val) (broadcast S512x8 64#32)) (broadcast S512x8 0#32)))
      (subi (divsi (nv fun (i : Fin 512) (_ : Fin 8) => i.val) (broadcast S512x8 64#32)) (broadcast S512x8 1#32))
      (divsi (nv fun (i : Fin 512) (_ : Fin 8) => i.val) (broadcast S512x8 64#32)) = nv fun i _ => i.val / 64 :=
    mk_of fun i j => fdiv64 i
  rw [h, eq_nv _ _ (fun i _ => by have := i.isLt; omega) (fun _ j => lt8 j)]
  exact hot_pv _ _

theorem pay18 : k0_pay18 (iota .tc S512x512 32 [1] iota_S512x512_d1_w32) 64#32 k0_pay16 k0_pay17 (Scalar.extui (Scalar.cmpi .sgt 64#32 0#32))
    = nv fun _ j => j.val / 64 := by
  unfold k0_pay18 k0_pay16 k0_pay17
  dsimp only
  rw [iota1_nv, w64]
  exact mk_of fun i j => fdiv64 j

theorem pay19 : k0_pay19 (F := Ideal) = rv fun e k => ind (e.val / 128 = k.val) 1 0 := by
  unfold k0_pay19
  dsimp only
  rw [iota0_nv, iota1_nv, w128]
  have h : select (andi (cmpi .ne (subi (extui 32 (cmpi .sgt (nv fun (i : Fin 1024) (_ : Fin 8) => i.val) (broadcast S1024x8 0#32)) natLt_1_32)
      (extui 32 (cmpi .slt (nv fun (i : Fin 1024) (_ : Fin 8) => i.val) (broadcast S1024x8 0#32)) natLt_1_32)) (broadcast S1024x8 1#32))
      (cmpi .ne (remsi (nv fun (i : Fin 1024) (_ : Fin 8) => i.val) (broadcast S1024x8 128#32)) (broadcast S1024x8 0#32)))
      (subi (divsi (nv fun (i : Fin 1024) (_ : Fin 8) => i.val) (broadcast S1024x8 128#32)) (broadcast S1024x8 1#32))
      (divsi (nv fun (i : Fin 1024) (_ : Fin 8) => i.val) (broadcast S1024x8 128#32)) = nv fun i _ => i.val / 128 :=
    mk_of fun i j => fdiv128 i
  rw [h, eq_nv _ _ (fun i _ => by have := i.isLt; omega) (fun _ j => lt8 j)]
  exact hot_pv _ _

theorem pay20 : k0_pay20 (F := Ideal) = rv fun i j => ind (i.val ≤ j.val) 1 0 := by
  unfold k0_pay20
  rw [iota0_nv, iota1_nv]
  dsimp only
  rw [sle_nv _ _ (fun i _ => lt8 i) (fun _ j => lt8 j)]
  exact hot_pv _ _
theorem pay21 : k0_pay21 (F := Ideal) (iota .tc S128x128 32 [0] iota_S128x128_d0_w32) (iota .tc S128x128 32 [1] iota_S128x128_d1_w32) = rv fun i j => ind (i.val ≤ j.val) 1 0 := by
  unfold k0_pay21
  rw [iota0_nv, iota1_nv]
  dsimp only
  rw [sle_nv _ _ (fun i _ => by have := i.isLt; omega) (fun _ j => by have := j.isLt; omega)]
  exact hot_pv _ _

/-- The candidates' projection at the columns of all groups, each group divided by its norm. -/
def ve (emb : Fin 1024 → Fin 384 → ℝ) (vw : Fin 512 → Fin 384 → ℝ) (vb : Fin 512 → ℝ) (e : Fin 1024) (c : Fin 512) : ℝ := unit (lin (emb e) vw vb) c

theorem broadcast_one (s1 s2 : ℕ) : broadcast (⟨2, ![s1, s2]⟩ : Shape) (Scalar.ofBits (F := Ideal) .f32 0x3F800000#32) = rv fun _ _ => 1 := bcast_const _ 1 one_eq
theorem broadcast_eps (s1 s2 : ℕ) : broadcast (⟨2, ![s1, s2]⟩ : Shape) (Scalar.ofBits (F := Ideal) .f32 0x2B8CBCCC#32) = rv fun _ _ => eps := bcast_const _ eps eps_spec.1
theorem G_nonneg (c : Fin 512) (r : Fin 8) : 0 ≤ G c r := by
  unfold G ind; split <;> norm_num
theorem sq_nonneg' (v : Fin 512 → ℝ) (r : Fin 8) : 0 ≤ ∑ c, v c * v c * G c r :=
  Finset.sum_nonneg fun c _ => mul_nonneg (mul_self_nonneg _) (G_nonneg c r)
theorem sq_nonneg'' (v : Fin 512 → ℝ) (r : Fin 8) : 0 ≤ ∑ c, G c r * (v c * v c) :=
  Finset.sum_nonneg fun c _ => mul_nonneg (G_nonneg c r) (mul_self_nonneg _)

theorem pay4 (emb : Fin 1024 → Fin 384 → ℝ) (vw : Fin 512 → Fin 384 → ℝ) (vb : Fin 512 → ℝ) :
    k0_pay4 (F := Ideal) (rv G) (rv vw) (rv emb) (rv fun c _ => vb c) = rv fun c e => ve emb vw vb e c := by
  unfold k0_pay4
  simp only [truncf_rv, extf_rv, subf_rv, constant_zero, dot0, dot1, dot2, addf_rv, cast_self, bcast_col_rv, mulf_rv, sub_self, zero_mul, mul_zero,
    Finset.sum_const_zero, add_zero]
  rw [sqrt_rv _ fun i j => sq_nonneg'' (fun c => (∑ k, vw c k * emb j k) + vb c) i]
  rw [broadcast_eps, broadcast_one]
  simp only [maximumf_rv]
  rw [divf_rv _ _ fun _ _ => ne_of_gt (max_eps_pos _)]
  simp only [truncf_rv, extf_rv, subf_rv, constant_zero, dot0, dot1, dot2, addf_rv, cast_self, bcast_col_rv, mulf_rv, sub_self, zero_mul, mul_zero,
    Finset.sum_const_zero, add_zero]
  refine rv_inj fun c e => ?_
  have hv : ∀ c, (∑ k, vw c k * emb e k) + vb c = lin (emb e) vw vb c := fun c => by
    unfold lin; simp only [mul_comm]
  simp only [hv]
  unfold ve unit Row.inv
  congr 1
  refine Finset.sum_congr rfl fun r _ => ?_
  rw [mul_comm]
  simp only [mul_comm (G _ _)]

end Cert.Pay

end
-- ==== Proof.Pay3.lean ====
/- What each stage of the kernel's body computes on arrays of real numbers: the users' normalised projections and the mixture. -/
module

public import proofs.«01_k».proof.Proof.Pay2

@[expose] public section

set_option maxRecDepth 16384

noncomputable section

namespace Cert.Pay

open Idealize.ShloMosaic Idealize.SL.Sem Cert.Lens Cert.KDots Cert.KernelIdeal Cert.KernelIdeal.Gen Cert.Pick Cert.Row Cert.Consts

variable {φ ψ : FTy} {a b : ℕ}

theorem pay80 (x : Fin 512 → Fin 384 → ℝ) (uw : Fin 512 → Fin 384 → ℝ) (ub : Fin 512 → ℝ) :
    k0_pay80 (F := Ideal) (rv G) (rv x) (rv fun _ _ => 0) (rv uw) (rv fun _ _ => 0) (rv fun _ c => ub c) = rv fun i c => unit (lin (x i) uw ub) c := by
  unfold k0_pay80
  simp only [truncf_rv, extf_rv, subf_rv, constant_zero, dot4, dot5, dot6, addf_rv, cast_self, bcast_row_rv, mulf_rv, sub_self, zero_mul, mul_zero,
    Finset.sum_const_zero, add_zero]
  rw [sqrt_rv _ fun i j => sq_nonneg' (fun c => (∑ k, x i k * uw c k) + ub c) j]
  rw [broadcast_eps, broadcast_one]
  simp only [maximumf_rv]
  rw [divf_rv _ _ fun _ _ => ne_of_gt (max_eps_pos _)]
  simp only [truncf_rv, extf_rv, subf_rv, constant_zero, dot4, dot5, dot6, addf_rv, cast_self, bcast_col_rv, mulf_rv, sub_self, zero_mul, mul_zero,
    Finset.sum_const_zero, add_zero]
  rfl

theorem zero_bf : broadcast S512x512 (Scalar.sitofp (F := Ideal) .bf16 0#32) = rv fun _ _ => 0 := broadcast_bf trivial

theorem pay86 (uh : Fin 512 → Fin 512 → ℝ) (ve : Fin 1024 → Fin 512 → ℝ) (L : Fin 512 → Fin 8 → ℝ) :
    k0_pay86 (F := Ideal) (nv fun _ c => c.val / 64) (nv fun i _ => (t2 (L i)).val) (rv fun i _ => gate0 (L i)) (rv fun i _ => gate1 (L i))
      (rv uh) (rv fun _ _ => 0) (rv fun i c => ind (c.val / 64 = (t1 (L i)).val) (uh i c) 0) (pv fun i c => c.val / 64 = (t1 (L i)).val) (rv fun _ _ => 0)
      (rv fun c e => ve e c) (rv fun _ _ => 0) (rv fun c e => ve e c) (rv fun _ _ => 0)
      = rv fun i e => mixRow (L i) (uh i) ve e := by
  unfold k0_pay86
  have hc : ∀ i : Fin 512, ∀ c : Fin 512, c.val / 64 < 2 ^ 31 := fun _ c => by have := c.isLt; omega
  simp only [bcast_col_nv, zero_bf]
  rw [eq_nv _ _ hc (fun i _ => lt8 _)]
  simp only [select_rv]
  have hz : ∀ (p : Prop), (ind p (0 : ℝ) 0) = 0 := fun p => by unfold ind; split <;> rfl
  simp only [hz, constant_zero, dot7, addf_rv, zero_mul, mul_zero, Finset.sum_const_zero, add_zero, exp_rv]
  rw [sum1024, sum1024, divf_rv _ _ fun _ _ => ne_of_gt (sum_exp_pos (n := 1024) (by norm_num) _), divf_rv _ _ fun _ _ => ne_of_gt (sum_exp_pos (n := 1024) (by norm_num) _)]
  simp only [bcast_col_rv, mulf_rv, addf_rv]
  rfl

theorem pay83 (uh : Fin 512 → Fin 512 → ℝ) (L : Fin 512 → Fin 8 → ℝ) (v28 : FVec Ideal S512x8 .f32) (v388 v391 : FVec Ideal S512x384 .bf16) (v450 v451 : Vec Ideal S512x384 .bf16) (v457 : Vec Ideal S1x512 .f32)
    (h : k0_pay81 (F := Ideal) v28 v388 v391 v450 v451 v457 = rv uh) :
    k0_pay83 (F := Ideal) v28 (nv fun _ c => c.val / 64) v388 v391 (nv fun i _ => (t1 (L i)).val) v450 v451 v457
      = rv fun i c => ind (c.val / 64 = (t1 (L i)).val) (uh i c) 0 := by
  unfold k0_pay83
  have hc : ∀ i : Fin 512, ∀ c : Fin 512, c.val / 64 < 2 ^ 31 := fun _ c => by have := c.isLt; omega
  rw [h]
  simp only [bcast_col_nv, zero_bf]
  rw [eq_nv _ _ hc (fun i _ => lt8 _), select_rv]
theorem pay84 (L : Fin 512 → Fin 8 → ℝ) :
    k0_pay84 (nv fun _ c => c.val / 64) (nv fun i _ => (t1 (L i)).val) = pv fun i c => c.val / 64 = (t1 (L i)).val := by
  unfold k0_pay84
  have hc : ∀ i : Fin 512, ∀ c : Fin 512, c.val / 64 < 2 ^ 31 := fun _ c => by have := c.isLt; omega
  simp only [bcast_col_nv]
  rw [eq_nv _ _ hc (fun i _ => lt8 _)]

end Cert.Pay

end
-- ==== Proof.Pay4.lean ====
/- What each stage of the kernel's body computes on arrays of real numbers: the crossing of the running sum. -/
module

public import proofs.«01_k».proof.Proof.Pay3

@[expose] public section

set_option maxRecDepth 16384

noncomputable section

namespace Cert.Pay

open Idealize.ShloMosaic Idealize.SL.Sem Cert.Lens Cert.KDots Cert.KernelIdeal Cert.KernelIdeal.Gen Cert.Pick Cert.Row Cert.Consts

/-- The array that says to which chunk of 128 a column belongs. -/
def CI : FVec Ideal S1024x8 .f32 := rv fun e k => ind (e.val / 128 = k.val) 1 0
/-- The triangular array of ones. -/
def T8 : FVec Ideal S8x8 .f32 := rv fun i j => ind (i.val ≤ j.val) 1 0
/-- The triangular array of ones. -/
def T128 : FVec Ideal S128x128 .f32 := rv fun i j => ind (i.val ≤ j.val) 1 0
/-- The column numbers of an array of 128 columns. -/
def I128 : IVec S512x128 32 := nv fun _ j => j.val

theorem cst_le (m : Fin 1024 → ℝ) (u : ℝ) : cst m u ≤ 8 := firstOr_le _ (le_refl _)
theorem cst_lt (m : Fin 1024 → ℝ) (u : ℝ) : cst m u < 2 ^ 31 := by have := cst_le m u; omega
theorem lmin_le (m : Fin 1024 → ℝ) (u : ℝ) : lmin m u ≤ 128 := firstOr_le _ (le_refl _)
theorem lane_lt (m : Fin 1024 → ℝ) (u : ℝ) : lane m u < 2 ^ 31 := by
  have := lmin_le m u
  unfold lane ind; split <;> omega

theorem slice128 (m : Fin 512 → Fin 1024 → ℝ) (o : ℕ) (ho : o + 128 ≤ 1024) (h : S512x1024.Slices ![0, o] S512x128) :
    extractStridedSlice S512x128 ![0, o] (rv m) h = rv fun i l => at_ (m i) (o + l.val) := by
  refine (slice_rv m o h ho).trans (rv_inj fun i l => ?_)
  have : o + l.val < 1024 := by have := l.isLt; omega
  unfold at_
  rw [dif_pos this]

section
variable (m : Fin 512 → Fin 1024 → ℝ) (u : Fin 512 → ℝ)

theorem pay88 : k0_pay88 (F := Ideal) CI (rv m) (rv m) = rv fun i k => csum (m i) k := by
  unfold k0_pay88 CI
  simp only [truncf_rv, extf_rv, subf_rv, constant_zero, dot8, addf_rv, sub_self, zero_mul, Finset.sum_const_zero, add_zero]
  rfl
theorem pay89 : k0_pay89 (F := Ideal) CI T8 (rv m) (rv m) = rv fun i k => ccs (m i) k := by
  unfold k0_pay89
  dsimp only
  rw [pay88]
  unfold T8
  simp only [truncf_rv, extf_rv, subf_rv, constant_zero, dot9, addf_rv, sub_self, zero_mul, Finset.sum_const_zero, add_zero]
  rfl
theorem pay90 : k0_pay90 (F := Ideal) CI T8 I8 (rv m) (rv fun i _ => u i) (rv m) = nv fun i _ => cst (m i) (u i) := by
  unfold k0_pay90
  dsimp only
  rw [pay89]
  simp only [bcast_col_rv]
  rw [ogt_rv, show broadcast S512x8 8#32 = nv fun _ _ => 8 from rfl, show I8 = nv fun _ j => j.val from rfl, select_nv]
  refine (congrArg (fun v => shapeCast S512x1 v shapeCasts_S512_S512x1) (rowFirst (fun i j => u i < ccs (m i) j) (by norm_num) 8 (by norm_num) (by norm_num) _ _)).trans ?_
  exact cast_col _ _
theorem pay91 : k0_pay91 (F := Ideal) CI T8 I8 (rv m) (rv fun i _ => u i) (rv m) = pv fun i _ => cst (m i) (u i) < 8 := by
  unfold k0_pay91
  dsimp only
  rw [pay90, show broadcast S512x1 8#32 = nv fun _ _ => 8 from rfl, slt_nv _ _ (fun i _ => cst_lt _ _) (fun _ _ => by norm_num)]
theorem pay92 : k0_pay92 (F := Ideal) CI T8 I8 (rv m) (rv fun i _ => u i) (rv m) = rv fun i _ => prev (m i) (u i) := by
  unfold k0_pay92
  dsimp only
  rw [pay89, pay88, pay90]
  simp only [bcast_col_nv, subf_rv, broadcast_zero]
  rw [show I8 = nv fun _ j => j.val from rfl, eq_nv _ _ (fun _ j => lt8 j) (fun i _ => cst_lt _ _), select_rv, sum8]
  rfl

theorem eqc (k : ℕ) (hk : k < 2 ^ 31) : cmpi .eq (nv fun (i : Fin 512) (_ : Fin 1) => cst (m i) (u i)) (broadcast S512x1 (BitVec.ofNat 32 k)) = pv fun i _ => cst (m i) (u i) = k := by
  rw [show broadcast S512x1 (BitVec.ofNat 32 k) = nv fun _ _ => k from rfl, eq_nv _ _ (fun i _ => cst_lt _ _) (fun _ _ => hk)]

theorem pay93 : k0_pay93 (F := Ideal) CI T8 I8 (rv m) (rv fun i _ => u i) (rv m) = rv fun i l => 0 + ind (cst (m i) (u i) = 0) (at_ (m i) (0 + l.val)) 0 := by
  unfold k0_pay93
  dsimp only
  rw [pay90]
  have e0 := eqc m u 0 (by norm_num)
  rw [e0]
  simp only [cast_self, bcast_col_pv, broadcast_zero]
  rw [slice128 m 0 (by norm_num), select_rv, addf_rv]
theorem pay94 : k0_pay94 (F := Ideal) CI T8 I8 (rv m) (rv fun i _ => u i) (rv m) = rv fun i l => ind (cst (m i) (u i) = 1) (at_ (m i) (128 + l.val)) 0 := by
  unfold k0_pay94
  dsimp only
  rw [pay90]
  have e0 := eqc m u 1 (by norm_num)
  rw [e0]
  simp only [cast_self, bcast_col_pv, broadcast_zero]
  rw [slice128 m 128 (by norm_num), select_rv]
theorem pay95 (f g : Fin 512 → Fin 128 → ℝ) : k0_pay95 (F := Ideal) (rv m) (nv fun i _ => cst (m i) (u i)) (rv f) (rv g)
    = rv fun i l => f i l + g i l + ind (cst (m i) (u i) = 2) (at_ (m i) (256 + l.val)) 0 + ind (cst (m i) (u i) = 3) (at_ (m i) (384 + l.val)) 0
      + ind (cst (m i) (u i) = 4) (at_ (m i) (512 + l.val)) 0 + ind (cst (m i) (u i) = 5) (at_ (m i) (640 + l.val)) 0
      + ind (cst (m i) (u i) = 6) (at_ (m i) (768 + l.val)) 0 := by
  unfold k0_pay95
  dsimp only
  have e2 := eqc m u 2 (by norm_num)
  have e3 := eqc m u 3 (by norm_num)
  have e4 := eqc m u 4 (by norm_num)
  have e5 := eqc m u 5 (by norm_num)
  have e6 := eqc m u 6 (by norm_num)
  rw [e2, e3, e4, e5, e6]
  simp only [cast_self, bcast_col_pv, broadcast_zero]
  rw [slice128 m 256 (by norm_num), slice128 m 384 (by norm_num), slice128 m 512 (by norm_num), slice128 m 640 (by norm_num), slice128 m 768 (by norm_num)]
  simp only [select_rv, addf_rv]
theorem pay96 : k0_pay96 (F := Ideal) (rv m) (nv fun i _ => cst (m i) (u i)) = rv fun i l => ind (cst (m i) (u i) = 7) (at_ (m i) (896 + l.val)) 0 := by
  unfold k0_pay96
  dsimp only
  have e0 := eqc m u 7 (by norm_num)
  rw [e0]
  simp only [cast_self, bcast_col_pv, broadcast_zero]
  rw [slice128 m 896 (by norm_num), select_rv]
theorem pay97 (f g : FVec Ideal S512x128 .f32) (h : addf f g = rv fun i l => chunk (m i) (cst (m i) (u i)) l) :
    k0_pay97 (F := Ideal) f g = rv fun i l => chunk (m i) (cst (m i) (u i)) l := h

theorem pay98 (f g : FVec Ideal S512x128 .f32) (h : addf f g = rv fun i l => chunk (m i) (cst (m i) (u i)) l) :
    k0_pay98 (F := Ideal) T128 I128 (rv fun i _ => u i) (rv fun i _ => prev (m i) (u i)) f g = nv fun i _ => lane (m i) (u i) := by
  unfold k0_pay98
  dsimp only
  rw [pay97 m u f g h]
  unfold T128
  simp only [truncf_rv, extf_rv, subf_rv, constant_zero, dot10, addf_rv, sub_self, zero_mul, Finset.sum_const_zero, add_zero, bcast_col_rv]
  rw [ogt_rv, show broadcast S512x128 128#32 = nv fun _ _ => 128 from rfl, show I128 = nv fun _ j => j.val from rfl, select_nv]
  have hmin := (congrArg (fun v => shapeCast S512x1 v shapeCasts_S512_S512x1) (rowFirst (fun i j => u i < wcs (m i) (u i) j) (by norm_num) 128 (by norm_num) (by norm_num) reduces_S512x128_S512 rfl)).trans
    (cast_col (fun i => BitVec.ofNat 32 (firstOr (fun j => u i < wcs (m i) (u i) j) 128)) shapeCasts_S512_S512x1)
  refine (congrArg (fun v => select (cmpi .sge v (broadcast S512x1 128#32)) (broadcast S512x1 127#32) v) hmin).trans ?_
  show select (cmpi .sge (nv fun i _ => lmin (m i) (u i)) (nv fun _ _ => 128)) (nv fun _ _ => 127) (nv fun i _ => lmin (m i) (u i)) = _
  rw [sge_nv _ _ (fun i _ => by have := lmin_le (m i) (u i); omega) (fun _ _ => by norm_num), select_nv]
  rfl
theorem pay99 (f g : FVec Ideal S512x128 .f32) (h : addf f g = rv fun i l => chunk (m i) (cst (m i) (u i)) l) :
    k0_pay99 (F := Ideal) T128 I128 (rv fun i _ => u i) (nv fun i _ => cst (m i) (u i)) (pv fun i _ => cst (m i) (u i) < 8) (rv fun i _ => prev (m i) (u i)) f g
      = nv fun i _ => kSel (m i) (u i) := by
  unfold k0_pay99
  dsimp only
  rw [pay98 m u f g h, show broadcast S512x1 128#32 = nv fun _ _ => 128 from rfl, show broadcast S512x1 0#32 = nv fun _ _ => 0 from rfl, muli_nv, addi_nv, select_nv]
  rfl
theorem pay100 (f g : FVec Ideal S512x128 .f32) (h : addf f g = rv fun i l => chunk (m i) (cst (m i) (u i)) l) :
    k0_pay100 (F := Ideal) T128 I128 (rv m) (rv fun i _ => u i) (pv fun i _ => cst (m i) (u i) < 8) (rv fun i _ => prev (m i) (u i)) f g
      = mk fun i _ => Ideal.log ((kVal (m i) (u i) : ℝ) : EReal) := by
  unfold k0_pay100
  dsimp only
  rw [pay98 m u f g h, pay97 m u f g h]
  simp only [bcast_col_nv, broadcast_zero]
  rw [show I128 = nv fun _ j => j.val from rfl, eq_nv _ _ (fun _ j => by have := j.isLt; omega) (fun i _ => lane_lt _ _), select_rv, sum128,
    slice_rv m 0 _ (by norm_num), select_rv, log_rv]
  refine mk_inj fun i j => ?_
  rw [Subsingleton.elim j 0]
  rfl
end

end Cert.Pay

end
-- ==== Proof.HalfVal.lean ====
/- What a half computes on arrays of real numbers, and the first point's stored arrays. -/
module

public import proofs.«01_k».proof.Proof.Half
public import proofs.«01_k».proof.Proof.Pay3
public import proofs.«01_k».proof.Proof.Pay4

@[expose] public section

set_option maxRecDepth 16384

noncomputable section

namespace Cert.Half

open Idealize.ShloMosaic Idealize.SL.Sem Cert.Lens Cert.KernelIdeal Cert.KernelIdeal.Gen Cert.Pick Cert.Row Cert.Consts Cert.Pay

theorem c8_eq : c8 = I8 := iota1_nv _ _
theorem c128_eq : c128 = I128 := iota1_nv _ _
theorem CI_eq : k0_pay19 (F := Ideal) = CI := Pay.pay19
theorem T8_eq : k0_pay20 (F := Ideal) = T8 := Pay.pay20
theorem tri_eq : tri (F := Ideal) = T128 := Pay.pay21
theorem grp_eq : grp = nv fun _ c => c.val / 64 := by
  rw [← Pay.pay18]
  exact congrArg (k0_pay18 _ _ _ _) (by decide)

section
variable (m : Fin 512 → Fin 1024 → ℝ) (u : Fin 512 → ℝ)

theorem lo_rv : lo (F := Ideal) (rv m) = rv m := rfl
theorem ck_rv : ck (F := Ideal) (rv m) (rv fun i _ => u i) = nv fun i _ => cst (m i) (u i) := by
  unfold ck; rw [c8_eq, CI_eq, T8_eq, lo_rv]; exact Pay.pay90 m u
theorem ok_rv : ok (F := Ideal) (rv m) (rv fun i _ => u i) = pv fun i _ => cst (m i) (u i) < 8 := by
  unfold ok; rw [c8_eq, CI_eq, T8_eq, lo_rv]; exact Pay.pay91 m u
theorem pr_rv : pr (F := Ideal) (rv m) (rv fun i _ => u i) = rv fun i _ => prev (m i) (u i) := by
  unfold pr; rw [c8_eq, CI_eq, T8_eq, lo_rv]; exact Pay.pay92 m u
theorem cacb_rv : addf (ca (F := Ideal) (rv m) (rv fun i _ => u i)) (cb (rv m) (rv fun i _ => u i)) = rv fun i l => chunk (m i) (cst (m i) (u i)) l := by
  unfold ca cb
  rw [ck_rv, c8_eq, CI_eq, T8_eq, lo_rv, Pay.pay93, Pay.pay94, Pay.pay95, Pay.pay96, addf_rv]
  rfl
theorem selOf_rv : selOf (F := Ideal) (rv m) (rv fun i _ => u i) = nv fun i _ => kSel (m i) (u i) := by
  unfold selOf
  rw [ck_rv, ok_rv, pr_rv, tri_eq, c128_eq]
  exact Pay.pay99 m u _ _ (cacb_rv m u)
theorem logOf_rv : logOf (F := Ideal) (rv m) (rv fun i _ => u i) = mk fun i _ => Ideal.log ((kVal (m i) (u i) : ℝ) : EReal) := by
  unfold logOf
  rw [ok_rv, pr_rv, tri_eq, c128_eq]
  exact Pay.pay100 m u _ _ (cacb_rv m u)
end

section
variable (gw : Fin 8 → Fin 384 → ℝ) (gb : Fin 8 → ℝ) (x : Fin 512 → Fin 384 → ℝ)
/-- The logits of a half's rows. -/
abbrev lg (i : Fin 512) (r : Fin 8) : ℝ := logit (x i) gw gb r

theorem p28 : k0_pay28 (F := Ideal) (rv gw) (rv x) (rv fun _ r => gb r) = rv (lg gw gb x) := Pay.pay28 gw x gb

theorem mixOf_rv (uw : Fin 512 → Fin 384 → ℝ) (ub : Fin 512 → ℝ) (ve : Fin 1024 → Fin 512 → ℝ) :
    mixOf (F := Ideal) (rv gw) (rv x) (rv fun _ r => gb r) (rv uw) (rv fun _ _ => 0) (rv fun _ c => ub c) (rv fun c e => ve e c) (rv fun _ _ => 0)
      = rv fun i e => mixRow (lg gw gb x i) (unit (lin (x i) uw ub)) ve e := by
  have h := p28 gw gb x
  have h26 : k0_pay26 (F := Ideal) (rv x) = rv x := rfl
  have h27 : k0_pay27 (F := Ideal) (rv x) = rv fun _ _ => 0 := by
    unfold k0_pay27 k0_pay26
    simp only [truncf_rv, extf_rv, subf_rv, sub_self]
  have h80 := Pay.pay80 x uw ub
  have h81 : k0_pay81 (F := Ideal) (rv G) (rv x) (rv fun _ _ => 0) (rv uw) (rv fun _ _ => 0) (rv fun _ c => ub c) = rv fun i c => unit (lin (x i) uw ub) c := by
    unfold k0_pay81; rw [h80]; exact truncf_rv _ _
  have h82 : k0_pay82 (F := Ideal) (rv G) (rv x) (rv fun _ _ => 0) (rv uw) (rv fun _ _ => 0) (rv fun _ c => ub c) = rv fun _ _ => 0 := by
    unfold k0_pay82; rw [h81, h80]; simp only [truncf_rv, extf_rv, subf_rv, sub_self]
  have h85 : k0_pay85 (F := Ideal) = rv fun _ _ => 0 := zero_bf
  unfold mixOf un
  rw [h26, h27, c8_eq, grp_eq, Pay.pay7, Pay.pay33 h, Pay.pay34, Pay.pay30 h, Pay.pay29 h, Pay.pay32 h, Pay.pay36, Pay.pay37, h81, h82,
    Pay.pay83 _ (lg gw gb x) _ _ _ _ _ _ h81, Pay.pay84, h85]
  exact Pay.pay86 (fun i => unit (lin (x i) uw ub)) ve (lg gw gb x)

theorem acc1_rv (p : Fin 8 → ℝ) : acc1 (F := Ideal) (rv gw) (rv x) (rv fun _ r => gb r) (rv fun _ r => p r) = rv fun _ r => p r + ∑ i, soft (lg gw gb x i) r := by
  have h := p28 gw gb x
  unfold acc1
  rw [Pay.pay29 h, h]
  exact Pay.pay38 p _
theorem acc2_rv (q : Fin 8 → ℝ) : acc2 (F := Ideal) (rv gw) (rv x) (rv fun _ r => gb r) (rv fun _ r => q r) = rv fun _ r => q r + ∑ i, hot (lg gw gb x i) r := by
  have h := p28 gw gb x
  unfold acc2
  rw [c8_eq, Pay.pay30 h, Pay.pay33 h]
  exact Pay.pay39 q _
end

/-- The accumulators start at zero. -/
theorem z24 : k0_pay24 (F := Ideal) = rv fun _ _ => 0 := broadcast_zero
theorem z25 : k0_pay25 (F := Ideal) = rv fun _ _ => 0 := broadcast_zero
theorem z14 : k0_pay14 (F := Ideal) = rv fun _ _ => 0 := (cast_self _ _).trans broadcast_zero
theorem z15 : k0_pay15 (F := Ideal) = rv fun _ _ => 0 := (cast_self _ _).trans broadcast_zero

section
variable (v28 : FVec Ideal S512x8 .f32) (w : Vec Ideal S512x384 .f32) (e : Vec Ideal S1024x384 .f32) (b : Vec Ideal S512x1 .f32)
/-- The stored candidates' projections: the main part. -/
theorem s8 : k0_pay8 (k0_pay5 (F := Ideal) v28 w e b) = k0_pay4 v28 w e b := cast_self _ _
/-- The stored candidates' projections: the rest is zero. -/
theorem s9 (f : Fin 512 → Fin 1024 → ℝ) (h : k0_pay4 (F := Ideal) v28 w e b = rv f) :
    k0_pay9 (k0_pay4 (F := Ideal) v28 w e b) (k0_pay6 v28 w e b) = rv fun _ _ => 0 := by
  unfold k0_pay9 k0_pay6 k0_pay5
  rw [h]
  simp only [truncf_rv, extf_rv, subf_rv, sub_self, cast_self]
theorem s12 (f : Fin 512 → Fin 384 → ℝ) : k0_pay12 (F := Ideal) (rv f) = rv f := by
  unfold k0_pay12 k0_pay11 k0_pay10
  simp only [cast_self, truncf_rv]
theorem s13 (f : Fin 512 → Fin 384 → ℝ) : k0_pay13 (F := Ideal) (rv f) = rv fun _ _ => 0 := by
  unfold k0_pay13 k0_pay11 k0_pay10
  simp only [truncf_rv, extf_rv, subf_rv, sub_self, cast_self]
end

theorem s1 (p q : Fin 8 → ℝ) : k0_pay1 (k0_pay101 (F := Ideal) (rv fun _ r => p r) (rv fun _ r => q r)) = rv fun _ r => q r + p r := by
  unfold k0_pay1 k0_pay101
  simp only [addf_rv, cast_self]
theorem s2 (p q : Fin 8 → ℝ) : k0_pay2 (F := Ideal) (rv fun _ r => p r) (rv fun _ r => q r) = rv fun _ r => q r + p r := by
  unfold k0_pay2
  simp only [addf_rv, cast_self]
/-- The auxiliary loss from the two accumulators. -/
theorem s3 (p q : Fin 8 → ℝ) : k0_pay3 (F := Ideal) (rv fun _ r => p r) (rv fun _ r => q r) = rv fun _ _ => 8 * (∑ r, p r / 4096 * (q r / 4096)) * wgt := by
  unfold k0_pay3
  have e1 : broadcast S1x8 (Scalar.ofBits (F := Ideal) .f32 0x45800000#32) = rv fun _ _ => 4096 := bcast_const _ 4096 n4096_eq
  have e2 : broadcast S1x1 (Scalar.ofBits (F := Ideal) .f32 0x41000000#32) = rv fun _ _ => 8 := bcast_const _ 8 n8_eq
  have e3 : broadcast S1x1 (Scalar.ofBits (F := Ideal) .f32 0x3D4CCCCD#32) = rv fun _ _ => wgt := bcast_const _ wgt wgt_eq
  dsimp only
  rw [e1, e2, e3, divf_rv _ _ (fun _ _ => by norm_num), divf_rv _ _ (fun _ _ => by norm_num), mulf_rv]
  have hs := (congrArg (fun v => shapeCast S1x1 v shapeCasts_S1_S1x1) (rowSum (fun (_ : Fin 1) r => p r / 4096 * (q r / 4096)) 0x00000000#32 reduces_S1x8_S1 (.inl rfl) rfl)).trans (cast_col_rv _ _)
  refine (congrArg (fun v => mulf (mulf (rv fun _ _ => 8) v) (rv fun _ _ => wgt)) hs).trans ?_
  rw [mulf_rv, mulf_rv]

end Cert.Half

end
-- ==== Proof.Reads.lean ====
/- Loads and stores of a grid point's halves, and the row the kernel computes from one row of inputs. -/
module

public import proofs.«01_k».proof.Proof.HalfVal
public import Idealize.ShloMosaic.Lib.VecWindow
public import Idealize.ShloMosaic.Lib.WritesUnit
public import Idealize.ShloMosaic.Lib.Pipeline.Frame

@[expose] public section

set_option maxRecDepth 16384

noncomputable section

namespace Cert.Reads

open Idealize.ShloMosaic Idealize.SL.Sem Cert.KernelIdeal Cert.Half Cert.Lens Cert.Row

/-- A row of the first half of a block. -/
abbrev lo (i : Fin 512) : Fin 1024 := ⟨i.val, by omega⟩
/-- A row of the second half of a block. -/
abbrev hi (i : Fin 512) : Fin 1024 := ⟨512 + i.val, by omega⟩

/-- A sum over a block is the sum over its halves. -/
theorem sum_halves (f : Fin 1024 → ℝ) : ∑ i, f i = ∑ i, f (lo i) + ∑ i, f (hi i) :=
  Fin.sum_univ_add (a := 512) (b := 512) f

section
variable {κ : Kind} {sp : Space} {e : EltTy} {Val : EltTy → Type} {sig : RefSig}

/-- A load of the whole buffer reads its contents. -/
theorem full {s : Shape} {m : Memref sig κ sp s e} (h : m.IsWhole) (X : s.Idx → Val e) {off : Fin s.rank → ℕ} (inb : ∀ a, off a + s.size a ≤ s.size a) :
    m.view.readAt Val (Rect.unit off s.size inb).toLoadRect (h.unread X) = X := by
  rw [View.readAt_full, h.read_unread]

/-- A load of the first rows of a block of 384 columns. -/
theorem rows_lo {m : Memref sig κ sp S1024x384 e} (h : m.IsWhole) (X : Fin 1024 → Fin 384 → Val e)
    (inb : ∀ a : Fin S1024x384.rank, (![0, 0] : Fin S1024x384.rank → ℕ) a + (S512x384.size : Fin S1024x384.rank → ℕ) a ≤ S1024x384.size a) :
    m.view.readAt Val (Rect.unit (s := S1024x384) ![0, 0] S512x384.size inb).toLoadRect (h.unread (mk X)) = mk fun (i : Fin 512) j => X (lo i) j := by
  rw [View.readAt_unit m.view _ inb rfl inb, h.read_unread]
  refine mk_of fun i j => ?_
  show X _ _ = X _ _
  congr 1 <;> refine Fin.ext ?_
  · show 0 + 1 * i.val = i.val; omega
  · show 0 + 1 * j.val = j.val; omega
/-- A load of the last rows of a block of 384 columns. -/
theorem rows_hi {m : Memref sig κ sp S1024x384 e} (h : m.IsWhole) (X : Fin 1024 → Fin 384 → Val e)
    (inb : ∀ a : Fin S1024x384.rank, (![512, 0] : Fin S1024x384.rank → ℕ) a + (S512x384.size : Fin S1024x384.rank → ℕ) a ≤ S1024x384.size a) :
    m.view.readAt Val (Rect.unit (s := S1024x384) ![512, 0] S512x384.size inb).toLoadRect (h.unread (mk X)) = mk fun (i : Fin 512) j => X (hi i) j := by
  rw [View.readAt_unit m.view _ inb rfl inb, h.read_unread]
  refine mk_of fun i j => ?_
  show X _ _ = X _ _
  congr 1 <;> refine Fin.ext ?_
  · show 512 + 1 * i.val = 512 + i.val; omega
  · show 0 + 1 * j.val = j.val; omega
/-- A load of the first rows of a block of one column. -/
theorem col_lo {m : Memref sig κ sp S1024x1 e} (h : m.IsWhole) (X : Fin 1024 → Fin 1 → Val e)
    (inb : ∀ a : Fin S1024x1.rank, (![0, 0] : Fin S1024x1.rank → ℕ) a + (S512x1.size : Fin S1024x1.rank → ℕ) a ≤ S1024x1.size a) :
    m.view.readAt Val (Rect.unit (s := S1024x1) ![0, 0] S512x1.size inb).toLoadRect (h.unread (mk X)) = mk fun (i : Fin 512) j => X (lo i) j := by
  rw [View.readAt_unit m.view _ inb rfl inb, h.read_unread]
  refine mk_of fun i j => ?_
  show X _ _ = X _ _
  congr 1 <;> refine Fin.ext ?_
  · show 0 + 1 * i.val = i.val; omega
  · show 0 + 1 * j.val = j.val; omega
/-- A load of the last rows of a block of one column. -/
theorem col_hi {m : Memref sig κ sp S1024x1 e} (h : m.IsWhole) (X : Fin 1024 → Fin 1 → Val e)
    (inb : ∀ a : Fin S1024x1.rank, (![512, 0] : Fin S1024x1.rank → ℕ) a + (S512x1.size : Fin S1024x1.rank → ℕ) a ≤ S1024x1.size a) :
    m.view.readAt Val (Rect.unit (s := S1024x1) ![512, 0] S512x1.size inb).toLoadRect (h.unread (mk X)) = mk fun (i : Fin 512) j => X (hi i) j := by
  rw [View.readAt_unit m.view _ inb rfl inb, h.read_unread]
  refine mk_of fun i j => ?_
  show X _ _ = X _ _
  congr 1 <;> refine Fin.ext ?_
  · show 512 + 1 * i.val = 512 + i.val; omega
  · show 0 + 1 * j.val = j.val; omega

/-- Two stores of half blocks leave the whole block. -/
theorem halves (v : View sig κ sp S1024x1 e) (f₀ : v.ty.Contents Val) (f : Fin 1024 → Fin 1 → Val e)
    (inb : ∀ a : Fin S1024x1.rank, (![512, 0] : Fin S1024x1.rank → ℕ) a + (S512x1.size : Fin S1024x1.rank → ℕ) a ≤ S1024x1.size a)
    (inb' : ∀ a : Fin S1024x1.rank, (![0, 0] : Fin S1024x1.rank → ℕ) a + (S512x1.size : Fin S1024x1.rank → ℕ) a ≤ S1024x1.size a)
    (p q : S512x1.Idx → Val e) (hp : p = mk fun i j => f (hi i) j) (hq : q = mk fun i j => f (lo i) j) :
    v.read Val (v.writes Val f₀ [⟨Rect.unit (s := S1024x1) ![512, 0] S512x1.size inb, p⟩, ⟨Rect.unit (s := S1024x1) ![0, 0] S512x1.size inb', q⟩]) = mk f := by
  subst hp hq
  refine mk_of fun i j => ?_
  by_cases h : 512 ≤ i.val
  · refine (View.read_writes_cons_rows_of_mem v f₀ (o := 512) inb _ _ (ix2 i j) (ix2 (⟨i.val - 512, by omega⟩ : Fin 512) j) rfl ?_ rfl).trans ?_
    · show i.val = 512 + (i.val - 512); omega
    · show f _ _ = f _ _
      congr 1
      exact Fin.ext (by show 512 + (i.val - 512) = i.val; omega)
  · refine (View.read_writes_cons_rows_of_not_mem v f₀ (o := 512) (W := 512) inb _ _ (ix2 i j) rfl rfl (Or.inl (by show i.val < 512; omega))).trans ?_
    refine (View.read_writes_cons_rows_of_mem v f₀ (o := 0) inb' _ _ (ix2 i j) (ix2 (⟨i.val, by omega⟩ : Fin 512) j) rfl ?_ rfl).trans ?_
    · show i.val = 0 + i.val; omega
    · rfl
end

/-- The mixture row of one input row. -/
def rowOf (gw : Fin 8 → Fin 384 → ℝ) (gb : Fin 8 → ℝ) (uw : Fin 512 → Fin 384 → ℝ) (ub : Fin 512 → ℝ) (ve : Fin 1024 → Fin 512 → ℝ)
    (x : Fin 384 → ℝ) : Fin 1024 → ℝ := mixRow (fun r => logit x gw gb r) (unit (lin x uw ub)) ve

end Cert.Reads

end
-- ==== Proof.Out.lean ====
/- What each kind of grid point leaves in its outputs and scratch, when all it reads is real numbers. -/
module

public import proofs.«01_k».proof.Proof.Pieces
public import proofs.«01_k».proof.Proof.Reads

@[expose] public section

set_option maxRecDepth 16384

noncomputable section

namespace Cert.Out

open Idealize.ShloMosaic Idealize.SL.Sem Cert.KernelIdeal Cert.KernelIdeal.Gen Cert.Half Cert.Lens Cert.Row Cert.Reads Cert.Pieces

variable (emb : Fin 1024 → Fin 384 → ℝ) (vw : Fin 512 → Fin 384 → ℝ) (vb : Fin 512 → ℝ) (X : Fin 1024 → Fin 384 → ℝ) (gw : Fin 8 → Fin 384 → ℝ) (gb : Fin 8 → ℝ)
  (uw : Fin 512 → Fin 384 → ℝ) (ub : Fin 512 → ℝ) (U : Fin 1024 → ℝ) (V : Fin 1024 → Fin 512 → ℝ) (p q : Fin 8 → ℝ)

/-- The first accumulator after both halves. -/
theorem acc1_two : acc1 (F := Ideal) (rv gw) (rv fun i j => X (hi i) j) (rv fun _ r => gb r) (acc1 (rv gw) (rv fun i j => X (lo i) j) (rv fun _ r => gb r) k0_pay24)
    = rv fun _ r => ∑ i, soft (fun r => logit (X i) gw gb r) r := by
  rw [z24]
  refine (congrArg (acc1 _ _ _) (acc1_rv gw gb (fun i j => X (lo i) j) fun _ => 0)).trans ((acc1_rv gw gb (fun i j => X (hi i) j) _).trans ?_)
  refine rv_inj fun _ r => ?_
  rw [zero_add, sum_halves]
/-- The second accumulator after both halves. -/
theorem acc2_two : acc2 (F := Ideal) (rv gw) (rv fun i j => X (hi i) j) (rv fun _ r => gb r) (acc2 (rv gw) (rv fun i j => X (lo i) j) (rv fun _ r => gb r) k0_pay25)
    = rv fun _ r => ∑ i, hot (fun r => logit (X i) gw gb r) r := by
  rw [z25]
  refine (congrArg (acc2 _ _ _) (acc2_rv gw gb (fun i j => X (lo i) j) fun _ => 0)).trans ((acc2_rv gw gb (fun i j => X (hi i) j) _).trans ?_)
  refine rv_inj fun _ r => ?_
  rw [zero_add, sum_halves]
/-- The selections of a half. -/
theorem sel_half (f : Fin 512 → Fin 1024) : selOf (F := Ideal) (mixOf (rv gw) (rv fun i j => X (f i) j) (rv fun _ r => gb r) (rv uw) (rv fun _ _ => 0) (rv fun _ c => ub c) (rv fun c e => V e c) (rv fun _ _ => 0)) (rv fun i _ => U (f i))
    = nv fun i _ => kSel (rowOf gw gb uw ub V (X (f i))) (U (f i)) :=
  (congrArg (fun z => selOf z _) (mixOf_rv gw gb (fun i j => X (f i) j) uw ub V)).trans (selOf_rv _ _)
/-- The logarithms of a half. -/
theorem log_half (f : Fin 512 → Fin 1024) : logOf (F := Ideal) (mixOf (rv gw) (rv fun i j => X (f i) j) (rv fun _ r => gb r) (rv uw) (rv fun _ _ => 0) (rv fun _ c => ub c) (rv fun c e => V e c) (rv fun _ _ => 0)) (rv fun i _ => U (f i))
    = mk fun i _ => Ideal.log ((kVal (rowOf gw gb uw ub V (X (f i))) (U (f i)) : ℝ) : EReal) :=
  (congrArg (fun z => logOf z _) (mixOf_rv gw gb (fun i j => X (f i) j) uw ub V)).trans (logOf_rv _ _)
theorem x_lo {κ : Kind} {sp : Space} {m : Memref sig κ sp S1024x384 .f32} (h : m.IsWhole) (inb) :
    m.view.readAt (Elt Ideal) (Rect.unit (s := S1024x384) ![0, 0] S512x384.size inb).toLoadRect (h.unread (Val := Elt Ideal) (rv X)) = rv fun (i : Fin 512) j => X (lo i) j := rows_lo h _ _
theorem x_hi {κ : Kind} {sp : Space} {m : Memref sig κ sp S1024x384 .f32} (h : m.IsWhole) (inb) :
    m.view.readAt (Elt Ideal) (Rect.unit (s := S1024x384) ![512, 0] S512x384.size inb).toLoadRect (h.unread (Val := Elt Ideal) (rv X)) = rv fun (i : Fin 512) j => X (hi i) j := rows_hi h _ _
theorem u_lo {κ : Kind} {sp : Space} {m : Memref sig κ sp S1024x1 .f32} (h : m.IsWhole) (inb) :
    m.view.readAt (Elt Ideal) (Rect.unit (s := S1024x1) ![0, 0] S512x1.size inb).toLoadRect (h.unread (Val := Elt Ideal) (rv fun i _ => U i)) = rv fun (i : Fin 512) _ => U (lo i) := col_lo h _ _
theorem u_hi {κ : Kind} {sp : Space} {m : Memref sig κ sp S1024x1 .f32} (h : m.IsWhole) (inb) :
    m.view.readAt (Elt Ideal) (Rect.unit (s := S1024x1) ![512, 0] S512x1.size inb).toLoadRect (h.unread (Val := Elt Ideal) (rv fun i _ => U i)) = rv fun (i : Fin 512) _ => U (hi i) := col_hi h _ _
/-- The candidates' projections as stored: the main part. -/
theorem vh_eq : k0_pay8 (k0_pay5 (F := Ideal) k0_pay7 (rv vw) (rv emb) (rv fun c _ => vb c)) = rv fun c e => Pay.ve emb vw vb e c := by
  rw [s8, Pay.pay7, Pay.pay4]
/-- The candidates' projections as stored: the rest. -/
theorem vl_eq : k0_pay9 (k0_pay4 (F := Ideal) k0_pay7 (rv vw) (rv emb) (rv fun c _ => vb c)) (k0_pay6 k0_pay7 (rv vw) (rv emb) (rv fun c _ => vb c)) = rv fun _ _ => 0 := by
  refine s9 _ _ _ _ (fun c e => Pay.ve emb vw vb e c) ?_
  rw [Pay.pay7, Pay.pay4]

section
variable (c : Dev nD) (i : grid0.Coords) (arg1 : Memref sig .tc .vmem S1024x384 .f32) (harg1 : arg1.IsWhole) (arg2 : Memref sig .tc .vmem S512x384 .f32) (harg2 : arg2.IsWhole) (arg3 : Memref sig .tc .vmem S512x1 .f32) (harg3 : arg3.IsWhole) (arg4 : Memref sig .tc .vmem S1024x384 .f32) (harg4 : arg4.IsWhole) (arg5 : Memref sig .tc .vmem S8x384 .f32) (harg5 : arg5.IsWhole) (arg6 : Memref sig .tc .vmem S1x8 .f32) (harg6 : arg6.IsWhole) (arg7 : Memref sig .tc .vmem S512x384 .f32) (harg7 : arg7.IsWhole) (arg8 : Memref sig .tc .vmem S1x512 .f32) (harg8 : arg8.IsWhole) (arg9 : Memref sig .tc .vmem S1024x1 .f32) (harg9 : arg9.IsWhole) (arg10 : Memref sig .tc .vmem S1024x1 .i32) (harg10 : arg10.IsWhole) (arg11 : Memref sig .tc .vmem S1024x1 .f32) (harg11 : arg11.IsWhole) (arg12 : Memref sig .tc .vmem S1x1 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x384 .bf16) (harg15 : arg15.IsWhole) (arg16 : Memref sig .tc .vmem S512x384 .bf16) (harg16 : arg16.IsWhole) (arg17 : Memref sig .tc .vmem S1x8 .f32) (harg17 : arg17.IsWhole) (arg18 : Memref sig .tc .vmem S1x8 .f32) (harg18 : arg18.IsWhole) (hc0 : cond0_0 i) (hc1 : ¬cond0_1 i)

/-- The selections left. -/
theorem oA9 : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = nv fun i _ => kSel (rowOf gw gb uw ub (Pay.ve emb vw vb) (X i)) (U i) := by
  unfold out0_A_9
  rw [pA9]
  rw [full harg5, full harg6, x_lo _ harg4, x_hi _ harg4, full harg8, u_lo _ harg9, u_hi _ harg9, full harg1, full harg2, full harg3, full harg7, View.readCov_full, View.readCov_full, View.readCov_full, View.readCov_full, vh_eq, vl_eq, s12, s13]
  exact halves _ _ _ _ _ _ _ (sel_half X gw gb uw ub U (Pay.ve emb vw vb) hi) (sel_half X gw gb uw ub U (Pay.ve emb vw vb) lo)

/-- The logarithms left. -/
theorem oA10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = mk fun i _ => Ideal.log ((kVal (rowOf gw gb uw ub (Pay.ve emb vw vb) (X i)) (U i) : ℝ) : EReal) := by
  unfold out0_A_10
  rw [pA10]
  rw [full harg5, full harg6, x_lo _ harg4, x_hi _ harg4, full harg8, u_lo _ harg9, u_hi _ harg9, full harg1, full harg2, full harg3, full harg7, View.readCov_full, View.readCov_full, View.readCov_full, View.readCov_full, vh_eq, vl_eq, s12, s13]
  exact halves _ _ _ _ _ _ _ (log_half X gw gb uw ub U (Pay.ve emb vw vb) hi) (log_half X gw gb uw ub U (Pay.ve emb vw vb) lo)

/-- The accumulator left. -/
theorem sA4 : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = rv fun _ r => ∑ i, soft (fun r => logit (X i) gw gb r) r := by
  unfold sout0_A_4
  rw [pAs4]
  refine (View.read_writes_full _ _ _ _ _).trans ?_
  rw [full harg5, full harg6, x_lo _ harg4, x_hi _ harg4, View.readCov_full]
  rw [acc1_two, z14]
  refine (s1 (fun r => ∑ i, soft (fun r => logit (X i) gw gb r) r) (fun _ => 0)).trans ?_
  exact rv_inj fun _ _ => zero_add _

/-- The accumulator left. -/
theorem sA5 : sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = rv fun _ r => ∑ i, hot (fun r => logit (X i) gw gb r) r := by
  unfold sout0_A_5
  rw [pAs5]
  refine (View.read_writes_full _ _ _ _ _).trans ?_
  rw [full harg5, full harg6, x_lo _ harg4, x_hi _ harg4, View.readCov_full]
  rw [acc2_two, z15]
  refine (s2 (fun r => ∑ i, hot (fun r => logit (X i) gw gb r) r) (fun _ => 0)).trans ?_
  exact rv_inj fun _ _ => zero_add _

/-- The scratch left. -/
theorem sA0 : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = rv fun c e => Pay.ve emb vw vb e c := by
  unfold sout0_A_0
  rw [pAs0]
  refine (View.read_writes_full _ _ _ _ _).trans ?_
  rw [full harg1, full harg2, full harg3]
  exact vh_eq _ _ _

/-- The scratch left. -/
theorem sA1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = rv fun _ _ => 0 := by
  unfold sout0_A_1
  rw [pAs1]
  refine (View.read_writes_full _ _ _ _ _).trans ?_
  rw [full harg1, full harg2, full harg3]
  exact vl_eq _ _ _

/-- The scratch left. -/
theorem sA2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = rv uw := by
  unfold sout0_A_2
  rw [pAs2]
  refine (View.read_writes_full _ _ _ _ _).trans ?_
  rw [full harg7]
  exact s12 _

/-- The scratch left. -/
theorem sA3 : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (rv emb) (rv vw) (rv fun c _ => vb c) (rv X) (rv gw) (rv fun _ r => gb r) (rv uw) (rv fun _ c => ub c) (rv fun i _ => U i) = rv fun _ _ => 0 := by
  unfold sout0_A_3
  rw [pAs3]
  refine (View.read_writes_full _ _ _ _ _).trans ?_
  rw [full harg7]
  exact s13 _

end

section
variable (c : Dev nD) (i : grid0.Coords) (arg1 : Memref sig .tc .vmem S1024x384 .f32) (harg1 : arg1.IsWhole) (arg2 : Memref sig .tc .vmem S512x384 .f32) (harg2 : arg2.IsWhole) (arg3 : Memref sig .tc .vmem S512x1 .f32) (harg3 : arg3.IsWhole) (arg4 : Memref sig .tc .vmem S1024x384 .f32) (harg4 : arg4.IsWhole) (arg5 : Memref sig .tc .vmem S8x384 .f32) (harg5 : arg5.IsWhole) (arg6 : Memref sig .tc .vmem S1x8 .f32) (harg6 : arg6.IsWhole) (arg7 : Memref sig .tc .vmem S512x384 .f32) (harg7 : arg7.IsWhole) (arg8 : Memref sig .tc .vmem S1x512 .f32) (harg8 : arg8.IsWhole) (arg9 : Memref sig .tc .vmem S1024x1 .f32) (harg9 : arg9.IsWhole) (arg10 : Memref sig .tc .vmem S1024x1 .i32) (harg10 : arg10.IsWhole) (arg11 : Memref sig .tc .vmem S1024x1 .f32) (harg11 : arg11.IsWhole) (arg12 : Memref sig .tc .vmem S1x1 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x384 .bf16) (harg15 : arg15.IsWhole) (arg16 : Memref sig .tc .vmem S512x384 .bf16) (harg16 : arg16.IsWhole) (arg17 : Memref sig .tc .vmem S1x8 .f32) (harg17 : arg17.IsWhole) (arg18 : Memref sig .tc .vmem S1x8 .f32) (harg18 : arg18.IsWhole) (hc0 : ¬cond0_0 i) (hc1 : ¬cond0_1 i)
  (x0 : Vec Ideal S1024x384 .f32) (x1 : Vec Ideal S512x384 .f32) (x2 : Vec Ideal S512x1 .f32) (x6 : Vec Ideal S512x384 .f32)

/-- The selections left. -/
theorem oB9 : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = nv fun i _ => kSel (rowOf gw gb uw ub V (X i)) (U i) := by
  unfold out0_B_9
  rw [pB9]
  rw [full harg5, full harg6, x_lo _ harg4, x_hi _ harg4, full harg8, u_lo _ harg9, u_hi _ harg9, full harg13, full harg14, full harg15, full harg16]
  exact halves _ _ _ _ _ _ _ (sel_half X gw gb uw ub U V hi) (sel_half X gw gb uw ub U V lo)

/-- The logarithms left. -/
theorem oB10 : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = mk fun i _ => Ideal.log ((kVal (rowOf gw gb uw ub V (X i)) (U i) : ℝ) : EReal) := by
  unfold out0_B_10
  rw [pB10]
  rw [full harg5, full harg6, x_lo _ harg4, x_hi _ harg4, full harg8, u_lo _ harg9, u_hi _ harg9, full harg13, full harg14, full harg15, full harg16]
  exact halves _ _ _ _ _ _ _ (log_half X gw gb uw ub U V hi) (log_half X gw gb uw ub U V lo)

/-- The accumulator left. -/
theorem sB4 : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = rv fun _ r => p r + ∑ i, soft (fun r => logit (X i) gw gb r) r := by
  unfold sout0_B_4
  rw [pBs4]
  refine (View.read_writes_full _ _ _ _ _).trans ?_
  rw [full harg5, full harg6, x_lo _ harg4, x_hi _ harg4, full harg17]
  rw [acc1_two]
  refine (s1 (fun r => ∑ i, soft (fun r => logit (X i) gw gb r) r) p).trans ?_
  rfl

/-- The accumulator left. -/
theorem sB5 : sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = rv fun _ r => q r + ∑ i, hot (fun r => logit (X i) gw gb r) r := by
  unfold sout0_B_5
  rw [pBs5]
  refine (View.read_writes_full _ _ _ _ _).trans ?_
  rw [full harg5, full harg6, x_lo _ harg4, x_hi _ harg4, full harg18]
  rw [acc2_two]
  refine (s2 (fun r => ∑ i, hot (fun r => logit (X i) gw gb r) r) q).trans ?_
  rfl

end

section
variable (c : Dev nD) (i : grid0.Coords) (arg1 : Memref sig .tc .vmem S1024x384 .f32) (harg1 : arg1.IsWhole) (arg2 : Memref sig .tc .vmem S512x384 .f32) (harg2 : arg2.IsWhole) (arg3 : Memref sig .tc .vmem S512x1 .f32) (harg3 : arg3.IsWhole) (arg4 : Memref sig .tc .vmem S1024x384 .f32) (harg4 : arg4.IsWhole) (arg5 : Memref sig .tc .vmem S8x384 .f32) (harg5 : arg5.IsWhole) (arg6 : Memref sig .tc .vmem S1x8 .f32) (harg6 : arg6.IsWhole) (arg7 : Memref sig .tc .vmem S512x384 .f32) (harg7 : arg7.IsWhole) (arg8 : Memref sig .tc .vmem S1x512 .f32) (harg8 : arg8.IsWhole) (arg9 : Memref sig .tc .vmem S1024x1 .f32) (harg9 : arg9.IsWhole) (arg10 : Memref sig .tc .vmem S1024x1 .i32) (harg10 : arg10.IsWhole) (arg11 : Memref sig .tc .vmem S1024x1 .f32) (harg11 : arg11.IsWhole) (arg12 : Memref sig .tc .vmem S1x1 .f32) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x384 .bf16) (harg15 : arg15.IsWhole) (arg16 : Memref sig .tc .vmem S512x384 .bf16) (harg16 : arg16.IsWhole) (arg17 : Memref sig .tc .vmem S1x8 .f32) (harg17 : arg17.IsWhole) (arg18 : Memref sig .tc .vmem S1x8 .f32) (harg18 : arg18.IsWhole) (hc0 : ¬cond0_0 i) (hc1 : cond0_1 i)
  (x0 : Vec Ideal S1024x384 .f32) (x1 : Vec Ideal S512x384 .f32) (x2 : Vec Ideal S512x1 .f32) (x6 : Vec Ideal S512x384 .f32)

/-- The selections left. -/
theorem oC9 : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = nv fun i _ => kSel (rowOf gw gb uw ub V (X i)) (U i) := by
  unfold out0_C_9
  rw [pC9]
  rw [full harg5, full harg6, x_lo _ harg4, x_hi _ harg4, full harg8, u_lo _ harg9, u_hi _ harg9, full harg13, full harg14, full harg15, full harg16]
  exact halves _ _ _ _ _ _ _ (sel_half X gw gb uw ub U V hi) (sel_half X gw gb uw ub U V lo)

/-- The logarithms left. -/
theorem oC10 : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = mk fun i _ => Ideal.log ((kVal (rowOf gw gb uw ub V (X i)) (U i) : ℝ) : EReal) := by
  unfold out0_C_10
  rw [pC10]
  rw [full harg5, full harg6, x_lo _ harg4, x_hi _ harg4, full harg8, u_lo _ harg9, u_hi _ harg9, full harg13, full harg14, full harg15, full harg16]
  exact halves _ _ _ _ _ _ _ (log_half X gw gb uw ub U V hi) (log_half X gw gb uw ub U V lo)

/-- The accumulator left. -/
theorem sC4 : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = rv fun _ r => p r + ∑ i, soft (fun r => logit (X i) gw gb r) r := by
  unfold sout0_C_4
  rw [pCs4]
  refine (View.read_writes_full _ _ _ _ _).trans ?_
  rw [full harg5, full harg6, x_lo _ harg4, x_hi _ harg4, full harg17]
  rw [acc1_two]
  refine (s1 (fun r => ∑ i, soft (fun r => logit (X i) gw gb r) r) p).trans ?_
  rfl

/-- The accumulator left. -/
theorem sC5 : sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = rv fun _ r => q r + ∑ i, hot (fun r => logit (X i) gw gb r) r := by
  unfold sout0_C_5
  rw [pCs5]
  refine (View.read_writes_full _ _ _ _ _).trans ?_
  rw [full harg5, full harg6, x_lo _ harg4, x_hi _ harg4, full harg18]
  rw [acc2_two]
  refine (s2 (fun r => ∑ i, hot (fun r => logit (X i) gw gb r) r) q).trans ?_
  rfl

/-- The loss left. -/
theorem oC11 : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 (rv X) (rv gw) (rv fun _ r => gb r) x6 (rv fun _ c => ub c) (rv fun i _ => U i) (rv fun c e => V e c) (rv fun _ _ => 0) (rv uw) (rv fun _ _ => 0) (rv fun _ r => p r) (rv fun _ r => q r) = rv fun _ _ => 8 * (∑ r, (p r + ∑ i, soft (fun r => logit (X i) gw gb r) r) / 4096 * ((q r + ∑ i, hot (fun r => logit (X i) gw gb r) r) / 4096)) * Cert.Consts.wgt := by
  unfold out0_C_11
  rw [pC11]
  refine (View.read_writes_full _ _ _ _ _).trans ?_
  rw [View.readCov_full, View.readCov_full, full harg5, full harg6, x_lo _ harg4, x_hi _ harg4, full harg17, full harg18]
  rw [acc1_two, acc2_two]
  exact (congrArg₂ k0_pay3 (s1 _ p) (s2 _ q)).trans (s3 _ _)

end

end Cert.Out

end
-- ==== Proof.Fold.lean ====
/- What the grid points leave behind, one after another. -/
module

public import proofs.«01_k».proof.Proof.Blocks
public import proofs.«01_k».proof.Proof.Out

@[expose] public section

set_option maxRecDepth 16384

noncomputable section

namespace Cert.Fold

open Idealize.ShloMosaic Idealize.ShloMosaic.TcCoe Idealize.SL.Sem Cert.KernelIdeal Cert.KernelIdeal.Gen Cert.Lens Cert.Row Cert.Reads Cert.Blocks Cert.Out

variable {m : (ℓ : Loc nD τ sig) → Buf (Elt Ideal) ℓ} {c : Dev nD}
variable {X : Fin 4096 → Fin 384 → ℝ} {emb : Fin 1024 → Fin 384 → ℝ} {gw : Fin 8 → Fin 384 → ℝ} {gb : Fin 8 → ℝ}
  {uw3 vw3 : Fin 8 → Fin 64 → Fin 384 → ℝ} {ub2 vb2 : Fin 8 → Fin 64 → ℝ}

/-- The arguments the launch finds, as real numbers. -/
structure Args (m : (ℓ : Loc nD τ sig) → Buf (Elt Ideal) ℓ) (c : Dev nD) (X : Fin 4096 → Fin 384 → ℝ) (emb : Fin 1024 → Fin 384 → ℝ) (gw : Fin 8 → Fin 384 → ℝ) (gb : Fin 8 → ℝ)
    (uw3 vw3 : Fin 8 → Fin 64 → Fin 384 → ℝ) (ub2 vb2 : Fin 8 → Fin 64 → ℝ) : Prop where
  a0 : m ((c : Thread nD τ).loc main_arg0) = rv X
  a1 : m ((c : Thread nD τ).loc main_arg1) = rv emb
  a2 : m ((c : Thread nD τ).loc main_arg2) = rv gw
  a3 : m ((c : Thread nD τ).loc main_arg3) = rv1 gb
  a4 : m ((c : Thread nD τ).loc main_arg4) = rv3 uw3
  a5 : m ((c : Thread nD τ).loc main_arg5) = rv ub2
  a6 : m ((c : Thread nD τ).loc main_arg6) = rv3 vw3
  a7 : m ((c : Thread nD τ).loc main_arg7) = rv vb2

/-- A three-axis weight with its first two axes as one. -/
def flatW (w : Fin 8 → Fin 64 → Fin 384 → ℝ) : Fin 512 → Fin 384 → ℝ := fun j d => w (gq j) (gm j) d
/-- A two-axis bias with its axes as one. -/
def flatB (b : Fin 8 → Fin 64 → ℝ) : Fin 512 → ℝ := fun j => b (gq j) (gm j)
/-- The candidates' projections. -/
def cand (emb : Fin 1024 → Fin 384 → ℝ) (vw3 : Fin 8 → Fin 64 → Fin 384 → ℝ) (vb2 : Fin 8 → Fin 64 → ℝ) : Fin 1024 → Fin 512 → ℝ := Pay.ve emb (flatW vw3) (flatB vb2)
/-- The weights of the candidates for a row. -/
def mass (X : Fin 4096 → Fin 384 → ℝ) (emb : Fin 1024 → Fin 384 → ℝ) (gw : Fin 8 → Fin 384 → ℝ) (gb : Fin 8 → ℝ)
    (uw3 vw3 : Fin 8 → Fin 64 → Fin 384 → ℝ) (ub2 vb2 : Fin 8 → Fin 64 → ℝ) (i : Fin 4096) : Fin 1024 → ℝ :=
  rowOf gw gb (flatW uw3) (flatB ub2) (cand emb vw3 vb2) (X i)
/-- A row's gate. -/
def gate (X : Fin 4096 → Fin 384 → ℝ) (gw : Fin 8 → Fin 384 → ℝ) (gb : Fin 8 → ℝ) (i : Fin 4096) : Fin 8 → ℝ := fun r => logit (X i) gw gb r

/-- The sum over a block's rows. -/
def part (f : Fin 4096 → ℝ) (t : Fin cfg0.N) : ℝ := ∑ i : Fin 1024, f (at_ t i)
/-- The sum over the rows of the blocks up to a point. -/
def acc (f : Fin 4096 → ℝ) : (n : ℕ) → n < cfg0.N → ℝ
  | 0, h => part f ⟨0, h⟩
  | n + 1, h => acc f n (Nat.lt_of_succ_lt h) + part f ⟨n + 1, h⟩

/-- What a point leaves for the next. -/
structure Left (m : (ℓ : Loc nD τ sig) → Buf (Elt Ideal) ℓ) (c : Dev nD) (n : ℕ) (h : n < cfg0.N) (V : Fin 1024 → Fin 512 → ℝ) (uw : Fin 512 → Fin 384 → ℝ) (p q : Fin 8 → ℝ) : Prop where
  s0 : (outsAt0 m c n h).2.2.2.1 = rv fun c e => V e c
  s1 : (outsAt0 m c n h).2.2.2.2.1 = rv fun _ _ => 0
  s2 : (outsAt0 m c n h).2.2.2.2.2.1 = rv uw
  s3 : (outsAt0 m c n h).2.2.2.2.2.2.1 = rv fun _ _ => 0
  s4 : (outsAt0 m c n h).2.2.2.2.2.2.2.1 = rv fun _ r => p r
  s5 : (outsAt0 m c n h).2.2.2.2.2.2.2.2 = rv fun _ r => q r

/-- What a point writes of the first two results. -/
structure Wrote (m : (ℓ : Loc nD τ sig) → Buf (Elt Ideal) ℓ) (c : Dev nD) (t : Fin cfg0.N) (M : Fin 4096 → Fin 1024 → ℝ) : Prop where
  o9 : (outsAt0 m c t.val t.isLt).1 = nv fun i _ => kSel (M (at_ t i)) (Table.U (at_ t i))
  o10 : (outsAt0 m c t.val t.isLt).2.1 = mk fun i _ => Ideal.log ((kVal (M (at_ t i)) (Table.U (at_ t i)) : ℝ) : EReal)

variable (H : Args m c X emb gw gb uw3 vw3 ub2 vb2)
include H

theorem first_left (t : Fin cfg0.N) (h0 : t.val % 4 = 0) (h1 : ¬t.val % 4 = 3) :
    Left m c t.val t.isLt (cand emb vw3 vb2) (flatW uw3) (fun r => part (fun i => soft (gate X gw gb i) r) t) (fun r => part (fun i => hot (gate X gw gb i) r) t) := by
  have e := outsAt0_A m c t h0 h1
  rw [blk0 t H.a1, blk1 t H.a6, blk2 t H.a7, blk3 t H.a0, blk4 t H.a2, blk5 t H.a3, blk6 t H.a4, blk7 t H.a5, blk8 t] at e
  constructor <;> rw [e]
  · dsimp only; exact sA0 ..
  · dsimp only; exact sA1 ..
  · dsimp only; exact sA2 ..
  · dsimp only; exact sA3 ..
  · dsimp only; exact sA4 ..
  · dsimp only; exact sA5 ..

theorem first_wrote (t : Fin cfg0.N) (h0 : t.val % 4 = 0) (h1 : ¬t.val % 4 = 3) : Wrote m c t (mass X emb gw gb uw3 vw3 ub2 vb2) := by
  have e := outsAt0_A m c t h0 h1
  rw [blk0 t H.a1, blk1 t H.a6, blk2 t H.a7, blk3 t H.a0, blk4 t H.a2, blk5 t H.a3, blk6 t H.a4, blk7 t H.a5, blk8 t] at e
  constructor <;> rw [e]
  · dsimp only; exact oA9 ..
  · dsimp only; exact oA10 ..

theorem left_B (t : Fin cfg0.N) (h0 : ¬t.val % 4 = 0) (h1 : ¬t.val % 4 = 3) {V : Fin 1024 → Fin 512 → ℝ} {uw : Fin 512 → Fin 384 → ℝ} {p q : Fin 8 → ℝ}
    (L : Left m c (t.val - 1) (Nat.lt_of_le_of_lt (Nat.sub_le _ _) t.isLt) V uw p q) :
    Left m c t.val t.isLt V uw (fun r => p r + part (fun i => soft (gate X gw gb i) r) t) (fun r => q r + part (fun i => hot (gate X gw gb i) r) t) := by
  have e := outsAt0_B m c t h0 h1
  rw [blk3 t H.a0, blk4 t H.a2, blk5 t H.a3, blk7 t H.a5, blk8 t, L.s0, L.s1, L.s2, L.s3, L.s4, L.s5] at e
  constructor <;> rw [e]
  · rfl
  · rfl
  · rfl
  · rfl
  · dsimp only; exact sB4 ..
  · dsimp only; exact sB5 ..

theorem wrote_B (t : Fin cfg0.N) (h0 : ¬t.val % 4 = 0) (h1 : ¬t.val % 4 = 3) {V : Fin 1024 → Fin 512 → ℝ} {uw : Fin 512 → Fin 384 → ℝ} {p q : Fin 8 → ℝ}
    (L : Left m c (t.val - 1) (Nat.lt_of_le_of_lt (Nat.sub_le _ _) t.isLt) V uw p q) :
    Wrote m c t (fun i => rowOf gw gb uw (flatB ub2) V (X i)) := by
  have e := outsAt0_B m c t h0 h1
  rw [blk3 t H.a0, blk4 t H.a2, blk5 t H.a3, blk7 t H.a5, blk8 t, L.s0, L.s1, L.s2, L.s3, L.s4, L.s5] at e
  constructor <;> rw [e]
  · dsimp only; exact oB9 ..
  · dsimp only; exact oB10 ..

theorem left_C (t : Fin cfg0.N) (h0 : ¬t.val % 4 = 0) (h1 : t.val % 4 = 3) {V : Fin 1024 → Fin 512 → ℝ} {uw : Fin 512 → Fin 384 → ℝ} {p q : Fin 8 → ℝ}
    (L : Left m c (t.val - 1) (Nat.lt_of_le_of_lt (Nat.sub_le _ _) t.isLt) V uw p q) :
    Left m c t.val t.isLt V uw (fun r => p r + part (fun i => soft (gate X gw gb i) r) t) (fun r => q r + part (fun i => hot (gate X gw gb i) r) t) := by
  have e := outsAt0_C m c t h0 h1
  rw [blk3 t H.a0, blk4 t H.a2, blk5 t H.a3, blk7 t H.a5, blk8 t, L.s0, L.s1, L.s2, L.s3, L.s4, L.s5] at e
  constructor <;> rw [e]
  · rfl
  · rfl
  · rfl
  · rfl
  · dsimp only; exact sC4 ..
  · dsimp only; exact sC5 ..

theorem wrote_C (t : Fin cfg0.N) (h0 : ¬t.val % 4 = 0) (h1 : t.val % 4 = 3) {V : Fin 1024 → Fin 512 → ℝ} {uw : Fin 512 → Fin 384 → ℝ} {p q : Fin 8 → ℝ}
    (L : Left m c (t.val - 1) (Nat.lt_of_le_of_lt (Nat.sub_le _ _) t.isLt) V uw p q) :
    Wrote m c t (fun i => rowOf gw gb uw (flatB ub2) V (X i)) := by
  have e := outsAt0_C m c t h0 h1
  rw [blk3 t H.a0, blk4 t H.a2, blk5 t H.a3, blk7 t H.a5, blk8 t, L.s0, L.s1, L.s2, L.s3, L.s4, L.s5] at e
  constructor <;> rw [e]
  · dsimp only; exact oC9 ..
  · dsimp only; exact oC10 ..

theorem wrote_aux (t : Fin cfg0.N) (h0 : ¬t.val % 4 = 0) (h1 : t.val % 4 = 3) {V : Fin 1024 → Fin 512 → ℝ} {uw : Fin 512 → Fin 384 → ℝ} {p q : Fin 8 → ℝ}
    (L : Left m c (t.val - 1) (Nat.lt_of_le_of_lt (Nat.sub_le _ _) t.isLt) V uw p q) :
    (outsAt0 m c t.val t.isLt).2.2.1 = rv fun _ _ => 8 * (∑ r, (p r + part (fun i => soft (gate X gw gb i) r) t) / 4096 * ((q r + part (fun i => hot (gate X gw gb i) r) t) / 4096)) * Cert.Consts.wgt := by
  have e := outsAt0_C m c t h0 h1
  rw [blk3 t H.a0, blk4 t H.a2, blk5 t H.a3, blk7 t H.a5, blk8 t, L.s0, L.s1, L.s2, L.s3, L.s4, L.s5] at e
  rw [e]
  dsimp only; exact oC11 ..

/-- What every point leaves for the next. -/
theorem left_all : ∀ (n : ℕ) (h : n < cfg0.N), Left m c n h (cand emb vw3 vb2) (flatW uw3) (fun r => acc (fun i => soft (gate X gw gb i) r) n h) (fun r => acc (fun i => hot (gate X gw gb i) r) n h)
  | 0, h => first_left H ⟨0, h⟩ (Nat.zero_mod _) (by show ¬0 % 4 = 3; omega)
  | n + 1, h => by
    have hN : n + 1 < 4 := lt_of_lt_of_eq h (show cfg0.N = 4 from N_0)
    have I := left_all n (Nat.lt_of_succ_lt h)
    by_cases h3 : n + 1 = 3
    · exact left_C H ⟨n + 1, h⟩ (by show ¬(n + 1) % 4 = 0; omega) (by show (n + 1) % 4 = 3; omega) I
    · exact left_B H ⟨n + 1, h⟩ (by show ¬(n + 1) % 4 = 0; omega) (by show ¬(n + 1) % 4 = 3; omega) I

/-- What every point writes of the first two results. -/
theorem wrote_all (t : Fin cfg0.N) : Wrote m c t (mass X emb gw gb uw3 vw3 ub2 vb2) := by
  have hN := n4 t
  by_cases h0 : t.val % 4 = 0
  · exact first_wrote H t h0 (by omega)
  · have I := left_all H (t.val - 1) (Nat.lt_of_le_of_lt (Nat.sub_le _ _) t.isLt)
    by_cases h3 : t.val % 4 = 3
    · exact wrote_C H t h0 h3 I
    · exact wrote_B H t h0 h3 I

omit H in
/-- All blocks together are all rows. -/
theorem acc_all (f : Fin 4096 → ℝ) (h : 2 < cfg0.N) (h' : 3 < cfg0.N) : acc f 2 h + part f ⟨3, h'⟩ = ∑ i, f i := by
  have e : ∑ i, f i = ((∑ i : Fin 1024, f ⟨i.val, by omega⟩ + ∑ i : Fin 1024, f ⟨1024 + i.val, by omega⟩) + ∑ i : Fin 1024, f ⟨2048 + i.val, by omega⟩) + ∑ i : Fin 1024, f ⟨3072 + i.val, by omega⟩ := by
    rw [Fin.sum_univ_add (a := 3072) (b := 1024) f, Fin.sum_univ_add (a := 2048) (b := 1024), Fin.sum_univ_add (a := 1024) (b := 1024)]
    rfl
  rw [e]
  show ((part f ⟨0, _⟩ + part f ⟨1, _⟩) + part f ⟨2, _⟩) + part f ⟨3, _⟩ = _
  refine congrArg₂ (· + ·) (congrArg₂ (· + ·) (congrArg₂ (· + ·) ?_ ?_) ?_) ?_ <;>
    refine Finset.sum_congr rfl fun i _ => congrArg f (Fin.ext ?_)
  · show 1024 * 0 + i.val = i.val; omega
  · show 1024 * 1 + i.val = 1024 + i.val; omega
  · show 1024 * 2 + i.val = 2048 + i.val; omega
  · show 1024 * 3 + i.val = 3072 + i.val; omega

/-- The third result. -/
theorem aux_eq : Value.G11 m c = rv fun _ _ => 8 * (∑ r, (∑ i, soft (gate X gw gb i) r) / 4096 * ((∑ i, hot (gate X gw gb i) r) / 4096)) * Cert.Consts.wgt := by
  have h3 : 3 < cfg0.N := lt_of_lt_of_eq (by decide) N_0.symm
  have h2 : 2 < cfg0.N := lt_of_lt_of_eq (by decide) N_0.symm
  rw [Value.G11_last, ← Value.outsAt0_sweep m c 3 h3]
  refine (wrote_aux H ⟨3, h3⟩ (by show ¬3 % 4 = 0; omega) (by show 3 % 4 = 3; omega) (left_all H 2 h2)).trans ?_
  refine rv_inj fun _ _ => ?_
  simp only [acc_all]

omit H in
/-- Where the first result's rows come from. -/
theorem read9 (t : Fin cfg0.N) (j : Fin 1024) : Value.G9 m c (ix2 (at_ t j) 0) = (outsAt0 m c t.val t.isLt).1 (ix2 j 0) := by
  have hp : Value.pt9Of (ix2 (at_ t j) 0 : S4096x1.Idx) = t.val := by
    show 1 * ((1024 * t.val + j.val) / 1024 - 0) + 1 * (0 / 1 - 0) = _
    omega
  have hl : Value.loc9Of (ix2 (at_ t j) 0 : S4096x1.Idx) = (ix2 j 0 : S1024x1.Idx) := by
    funext a; apply Fin.ext
    match a with
    | ⟨0, _⟩ => show (1024 * t.val + j.val) % 1024 = j.val; omega
    | ⟨1, _⟩ => rfl
  unfold Value.G9
  rw [dif_pos (hp ▸ t.isLt), hl, Value.outsAt0_sweep]
  exact congrFun (congrArg (fun z => z.1) (Value.fold0_congr m c _ _ _ _ hp)) _

omit H in
/-- Where the second result's rows come from. -/
theorem read10 (t : Fin cfg0.N) (j : Fin 1024) : Value.G10 m c (ix2 (at_ t j) 0) = (outsAt0 m c t.val t.isLt).2.1 (ix2 j 0) := by
  have hp : Value.pt10Of (ix2 (at_ t j) 0 : S4096x1.Idx) = t.val := by
    show 1 * ((1024 * t.val + j.val) / 1024 - 0) + 1 * (0 / 1 - 0) = _
    omega
  have hl : Value.loc10Of (ix2 (at_ t j) 0 : S4096x1.Idx) = (ix2 j 0 : S1024x1.Idx) := by
    funext a; apply Fin.ext
    match a with
    | ⟨0, _⟩ => show (1024 * t.val + j.val) % 1024 = j.val; omega
    | ⟨1, _⟩ => rfl
  unfold Value.G10
  rw [dif_pos (hp ▸ t.isLt), hl, Value.outsAt0_sweep]
  exact congrFun (congrArg (fun z => z.2.1) (Value.fold0_congr m c _ _ _ _ hp)) _

omit H in
theorem at_split (i : Fin 4096) : ∃ (t : Fin cfg0.N) (j : Fin 1024), i = Blocks.at_ t j :=
  ⟨⟨i.val / 1024, lt_of_lt_of_eq (by omega) N_0.symm⟩, ⟨i.val % 1024, by omega⟩, Fin.ext (by show i.val = 1024 * (i.val / 1024) + i.val % 1024; omega)⟩

omit H in
theorem col_idx (i : S4096x1.Idx) : ∃ r : Fin 4096, i = ix2 r 0 := ⟨i 0, (eq_ix2 i).trans (congrArg (ix2 (i 0)) (Subsingleton.elim _ _))⟩

theorem mass_nonneg (i : Fin 4096) (e : Fin 1024) : 0 ≤ mass X emb gw gb uw3 vw3 ub2 vb2 i e := mixRow_nonneg ..

/-- The first result. -/
theorem sel_eq : Value.G9 m c = nv fun i _ => (sel (mass X emb gw gb uw3 vw3 ub2 vb2 i) (Table.U i)).val := by
  funext i
  obtain ⟨r, rfl⟩ := col_idx i
  obtain ⟨t, j, rfl⟩ := at_split r
  rw [read9, (wrote_all H t).o9]
  exact congrArg (BitVec.ofNat 32) (kernel_picks _ (mass_nonneg H _) _).1

/-- The second result. -/
theorem log_eq : Value.G10 m c = mk fun i _ => Ideal.log ((mass X emb gw gb uw3 vw3 ub2 vb2 i (sel (mass X emb gw gb uw3 vw3 ub2 vb2 i) (Table.U i)) : ℝ) : EReal) := by
  funext i
  obtain ⟨r, rfl⟩ := col_idx i
  obtain ⟨t, j, rfl⟩ := at_split r
  rw [read10, (wrote_all H t).o10]
  exact congrArg (fun z : ℝ => Ideal.log ((z : ℝ) : EReal)) (kernel_picks _ (mass_nonneg H _) _).2

end Cert.Fold

end
-- ==== Proof.Link.lean ====
/- The kernel's way of computing a row's weights is the reference's. -/
module

public import proofs.«01_k».proof.Proof.RefVal
public import proofs.«01_k».proof.Proof.RefTop
public import proofs.«01_k».proof.Proof.Fold

@[expose] public section

set_option maxRecDepth 16384

noncomputable section

namespace Cert.Link

open Cert.Lens Cert.Pick Cert.Row Cert.RefVal Cert.RefTop Cert.Fold

theorem soft_sm (l : Fin 8 → ℝ) (r : Fin 8) : sm l r = soft l r := (shift l _ r).symm

theorem hot_sum (l : Fin 8 → ℝ) (r : Fin 8) : ∑ k : Fin 2, ind ((tk l k).val = r.val) (1 : ℝ) 0 = hot l r := by
  rw [Fin.sum_univ_two]
  unfold hot
  exact congrArg₂ (· + ·) (ind_congr eq_comm _ _) (ind_congr eq_comm _ _)

/-- The gates of the two chosen experts. -/
theorem gates (l : Fin 8 → ℝ) : sm (fun k : Fin 2 => l (tk l k)) 0 = gate0 l ∧ sm (fun k : Fin 2 => l (tk l k)) 1 = gate1 l := by
  have h0 : tk l 0 = t1 l := rfl
  have h1 : tk l 1 = t2 l := rfl
  have e : e21 l = Real.exp (l (t2 l)) / Real.exp (l (t1 l)) := Real.exp_sub _ _
  have p1 := Real.exp_pos (l (t1 l))
  have p2 := Real.exp_pos (l (t2 l))
  unfold gate1 gate0 sm
  rw [Fin.sum_univ_two]
  dsimp only
  rw [h0, h1, e]
  constructor <;> field_simp

/-- A column of 512 by its group and its place there. -/
def col (r : Fin 8) (h : Fin 64) : Fin 512 := ⟨64 * r.val + h.val, by have := r.isLt; have := h.isLt; omega⟩
theorem col_div (r : Fin 8) (h : Fin 64) : (col r h).val / 64 = r.val := by
  show (64 * r.val + h.val) / 64 = r.val
  have := h.isLt
  omega
theorem gq_col (r : Fin 8) (h : Fin 64) : gq (col r h) = r := Fin.ext (col_div r h)
theorem gm_col (r : Fin 8) (h : Fin 64) : gm (col r h) = h := Fin.ext (by
  show (64 * r.val + h.val) % 64 = h.val
  have := h.isLt
  omega)
theorem sum_cols (F : Fin 512 → ℝ) : ∑ c, F c = ∑ r : Fin 8, ∑ h : Fin 64, F (col r h) := by
  rw [← Fintype.sum_prod_type' (f := fun r h => F (col r h))]
  refine (Fintype.sum_equiv (finProdFinEquiv (m := 8) (n := 64)) _ _ fun x => ?_).symm
  congr 1
  apply Fin.ext
  show 64 * x.1.val + x.2.val = x.2.val + 64 * x.1.val
  omega
/-- A sum over the columns of one group. -/
theorem sum_group (F : Fin 512 → ℝ) (r : Fin 8) : ∑ c, ind (c.val / 64 = r.val) (F c) 0 = ∑ h, F (col r h) := by
  rw [sum_cols]
  simp only [col_div]
  rw [← sum_ind_eq (fun r => ∑ h, F (col r h)) r]
  exact Finset.sum_congr rfl fun r' _ => sum_ind_const _ _

/-- A group of a row divided by its norm. -/
theorem unit_col (v : Fin 512 → ℝ) (r : Fin 8) (h : Fin 64) : unit v (col r h) = nrm (fun h => v (col r h)) h := by
  have h1 : ∑ r', Row.inv v r' * G (col r h) r' = Row.inv v r := by
    rw [← sum_ind_eq (fun r' => Row.inv v r') r]
    refine Finset.sum_congr rfl fun r' _ => ?_
    unfold G
    rw [mul_ind, col_div]
    exact ind_congr eq_comm _ _
  have h2 : ∑ c', v c' * v c' * G c' r = ∑ k, v (col r k) * v (col r k) := by
    rw [← sum_group fun c => v c * v c]
    exact Finset.sum_congr rfl fun c _ => mul_ind _ _
  unfold unit nrm
  rw [h1]
  unfold Row.inv
  rw [h2, mul_one_div]

theorem lin_col (x : Fin 384 → ℝ) (w : Fin 8 → Fin 64 → Fin 384 → ℝ) (b : Fin 8 → Fin 64 → ℝ) (r : Fin 8) (h : Fin 64) :
    lin x (flatW w) (flatB b) (col r h) = (∑ d, x d * w r h d) + b r h := by
  unfold lin flatW flatB
  rw [gq_col, gm_col]

/-- The score of a candidate under an expert. -/
theorem score_col (uh : Fin 512 → ℝ) (ve : Fin 1024 → Fin 512 → ℝ) (r : Fin 8) (e : Fin 1024) :
    score uh r.val ve e = ∑ h, ve e (col r h) * uh (col r h) := by
  unfold score
  rw [← sum_group fun c => ve e c * uh c]
  refine Finset.sum_congr rfl fun c _ => ?_
  by_cases h : c.val / 64 = r.val
  · rw [ind_pos h, ind_pos h, mul_comm]
  · rw [ind_neg h, ind_neg h, zero_mul]

variable (X : Fin 4096 → Fin 384 → ℝ) (emb : Fin 1024 → Fin 384 → ℝ) (gw : Fin 8 → Fin 384 → ℝ) (gb : Fin 8 → ℝ)
  (uw vw : Fin 8 → Fin 64 → Fin 384 → ℝ) (ub vb : Fin 8 → Fin 64 → ℝ)

/-- The reference's score of a candidate for a row under an expert. -/
def rscore (i : Fin 4096) (r : Fin 8) (e : Fin 1024) : ℝ :=
  ∑ h, nrm (fun h => (∑ d, vw r h d * emb e d) + vb r h) h * nrm (fun h => (∑ d, X i d * uw r h d) + ub r h) h

theorem rscore_eq (i : Fin 4096) (r : Fin 8) (e : Fin 1024) :
    rscore X emb uw vw ub vb i r e = score (unit (lin (X i) (flatW uw) (flatB ub))) r.val (cand emb vw vb) e := by
  rw [score_col]
  unfold rscore
  refine Finset.sum_congr rfl fun h _ => ?_
  have h1 : cand emb vw vb e (col r h) = nrm (fun h => (∑ d, vw r h d * emb e d) + vb r h) h := by
    show unit (lin (emb e) (flatW vw) (flatB vb)) (col r h) = _
    rw [unit_col]
    congr 1
    funext h
    rw [lin_col]
    congr 1
    exact Finset.sum_congr rfl fun d _ => mul_comm _ _
  have h2 : unit (lin (X i) (flatW uw) (flatB ub)) (col r h) = nrm (fun h => (∑ d, X i d * uw r h d) + ub r h) h := by
    rw [unit_col]
    congr 1
    funext h
    rw [lin_col]
  rw [h1, h2]

/-- The reference's weights of a row are the kernel's. -/
theorem weights (i : Fin 4096) (e : Fin 1024) :
    sm (rscore X emb uw vw ub vb i (tk (gate X gw gb i) 0)) e * sm (fun k : Fin 2 => gate X gw gb i (tk (gate X gw gb i) k)) 0
      + sm (rscore X emb uw vw ub vb i (tk (gate X gw gb i) 1)) e * sm (fun k : Fin 2 => gate X gw gb i (tk (gate X gw gb i) k)) 1
      = mass X emb gw gb uw vw ub vb i e := by
  rw [(gates _).1, (gates _).2]
  have hs : ∀ r, rscore X emb uw vw ub vb i r = score (unit (lin (X i) (flatW uw) (flatB ub))) r.val (cand emb vw vb) := fun r => funext fun e => rscore_eq ..
  rw [hs, hs]
  show _ = mix _ _ _ _ e
  unfold mix sm
  show Real.exp _ / _ * _ + Real.exp _ / _ * _ = gate0 _ / _ * Real.exp _ + gate1 _ / _ * Real.exp _
  rw [div_mul_eq_mul_div, div_mul_eq_mul_div, div_mul_eq_mul_div, div_mul_eq_mul_div, mul_comm (gate0 _), mul_comm (gate1 _)]
  rfl

end Cert.Link

end
-- ==== Proof.RefAll.lean ====
/- The reference's three results, when its arguments are real numbers. -/
module

public import proofs.«01_k».proof.Proof.RefRun
public import proofs.«01_k».proof.Proof.RefIdx
public import proofs.«01_k».proof.Proof.RefCum
public import proofs.«01_k».proof.Proof.RefSel
public import proofs.«01_k».proof.Proof.Link

@[expose] public section

set_option maxRecDepth 16384

noncomputable section

namespace Cert.RefAll

open Cert.ReferenceIdeal Cert.ReferenceIdeal.Gen Idealize.ShloMosaic Idealize.ShloMosaic.TcCoe Idealize.SL.Sem Cert.Lens Cert.Ref Cert.Pick Cert.Row Cert.Fold Cert.RefTop

variable {m : (ℓ : Loc nD τ sig) → Buf (Elt Ideal) ℓ} {c : Dev nD}
variable {X : Fin 4096 → Fin 384 → ℝ} {emb : Fin 1024 → Fin 384 → ℝ} {gw : Fin 8 → Fin 384 → ℝ} {gb : Fin 8 → ℝ}
  {uw vw : Fin 8 → Fin 64 → Fin 384 → ℝ} {ub vb : Fin 8 → Fin 64 → ℝ}

/-- The arguments the reference finds, as real numbers. -/
structure Given (m : (ℓ : Loc nD τ sig) → Buf (Elt Ideal) ℓ) (c : Dev nD) (X : Fin 4096 → Fin 384 → ℝ) (emb : Fin 1024 → Fin 384 → ℝ) (gw : Fin 8 → Fin 384 → ℝ) (gb : Fin 8 → ℝ)
    (uw vw : Fin 8 → Fin 64 → Fin 384 → ℝ) (ub vb : Fin 8 → Fin 64 → ℝ) : Prop where
  a0 : m ((c.tc : Thread nD τ).loc main_arg0) = rv X
  a1 : m ((c.tc : Thread nD τ).loc main_arg1) = rv emb
  a2 : m ((c.tc : Thread nD τ).loc main_arg2) = rv gw
  a3 : m ((c.tc : Thread nD τ).loc main_arg3) = rv1 gb
  a4 : m ((c.tc : Thread nD τ).loc main_arg4) = rv3 uw
  a5 : m ((c.tc : Thread nD τ).loc main_arg5) = rv ub
  a6 : m ((c.tc : Thread nD τ).loc main_arg6) = rv3 vw
  a7 : m ((c.tc : Thread nD τ).loc main_arg7) = rv vb

variable (H : Given m c X emb gw gb uw vw ub vb)
include H

theorem gate_eq : rLogits (F := Ideal) (m ((c.tc : Thread nD τ).loc main_arg0)) (m ((c.tc : Thread nD τ).loc main_arg2)) (m ((c.tc : Thread nD τ).loc main_arg3)) = rv fun i r => gate X gw gb i r := by
  rw [H.a0, H.a2, H.a3]
  exact RefVal.logits X gw gb

/-- The reference's mixture is the rows' weights. -/
theorem rea_eq : rea m c = rv fun i e => mass X emb gw gb uw vw ub vb i e := by
  unfold rea
  rw [gate_eq H, H.a0, H.a1, H.a4, H.a5, H.a6, H.a7]
  rw [show rVe (F := Ideal) (rv emb) (rv3 vw) (rv vb) = _ from RefVal.cands emb vw vb, show rUx (F := Ideal) (rv X) (rv3 uw) (rv ub) = _ from RefVal.rows X uw ub, RefVal.scores,
    RefVal.softmaxE, idxs, vals, RefVal.softmax2, RefIdx.taken, RefVal.mixture]
  exact rv_inj fun i e => Link.weights X emb gw gb uw vw ub vb i e

theorem draw_eq : rSel (F := Ideal) (rCum (rea m c)) = mk1 fun i => BitVec.ofNat 32 (sel (mass X emb gw gb uw vw ub vb i) (Table.U i)).val := by
  rw [rea_eq H, RefCum.running]
  exact RefSel.drawn _

/-- The first result: the positions drawn. -/
theorem sel_eq : resSel m c = nv fun i _ => (sel (mass X emb gw gb uw vw ub vb i) (Table.U i)).val := by
  unfold resSel
  rw [draw_eq H]
  exact bid_0 _ _

/-- The second result: the logarithms of the weights drawn. -/
theorem log_eq : resLog m c = mk fun i _ => Ideal.log ((mass X emb gw gb uw vw ub vb i (sel (mass X emb gw gb uw vw ub vb i) (Table.U i)) : ℝ) : EReal) := by
  unfold resLog
  rw [draw_eq H, rea_eq H]
  exact RefIdx.logs _ _

/-- The third result: the balance loss. -/
theorem aux_eq : resAux m c = rv fun _ _ => 8 * (∑ r, (∑ i, soft (gate X gw gb i) r) / 4096 * ((∑ i, hot (gate X gw gb i) r) / 4096)) * Consts.wgt := by
  unfold resAux
  rw [gate_eq H, RefVal.softmax8, idxs, RefIdx.choices]
  rw [show (rv fun i r => RefVal.sm (fun r => gate X gw gb i r) r) = rv fun i r => soft (gate X gw gb i) r from rv_inj fun i r => Link.soft_sm _ _,
    show (rv fun (i : Fin 4096) (r : Fin 8) => ∑ k : Fin 2, ind ((tk (fun r => gate X gw gb i r) k).val = r.val) (1 : ℝ) 0) = rv fun i r => hot (gate X gw gb i) r from rv_inj fun i r => Link.hot_sum _ _]
  exact RefVal.balance _ _

end Cert.RefAll

end
-- ==== Proof.Same.lean ====
/- The kernel and the reference end with the same three results. -/
module

public import proofs.«01_k».proof.Defs
public import proofs.«01_k».proof.Proof.Finite
public import proofs.«01_k».proof.Proof.RefAll
public import proofs.«01_k».proof.Proof.Gen.KernelIdeal.Value

@[expose] public section

set_option maxRecDepth 16384

noncomputable section

namespace Cert.Same

open Idealize.ShloMosaic Idealize.SL.Sem Cert.Lens

/-- Under the precondition every argument of the kernel holds real numbers. -/
theorem args (m : (ℓ : Loc Cert.KernelIdeal.nD Cert.KernelIdeal.τ Cert.KernelIdeal.sig) → Buf (Elt Ideal) ℓ) (h : Cert.Pre_KernelIdeal_finite (hPre_finite := Cert.Finite.facts) m)
    (c : Dev Cert.KernelIdeal.nD) : ∃ X emb gw gb uw vw ub vb, Cert.Fold.Args m c X emb gw gb uw vw ub vb := by
  obtain ⟨h0, h1, h2, h3, h4, h5, h6, h7⟩ := h c
  obtain ⟨X, e0⟩ := Cert.Finite.two_axes _ _ h0
  obtain ⟨emb, e1⟩ := Cert.Finite.two_axes _ _ h1
  obtain ⟨gw, e2⟩ := Cert.Finite.two_axes _ _ h2
  obtain ⟨gb, e3⟩ := Cert.Finite.one_axis _ _ h3
  obtain ⟨uw, e4⟩ := Cert.Finite.three_axes _ _ h4
  obtain ⟨ub, e5⟩ := Cert.Finite.two_axes _ _ h5
  obtain ⟨vw, e6⟩ := Cert.Finite.three_axes _ _ h6
  obtain ⟨vb, e7⟩ := Cert.Finite.two_axes _ _ h7
  exact ⟨X, emb, gw, gb, uw, vw, ub, vb, ⟨e0, e1, e2, e3, e4, e5, e6, e7⟩⟩

/-- From arguments that agree and are finite, the kernel and the reference end with equal results. -/
theorem algebraic : Cert.algebraic_KernelIdeal_ReferenceIdeal_pre_finite (hKernelIdeal := Cert.KernelIdeal.Gen.facts) (hReferenceIdeal := Cert.ReferenceIdeal.Gen.facts) (hPre_finite := Cert.Finite.facts) := by
  intro m g m' g' hpre hagree
  refine ⟨fun c => Cert.KernelIdeal.Value.G9 m c, fun c => Cert.KernelIdeal.Value.G10 m c, fun c => Cert.KernelIdeal.Value.G11 m c, Cert.KernelIdeal.Value.run m g, ?_⟩
  refine (θ_run Cert.ReferenceIdeal.defs _ _).mono (fun r h c => ?_) (Cert.Ref.run (F := Ideal) m' g')
  obtain ⟨X, emb, gw, gb, uw, vw, ub, vb, H⟩ := args m hpre c
  obtain ⟨g0, g1, g2, g3, g4, g5, g6, g7⟩ := hagree c
  have H' : Cert.RefAll.Given m' c X emb gw gb uw vw ub vb :=
    ⟨g0.trans H.a0, g1.trans H.a1, g2.trans H.a2, g3.trans H.a3, g4.trans H.a4, g5.trans H.a5, g6.trans H.a6, g7.trans H.a7⟩
  obtain ⟨r0, r1, r2, keep⟩ := h c
  exact ⟨r0.trans ((Cert.RefAll.sel_eq H').trans (Cert.Fold.sel_eq H).symm), r1.trans ((Cert.RefAll.log_eq H').trans (Cert.Fold.log_eq H).symm),
    r2.trans ((Cert.RefAll.aux_eq H').trans (Cert.Fold.aux_eq H).symm), keep⟩

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Finite
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference runs from any memory, keeps its arguments and leaves every counter at zero: it declares no semaphore. -/
theorem frame_ref : Cert.quiescent_ReferenceIdeal (hReferenceIdeal := Cert.ReferenceIdeal.Gen.facts) := by
  intro m ρ _
  exact (θ_run Cert.ReferenceIdeal.defs _ _).mono (fun r h => ⟨fun c => (h c).2.2.2,
      Idealize.ShloMosaic.sem_eq_zero_of_no_sems (by decide) r.2⟩)
    (Cert.Ref.run (F := Ideal) m ρ)

/-- Every claim of the certificate: the frames, the idealization, and the equality of the three results. -/
theorem claim : Cert.Claim := ⟨Cert.Kernel.Gen.facts, Cert.KernelIdeal.Gen.facts, Cert.ReferenceIdeal.Gen.facts, Cert.Finite.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  trivial,
  Cert.Same.algebraic⟩

end Cert.Proof

end
